-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1)
      ∧ r.2.mem ((c.tc : Thread Cert.InBRefIdeal.nD Cert.InBRefIdeal.τ).loc Cert.InBRefIdeal.main_arg2) = m ((c.tc : Thread Cert.InBRefIdeal.nD Cert.InBRefIdeal.τ).loc Cert.InBRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1)
      ∧ r.2.mem ((c.tc : Thread Cert.InARefIdeal.nD Cert.InARefIdeal.τ).loc Cert.InARefIdeal.main_arg2) = m ((c.tc : Thread Cert.InARefIdeal.nD Cert.InARefIdeal.τ).loc Cert.InARefIdeal.main_arg2))
      ∧ r.2.sem = fun _ => 0)

def preserves_Kernel_KernelIdeal : Prop :=
  IdealRules.named_const.Statement Cert.KernelIdeal.κ "root_d" .f32 0x413504F3#32 ((134217728 / 11863283 : ℝ) : EReal)
  ∧ IdealRules.named_const.Statement Cert.KernelIdeal.κ "mask" .f32 0xF149F2CA#32 ⊥
  ∧ IdealRules.named_const.Statement Cert.KernelIdeal.κ "log2_scale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)
      ∧ m' ((c.tc : Thread Cert.InBRefIdeal.nD Cert.InBRefIdeal.τ).loc Cert.InBRefIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v4)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v4) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v16) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1)
          ∧ r.2.mem ((c.tc : Thread Cert.InBRefIdeal.nD Cert.InBRefIdeal.τ).loc Cert.InBRefIdeal.main_arg2) = m' ((c.tc : Thread Cert.InBRefIdeal.nD Cert.InBRefIdeal.τ).loc Cert.InBRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)
      ∧ m' ((c.tc : Thread Cert.InARefIdeal.nD Cert.InARefIdeal.τ).loc Cert.InARefIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v23)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v23) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v129) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1)
          ∧ r.2.mem ((c.tc : Thread Cert.InARefIdeal.nD Cert.InARefIdeal.τ).loc Cert.InARefIdeal.main_arg2) = m' ((c.tc : Thread Cert.InARefIdeal.nD Cert.InARefIdeal.τ).loc Cert.InARefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hInB : Cert.InB.Facts) (hInBIdeal : Cert.InBIdeal.Facts) (hInBRefIdeal : Cert.InBRefIdeal.Facts) (hOut : Cert.Out.Facts) (hOutIdeal : Cert.OutIdeal.Facts) (hOutRefIdeal : Cert.OutRefIdeal.Facts) (hInA : Cert.InA.Facts) (hInAIdeal : Cert.InAIdeal.Facts) (hInARefIdeal : Cert.InARefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_InB (hInB := hInB)
    ∧ quiescent_InBIdeal (hInBIdeal := hInBIdeal)
    ∧ quiescent_InBRefIdeal (hInBRefIdeal := hInBRefIdeal)
    ∧ quiescent_Out (hOut := hOut)
    ∧ quiescent_OutIdeal (hOutIdeal := hOutIdeal)
    ∧ quiescent_OutRefIdeal (hOutRefIdeal := hOutRefIdeal)
    ∧ quiescent_InA (hInA := hInA)
    ∧ quiescent_InAIdeal (hInAIdeal := hInAIdeal)
    ∧ quiescent_InARefIdeal (hInARefIdeal := hInARefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_InB_InBIdeal
    ∧ algebraic_InBIdeal_InBRefIdeal (hInBIdeal := hInBIdeal) (hInBRefIdeal := hInBRefIdeal)
    ∧ preserves_Out_OutIdeal
    ∧ algebraic_OutIdeal_OutRefIdeal (hOutIdeal := hOutIdeal) (hOutRefIdeal := hOutRefIdeal)
    ∧ preserves_InA_InAIdeal
    ∧ algebraic_InAIdeal_InARefIdeal (hInAIdeal := hInAIdeal) (hInARefIdeal := hInARefIdeal)
-- ==== Pre_finite.lean ====
abbrev S8x2048x12288 : Shape := ⟨3, ![8, 2048, 12288]⟩
abbrev S32x513 : Shape := ⟨2, ![32, 513]⟩
abbrev S_ : Shape := ⟨0, ![]⟩

class Facts : Prop where
  bcast_S_S8x2048x12288 : S_.BroadcastsInDim S8x2048x12288 (![] : Fin 0 → Fin S8x2048x12288.rank)
  bcast_S_S32x513 : S_.BroadcastsInDim S32x513 (![] : Fin 0 → Fin S32x513.rank)

variable [Facts]

def fn {F : FTy → Type} [FloatOps F] (main_arg0 : FVec F S8x2048x12288 .bf16) (main_arg1 : FVec F S32x513 .f32) : IVec S8x2048x12288 1 × IVec S32x513 1 :=
  let main_v0 : FVec F S8x2048x12288 .bf16 := Host.absf main_arg0
  let main_cst : FVec F S_ .bf16 := constant S_ .bf16 0x7F80#16
  let main_v1 : FVec F S8x2048x12288 .bf16 := broadcastInDim S8x2048x12288 ![] bcast_S_S8x2048x12288 main_cst
  let main_v2 : IVec S8x2048x12288 1 := cmpf .olt main_v0 main_v1
  let main_v3 : FVec F S32x513 .f32 := Host.absf main_arg1
  let main_cst_0 : FVec F S_ .f32 := constant S_ .f32 0x7F800000#32
  let main_v4 : FVec F S32x513 .f32 := broadcastInDim S32x513 ![] bcast_S_S32x513 main_cst_0
  let main_v5 : IVec S32x513 1 := cmpf .olt main_v3 main_v4
  (main_v2, main_v5)
-- ==== Kernel.lean ====
abbrev S8x2048x12288 : Shape := ⟨3, ![8, 2048, 12288]⟩
abbrev S32x513 : Shape := ⟨2, ![32, 513]⟩
abbrev S1024 : Shape := ⟨1, ![1024]⟩
abbrev S_ : Shape := ⟨0, ![]⟩
abbrev S1024x1 : Shape := ⟨2, ![1024, 1]⟩
abbrev S32x1024 : Shape := ⟨2, ![32, 1024]⟩
abbrev S32x1x1024 : Shape := ⟨3, ![32, 1, 1024]⟩
abbrev S8x2048x4096 : Shape := ⟨3, ![8, 2048, 4096]⟩
abbrev S1x2048x1024 : Shape := ⟨3, ![1, 2048, 1024]⟩
abbrev S8x1x1024 : Shape := ⟨3, ![8, 1, 1024]⟩
abbrev S8x256x768 : Shape := ⟨3, ![8, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S512x256 : Shape := ⟨2, ![512, 256]⟩
abbrev S1x768x128 : Shape := ⟨3, ![1, 768, 128]⟩
abbrev S768x128 : Shape := ⟨2, ![768, 128]⟩
abbrev S768x256 : Shape := ⟨2, ![768, 256]⟩

abbrev nBuf : Space → Nat
  | .hbm => 28
  | .vmem => 11
  | .smem => 0
  | _ => 0

abbrev bufTy : (tb : Table) → Fin (tcTables nBuf tb) → BufTy
  | .hbm, ⟨0, _⟩ => ⟨S8x2048x12288, .bf16⟩
  | .hbm, ⟨1, _⟩ => ⟨S32x513, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S32x1024, .f32⟩
  | .hbm, ⟨26, _⟩ => ⟨S32x1x1024, .f32⟩
  | .hbm, ⟨27, _⟩ => ⟨S8x2048x4096, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S8x1x1024, .f32⟩
  | .local _ .vmem, ⟨7, _⟩ => ⟨S8x1x1024, .f32⟩
  | .local _ .vmem, ⟨8, _⟩ => ⟨S1x2048x1024, .bf16⟩
  | .local _ .vmem, ⟨9, _⟩ => ⟨S1x2048x1024, .bf16⟩
  | .local _ .vmem, ⟨10, _⟩ => ⟨S8x256x768, .f32⟩
  | _, _ => ⟨S8x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2_scale" => some (((11863283 / 134217728) * (Real.log 2)⁻¹ : ℝ) : EReal)
  | "mask" => some ⊥
  | "root_d" => some ((134217728 / 11863283 : ℝ) : EReal)
  | _ => none
-- ==== ReferenceIdeal.lean ====
abbrev S8x2048x12288 : Shape := ⟨3, ![8, 2048, 12288]⟩
abbrev S32x513 : Shape := ⟨2, ![32, 513]⟩
abbrev S8x2048x4096 : Shape := ⟨3, ![8, 2048, 4096]⟩
abbrev S8x2048x32x128 : Shape := ⟨4, ![8, 2048, 32, 128]⟩
abbrev S_ : Shape := ⟨0, ![]⟩
abbrev S8x2560x32x128 : Shape := ⟨4, ![8, 2560, 32, 128]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S32x64x576 : Shape := ⟨3, ![32, 64, 576]⟩
abbrev S32 : Shape := ⟨1, ![32]⟩
abbrev S32x1 : Shape := ⟨2, ![32, 1]⟩
abbrev S32x4 : Shape := ⟨2, ![32, 4]⟩
abbrev S32x8x64x32x128 : Shape := ⟨5, ![32, 8, 64, 32, 128]⟩
abbrev S32x8x576x32x128 : Shape := ⟨5, ![32, 8, 576, 32, 128]⟩
abbrev S32x576 : Shape := ⟨2, ![32, 576]⟩
abbrev S32x8x32x64x576 : Shape := ⟨5, ![32, 8, 32, 64, 576]⟩
abbrev S32x1x1x1x576 : Shape := ⟨5, ![32, 1, 1, 1, 576]⟩
abbrev S1x32x64x576 : Shape := ⟨4, ![1, 32, 64, 576]⟩
abbrev S1x1x32x64x576 : Shape := ⟨5, ![1, 1, 32, 64, 576]⟩
abbrev S8x32x64x576 : Shape := ⟨4, ![8, 32, 64, 576]⟩
abbrev S32x8x32x64 : Shape := ⟨4, ![32, 8, 32, 64]⟩
abbrev S32x8x32x64x1 : Shape := ⟨5, ![32, 8, 32, 64, 1]⟩
abbrev S32x8x32x128x64 : Shape := ⟨5, ![32, 8, 32, 128, 64]⟩
abbrev S32x8x64x4096 : Shape := ⟨4, ![32, 8, 64, 4096]⟩
abbrev S8x32x64x4096 : Shape := ⟨4, ![8, 32, 64, 4096]⟩

abbrev nBuf : Space → Nat
  | .hbm => 152
  | .vmem => 0
  | .smem => 0
  | _ => 0

abbrev hbmTy0_0 (i : Nat) : BufTy := match i % 128 with
  | 0 => ⟨S8x2048x12288, .bf16⟩
  | 1 => ⟨S32x513, .f32⟩
  | 2 => ⟨S8x2048x12288, .f32⟩
  | 3 => ⟨S8x2048x4096, .f32⟩
  | 4 => ⟨S8x2048x4096, .f32⟩
  | 5 => ⟨S8x2048x4096, .f32⟩
  | 6 => ⟨S8x2048x32x128, .f32⟩
  | 7 => ⟨S8x2048x32x128, .f32⟩
  | 8 => ⟨S8x2048x32x128, .f32⟩
  | 9 => ⟨S_, .i32⟩
  | 10 => ⟨S_, .f32⟩
  | 11 => ⟨S8x2560x32x128, .f32⟩
  | 12 => ⟨S_, .i32⟩
  | 13 => ⟨S_, .f32⟩
  | 14 => ⟨S8x2560x32x128, .f32⟩
  | 15 => ⟨S64, .i32⟩
  | 16 => ⟨S576, .i32⟩
  | 17 => ⟨S64x1, .i32⟩
  | 18 => ⟨S_, .i32⟩
  | 19 => ⟨S64x1, .i32⟩
  | 20 => ⟨S64x1, .i32⟩
  | 21 => ⟨S1x576, .i32⟩
  | 22 => ⟨S64x576, .i32⟩
  | 23 => ⟨S64x576, .i32⟩
  | 24 => ⟨S64x576, .i32⟩
  | 25 => ⟨S_, .i32⟩
  | 26 => ⟨S_, .i32⟩
  | 27 => ⟨S_, .i32⟩
  | 28 => ⟨S64x576, .i32⟩
  | 29 => ⟨S64x576, .i32⟩
  | 30 => ⟨S_, .i32⟩
  | 31 => ⟨S64x576, .i32⟩
  | 32 => ⟨S64x576, .i32⟩
  | 33 => ⟨S_, .i32⟩
  | 34 => ⟨S64x576, .i32⟩
  | 35 => ⟨S64x576, .i32⟩
  | 36 => ⟨S_, .i32⟩
  | 37 => ⟨S64x576, .i32⟩
  | 38 => ⟨S64x576, .i1⟩
  | 39 => ⟨S_, .i32⟩
  | 40 => ⟨S64x576, .i32⟩
  | 41 => ⟨S64x576, .i32⟩
  | 42 => ⟨S64x576, .i32⟩
  | 43 => ⟨S64x576x1, .i32⟩
  | 44 => ⟨S32x64x576, .f32⟩
  | 45 => ⟨S32, .i32⟩
  | 46 => ⟨S_, .i32⟩
  | 47 => ⟨S32, .i32⟩
  | 48 => ⟨S32, .i32⟩
  | 49 => ⟨S_, .i32⟩
  | 50 => ⟨S32, .i32⟩
  | 51 => ⟨S32, .i1⟩
  | 52 => ⟨S_, .i32⟩
  | 53 => ⟨S32, .i32⟩
  | 54 => ⟨S32, .i32⟩
  | 55 => ⟨S32, .i32⟩
  | 56 => ⟨S_, .i32⟩
  | 57 => ⟨S32x1, .i32⟩
  | 58 => ⟨S32x1, .i32⟩
  | 59 => ⟨S_, .i32⟩
  | 60 => ⟨S32x1, .i32⟩
  | 61 => ⟨S_, .i32⟩
  | 62 => ⟨S32x1, .i32⟩
  | 63 => ⟨S32x4, .i32⟩
  | 64 => ⟨S32x8x64x32x128, .f32⟩
  | 65 => ⟨S_, .i32⟩
  | 66 => ⟨S32, .i32⟩
  | 67 => ⟨S32, .i32⟩
  | 68 => ⟨S_, .i32⟩
  | 69 => ⟨S32, .i32⟩
  | 70 => ⟨S32, .i1⟩
  | 71 => ⟨S_, .i32⟩
  | 72 => ⟨S32, .i32⟩
  | 73 => ⟨S32, .i32⟩
  | 74 => ⟨S32, .i32⟩
  | 75 => ⟨S_, .i32⟩
  | 76 => ⟨S32x1, .i32⟩
  | 77 => ⟨S32x1, .i32⟩
  | 78 => ⟨S_, .i32⟩
  | 79 => ⟨S32x1, .i32⟩
  | 80 => ⟨S_, .i32⟩
  | 81 => ⟨S32x1, .i32⟩
  | 82 => ⟨S32x4, .i32⟩
  | 83 => ⟨S32x8x576x32x128, .f32⟩
  | 84 => ⟨S_, .i32⟩
  | 85 => ⟨S32, .i32⟩
  | 86 => ⟨S32, .i32⟩
  | 87 => ⟨S_, .i32⟩
  | 88 => ⟨S32, .i32⟩
  | 89 => ⟨S32, .i1⟩
  | 90 => ⟨S_, .i32⟩
  | 91 => ⟨S32, .i32⟩
  | 92 => ⟨S32, .i32⟩
  | 93 => ⟨S32, .i32⟩
  | 94 => ⟨S_, .i32⟩
  | 95 => ⟨S32x1, .i32⟩
  | 96 => ⟨S32x1, .i32⟩
  | 97 => ⟨S_, .i32⟩
  | 98 => ⟨S32x1, .i32⟩
  | 99 => ⟨S_, .i32⟩
  | 100 => ⟨S32x1, .i32⟩
  | 101 => ⟨S32x4, .i32⟩
  | 102 => ⟨S32x8x576x32x128, .f32⟩
  | 103 => ⟨S_, .i32⟩
  | 104 => ⟨S32, .i32⟩
  | 105 => ⟨S32, .i32⟩
  | 106 => ⟨S_, .i32⟩
  | 107 => ⟨S32, .i32⟩
  | 108 => ⟨S32, .i32⟩
  | 109 => ⟨S1x576, .i32⟩
  | 110 => ⟨S32x1, .i32⟩
  | 111 => ⟨S32x576, .i32⟩
  | 112 => ⟨S32x576, .i32⟩
  | 113 => ⟨S32x576, .i32⟩
  | 114 => ⟨S_, .i32⟩
  | 115 => ⟨S32x576, .i32⟩
  | 116 => ⟨S32x576, .i1⟩
  | 117 => ⟨S32x8x32x64x576, .f32⟩
  | 118 => ⟨S_, .f32⟩
  | 119 => ⟨S32x8x32x64x576, .f32⟩
  | 120 => ⟨S32x8x32x64x576, .f32⟩
  | 121 => ⟨S32x1x1x1x576, .i1⟩
  | 122 => ⟨S1x32x64x576, .f32⟩
  | 123 => ⟨S1x1x32x64x576, .f32⟩
  | 124 => ⟨S32x8x32x64x576, .f32⟩
  | 125 => ⟨S32x8x32x64x576, .f32⟩
  | 126 => ⟨S_, .f32⟩
  | 127 => ⟨S_, .f32⟩
  | _ => ⟨S8x2048x12288, .bf16⟩

abbrev hbmTy0_1 (i : Nat) : BufTy := match i % 128 with
  | 0 => ⟨S32x8x32x64x576, .i1⟩
  | 1 => ⟨S8x32x64x576, .f32⟩
  | 2 => ⟨S32x8x32x64x576, .f32⟩
  | 3 => ⟨S32x8x32x64x576, .f32⟩
  | 4 => ⟨S_, .f32⟩
  | 5 => ⟨S32x8x32x64, .f32⟩
  | 6 => ⟨S_, .f32⟩
  | 7 => ⟨S32x8x32x64, .f32⟩
  | 8 => ⟨S32x8x32x64, .f32⟩
  | 9 => ⟨S32x8x32x64x1, .f32⟩
  | 10 => ⟨S32x8x32x64x576, .f32⟩
  | 11 => ⟨S32x8x32x64x576, .f32⟩
  | 12 => ⟨S32x8x32x64x576, .f32⟩
  | 13 => ⟨S_, .f32⟩
  | 14 => ⟨S32x8x32x64, .f32⟩
  | 15 => ⟨S32x8x32x64x1, .f32⟩
  | 16 => ⟨S32x8x32x64x576, .f32⟩
  | 17 => ⟨S32x8x32x64x576, .f32⟩
  | 18 => ⟨S32x8x32x128x64, .f32⟩
  | 19 => ⟨S32x8x64x32x128, .f32⟩
  | 20 => ⟨S32x8x64x4096, .f32⟩
  | 21 => ⟨S8x32x64x4096, .f32⟩
  | 22 => ⟨S8x2048x4096, .f32⟩
  | 23 => ⟨S8x2048x4096, .bf16⟩
  | _ => ⟨S8x2048x12288, .bf16⟩

abbrev hbmTy (i : Nat) : BufTy := match i / 128 with
  | 0 => hbmTy0_0 i
  | 1 => hbmTy0_1 i
  | _ => ⟨S8x2048x12288, .bf16⟩

abbrev bufTy : (tb : Table) → Fin (tcTables nBuf tb) → BufTy
  | .hbm, ⟨i, _⟩ => hbmTy i
  | _, _ => ⟨S8x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_13 : Ref sig .tc := ⟨.hbm, 65, rfl⟩
abbrev main_v42 : Ref sig .tc := ⟨.hbm, 66, rfl⟩
abbrev main_v43 : Ref sig .tc := ⟨.hbm, 67, rfl⟩
abbrev main_c_14 : Ref sig .tc := ⟨.hbm, 68, rfl⟩
abbrev main_v44 : Ref sig .tc := ⟨.hbm, 69, rfl⟩
abbrev main_v45 : Ref sig .tc := ⟨.hbm, 70, rfl⟩
abbrev main_c_15 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_16 : Ref sig .tc := ⟨.hbm, 75, rfl⟩
abbrev main_v49 : Ref sig .tc := ⟨.hbm, 76, rfl⟩
abbrev main_v50 : Ref sig .tc := ⟨.hbm, 77, rfl⟩
abbrev main_c_17 : Ref sig .tc := ⟨.hbm, 78, rfl⟩
abbrev main_v51 : Ref sig .tc := ⟨.hbm, 79, rfl⟩
abbrev main_c_18 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_19 : Ref sig .tc := ⟨.hbm, 84, rfl⟩
abbrev main_v55 : Ref sig .tc := ⟨.hbm, 85, rfl⟩
abbrev main_v56 : Ref sig .tc := ⟨.hbm, 86, rfl⟩
abbrev main_c_20 : Ref sig .tc := ⟨.hbm, 87, rfl⟩
abbrev main_v57 : Ref sig .tc := ⟨.hbm, 88, rfl⟩
abbrev main_v58 : Ref sig .tc := ⟨.hbm, 89, rfl⟩
abbrev main_c_21 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_22 : Ref sig .tc := ⟨.hbm, 94, rfl⟩
abbrev main_v62 : Ref sig .tc := ⟨.hbm, 95, rfl⟩
abbrev main_v63 : Ref sig .tc := ⟨.hbm, 96, rfl⟩
abbrev main_c_23 : Ref sig .tc := ⟨.hbm, 97, rfl⟩
abbrev main_v64 : Ref sig .tc := ⟨.hbm, 98, rfl⟩
abbrev main_c_24 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_25 : Ref sig .tc := ⟨.hbm, 103, rfl⟩
abbrev main_v68 : Ref sig .tc := ⟨.hbm, 104, rfl⟩
abbrev main_v69 : Ref sig .tc := ⟨.hbm, 105, rfl⟩
abbrev main_c_26 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_27 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_28 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_v87 : Ref sig .tc := ⟨.hbm, 131, rfl⟩
abbrev main_cst_29 : Ref sig .tc := ⟨.hbm, 132, rfl⟩
abbrev main_v88 : Ref sig .tc := ⟨.hbm, 133, rfl⟩
abbrev main_cst_30 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_31 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]
-- ==== Up.lean ====
abbrev S8x2048x4096 : Shape := ⟨3, ![8, 2048, 4096]⟩
abbrev S2x4096x16384 : Shape := ⟨3, ![2, 4096, 16384]⟩
abbrev S16384x4096 : Shape := ⟨2, ![16384, 4096]⟩
abbrev S16384x16384 : Shape := ⟨2, ![16384, 16384]⟩
abbrev S4096x16384 : Shape := ⟨2, ![4096, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S4096x1024 : Shape := ⟨2, ![4096, 1024]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x4096, .bf16⟩
  | .hbm, ⟨1, _⟩ => ⟨S2x4096x16384, .f32⟩
  | .hbm, ⟨2, _⟩ => ⟨S16384x4096, .bf16⟩
  | .hbm, ⟨3, _⟩ => ⟨S16384x16384, .bf16⟩
  | .hbm, ⟨4, _⟩ => ⟨S4096x16384, .bf16⟩
  | .hbm, ⟨5, _⟩ => ⟨S16384x16384, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .bf16⟩
  | .local _ .vmem, ⟨4, _⟩ => ⟨S1024x512, .bf16⟩
  | .local _ .vmem, ⟨5, _⟩ => ⟨S4096x512, .bf16⟩
  | .local _ .vmem, ⟨6, _⟩ => ⟨S4096x512, .bf16⟩
  | .local _ .vmem, ⟨7, _⟩ => ⟨S1024x4096, .bf16⟩
  | .local _ .vmem, ⟨8, _⟩ => ⟨S1024x4096, .bf16⟩
  | .local _ .vmem, ⟨9, _⟩ => ⟨S4096x1024, .bf16⟩
  | .local _ .vmem, ⟨10, _⟩ => ⟨S4096x1024, .bf16⟩
  | .local _ .vmem, ⟨11, _⟩ => ⟨S1024x1024, .bf16⟩
  | .local _ .vmem, ⟨12, _⟩ => ⟨S1024x1024, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev grid1 : Pipeline.Grid := ⟨3, ![15, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== UpRefIdeal.lean ====
abbrev S8x2048x4096 : Shape := ⟨3, ![8, 2048, 4096]⟩
abbrev S2x4096x16384 : Shape := ⟨3, ![2, 4096, 16384]⟩
abbrev S1x4096x16384 : Shape := ⟨3, ![1, 4096, 16384]⟩
abbrev S4096x16384 : Shape := ⟨2, ![4096, 16384]⟩
abbrev S8x2048x16384 : Shape := ⟨3, ![8, 2048, 16384]⟩
abbrev S_ : Shape := ⟨0, ![]⟩
abbrev S16384x16384 : Shape := ⟨2, ![16384, 16384]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S2x4096x16384, .f32⟩
  | .hbm, ⟨2, _⟩ => ⟨S8x2048x4096, .f32⟩
  | .hbm, ⟨3, _⟩ => ⟨S1x4096x16384, .f32⟩
  | .hbm, ⟨4, _⟩ => ⟨S4096x16384, .f32⟩
  | .hbm, ⟨5, _⟩ => ⟨S8x2048x16384, .f32⟩
  | .hbm, ⟨6, _⟩ => ⟨S_, .f32⟩
  | .hbm, ⟨7, _⟩ => ⟨S8x2048x16384, .f32⟩
  | .hbm, ⟨8, _⟩ => ⟨S8x2048x16384, .f32⟩
  | .hbm, ⟨9, _⟩ => ⟨S8x2048x16384, .f32⟩
  | .hbm, ⟨10, _⟩ => ⟨S8x2048x16384, .bf16⟩
  | .hbm, ⟨11, _⟩ => ⟨S16384x16384, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Down.lean ====
abbrev S8x2048x16384 : Shape := ⟨3, ![8, 2048, 16384]⟩
abbrev S2x16384x4096 : Shape := ⟨3, ![2, 16384, 4096]⟩
abbrev S8x2048x4096 : Shape := ⟨3, ![8, 2048, 4096]⟩
abbrev S4096 : Shape := ⟨1, ![4096]⟩
abbrev S16384x16384 : Shape := ⟨2, ![16384, 16384]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩
abbrev S1024x4096 : Shape := ⟨2, ![1024, 4096]⟩
abbrev S4096x1024 : Shape := ⟨2, ![4096, 1024]⟩
abbrev S4096x512 : Shape := ⟨2, ![4096, 512]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 23
  | .smem => 0
  | _ => 0

abbrev bufTy : (tb : Table) → Fin (tcTables nBuf tb) → BufTy
  | .hbm, ⟨0, _⟩ => ⟨S8x2048x16384, .bf16⟩
  | .hbm, ⟨1, _⟩ => ⟨S2x16384x4096, .f32⟩
  | .hbm, ⟨2, _⟩ => ⟨S8x2048x4096, .f32⟩
  | .hbm, ⟨3, _⟩ => ⟨S4096, .f32⟩
  | .hbm, ⟨4, _⟩ => ⟨S16384x16384, .bf16⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S1x4096, .f32⟩
  | .hbm, ⟨10, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | .local _ .vmem, ⟨9, _⟩ => ⟨S2048x1024, .bf16⟩
  | .local _ .vmem, ⟨10, _⟩ => ⟨S1024x4096, .bf16⟩
  | .local _ .vmem, ⟨11, _⟩ => ⟨S1024x4096, .bf16⟩
  | .local _ .vmem, ⟨12, _⟩ => ⟨S4096x1024, .bf16⟩
  | .local _ .vmem, ⟨13, _⟩ => ⟨S4096x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S512x4096, .f32⟩
  | .local _ .vmem, ⟨19, _⟩ => ⟨S512x4096, .f32⟩
  | .local _ .vmem, ⟨20, _⟩ => ⟨S1x4096, .f32⟩
  | .local _ .vmem, ⟨21, _⟩ => ⟨S512x4096, .f32⟩
  | .local _ .vmem, ⟨22, _⟩ => ⟨S512x4096, .f32⟩
  | _, _ => ⟨S8x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  ![c1_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev grid1 : Pipeline.Grid := ⟨3, ![15, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== DownRefIdeal.lean ====
abbrev S8x2048x16384 : Shape := ⟨3, ![8, 2048, 16384]⟩
abbrev S2x16384x4096 : Shape := ⟨3, ![2, 16384, 4096]⟩
abbrev S8x2048x4096 : Shape := ⟨3, ![8, 2048, 4096]⟩
abbrev S4096 : Shape := ⟨1, ![4096]⟩
abbrev S1x16384x4096 : Shape := ⟨3, ![1, 16384, 4096]⟩
abbrev S16384x4096 : Shape := ⟨2, ![16384, 4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x16384, .bf16⟩
  | .hbm, ⟨1, _⟩ => ⟨S2x16384x4096, .f32⟩
  | .hbm, ⟨2, _⟩ => ⟨S8x2048x4096, .f32⟩
  | .hbm, ⟨3, _⟩ => ⟨S4096, .f32⟩
  | .hbm, ⟨4, _⟩ => ⟨S8x2048x16384, .f32⟩
  | .hbm, ⟨5, _⟩ => ⟨S1x16384x4096, .f32⟩
  | .hbm, ⟨6, _⟩ => ⟨S16384x4096, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x4096, .f32⟩
  | .hbm, ⟨21, _⟩ => ⟨S8x2048x4096, .f32⟩
  | .hbm, ⟨22, _⟩ => ⟨S1x1x4096, .f32⟩
  | .hbm, ⟨23, _⟩ => ⟨S8x2048x4096, .f32⟩
  | .hbm, ⟨24, _⟩ => ⟨S8x2048x4096, .f32⟩
  | .hbm, ⟨25, _⟩ => ⟨S16384x4096, .f32⟩
  | _, _ => ⟨S8x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InB.lean ====
abbrev S8x2048x4096 : Shape := ⟨3, ![8, 2048, 4096]⟩
abbrev S4096 : Shape := ⟨1, ![4096]⟩
abbrev S1x4096x12288 : Shape := ⟨3, ![1, 4096, 12288]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S16384x12288 : Shape := ⟨2, ![16384, 12288]⟩
abbrev S4096x12288 : Shape := ⟨2, ![4096, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S4096x1024 : Shape := ⟨2, ![4096, 1024]⟩
abbrev S1024x1024 : Shape := ⟨2, ![1024, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S1x4096x12288, .f32⟩
  | .hbm, ⟨3, _⟩ => ⟨S16384x4096, .f32⟩
  | .hbm, ⟨4, _⟩ => ⟨S1x4096, .f32⟩
  | .hbm, ⟨5, _⟩ => ⟨S16384x4096, .bf16⟩
  | .hbm, ⟨6, _⟩ => ⟨S16384x12288, .bf16⟩
  | .hbm, ⟨7, _⟩ => ⟨S4096x12288, .bf16⟩
  | .hbm, ⟨8, _⟩ => ⟨S16384x12288, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1x4096x512, .f32⟩
  | .local _ .vmem, ⟨7, _⟩ => ⟨S1x4096x512, .f32⟩
  | .local _ .vmem, ⟨8, _⟩ => ⟨S1024x512, .bf16⟩
  | .local _ .vmem, ⟨9, _⟩ => ⟨S1024x512, .bf16⟩
  | .local _ .vmem, ⟨10, _⟩ => ⟨S4096x512, .bf16⟩
  | .local _ .vmem, ⟨11, _⟩ => ⟨S4096x512, .bf16⟩
  | .local _ .vmem, ⟨12, _⟩ => ⟨S1024x4096, .bf16⟩
  | .local _ .vmem, ⟨13, _⟩ => ⟨S1024x4096, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .bf16⟩
  | .local _ .vmem, ⟨17, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 24, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev grid2 : Pipeline.Grid := ⟨3, ![15, 12, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== InBRefIdeal.lean ====
abbrev S8x2048x4096 : Shape := ⟨3, ![8, 2048, 4096]⟩
abbrev S4096 : Shape := ⟨1, ![4096]⟩
abbrev S1x4096x12288 : Shape := ⟨3, ![1, 4096, 12288]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S4096x12288 : Shape := ⟨2, ![4096, 12288]⟩
abbrev S8x2048x12288 : Shape := ⟨3, ![8, 2048, 12288]⟩
abbrev S16384x12288 : Shape := ⟨2, ![16384, 12288]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S1x4096x12288, .f32⟩
  | .hbm, ⟨3, _⟩ => ⟨S8x2048x4096, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x4096, .f32⟩
  | .hbm, ⟨15, _⟩ => ⟨S8x2048x4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S4096x12288, .f32⟩
  | .hbm, ⟨20, _⟩ => ⟨S8x2048x12288, .f32⟩
  | .hbm, ⟨21, _⟩ => ⟨S8x2048x12288, .bf16⟩
  | .hbm, ⟨22, _⟩ => ⟨S16384x12288, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Out.lean ====
abbrev S8x2048x4096 : Shape := ⟨3, ![8, 2048, 4096]⟩
abbrev S1x4096x4096 : Shape := ⟨3, ![1, 4096, 4096]⟩
abbrev S16384x4096 : Shape := ⟨2, ![16384, 4096]⟩
abbrev S4096x4096 : Shape := ⟨2, ![4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S4096x1024 : Shape := ⟨2, ![4096, 1024]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x4096, .f32⟩
  | .hbm, ⟨2, _⟩ => ⟨S8x2048x4096, .f32⟩
  | .hbm, ⟨3, _⟩ => ⟨S16384x4096, .bf16⟩
  | .hbm, ⟨4, _⟩ => ⟨S16384x4096, .f32⟩
  | .hbm, ⟨5, _⟩ => ⟨S16384x4096, .f32⟩
  | .hbm, ⟨6, _⟩ => ⟨S4096x4096, .bf16⟩
  | .hbm, ⟨7, _⟩ => ⟨S16384x4096, .f32⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S4096x512, .bf16⟩
  | .local _ .vmem, ⟨8, _⟩ => ⟨S4096x512, .bf16⟩
  | .local _ .vmem, ⟨9, _⟩ => ⟨S1024x4096, .bf16⟩
  | .local _ .vmem, ⟨10, _⟩ => ⟨S1024x4096, .bf16⟩
  | .local _ .vmem, ⟨11, _⟩ => ⟨S4096x1024, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev grid1 : Pipeline.Grid := ⟨3, ![15, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== OutRefIdeal.lean ====
abbrev S8x2048x4096 : Shape := ⟨3, ![8, 2048, 4096]⟩
abbrev S1x4096x4096 : Shape := ⟨3, ![1, 4096, 4096]⟩
abbrev S4096x4096 : Shape := ⟨2, ![4096, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x4096, .f32⟩
  | .hbm, ⟨2, _⟩ => ⟨S8x2048x4096, .f32⟩
  | .hbm, ⟨3, _⟩ => ⟨S8x2048x4096, .f32⟩
  | .hbm, ⟨4, _⟩ => ⟨S4096x4096, .f32⟩
  | .hbm, ⟨5, _⟩ => ⟨S8x2048x4096, .f32⟩
  | .hbm, ⟨6, _⟩ => ⟨S8x2048x4096, .f32⟩
  | .hbm, ⟨7, _⟩ => ⟨S16384x4096, .f32⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InA.lean ====
abbrev S8x2048x4096 : Shape := ⟨3, ![8, 2048, 4096]⟩
abbrev S4096 : Shape := ⟨1, ![4096]⟩
abbrev S1x4096x10400 : Shape := ⟨3, ![1, 4096, 10400]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1x4096x10240 : Shape := ⟨3, ![1, 4096, 10240]⟩
abbrev S1x10240x4096 : Shape := ⟨3, ![1, 10240, 4096]⟩
abbrev S16384x10240 : Shape := ⟨2, ![16384, 10240]⟩
abbrev S4096x10240 : Shape := ⟨2, ![4096, 10240]⟩
abbrev S1024x4096 : Shape := ⟨2, ![1024, 4096]⟩
abbrev S1x512x4096 : Shape := ⟨3, ![1, 512, 4096]⟩
abbrev S1024x128 : Shape := ⟨2, ![1024, 128]⟩
abbrev S1024x512 : Shape := ⟨2, ![1024, 512]⟩
abbrev S4096x512 : Shape := ⟨2, ![4096, 512]⟩
abbrev S4096x1024 : Shape := ⟨2, ![4096, 1024]⟩
abbrev S1024x1024 : Shape := ⟨2, ![1024, 1024]⟩

abbrev nBuf : Space → Nat
  | .hbm => 30
  | .vmem => 24
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S1x4096x10400, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .f32⟩
  | .hbm, ⟨12, _⟩ => ⟨S2048x1, .f32⟩
  | .hbm, ⟨13, _⟩ => ⟨S1x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x128, .f32⟩
  | .hbm, ⟨20, _⟩ => ⟨S2048x64, .f32⟩
  | .hbm, ⟨21, _⟩ => ⟨S2048x128, .f32⟩
  | .hbm, ⟨22, _⟩ => ⟨S16384x4096, .f32⟩
  | .hbm, ⟨23, _⟩ => ⟨S1x4096, .f32⟩
  | .hbm, ⟨24, _⟩ => ⟨S16384x4096, .bf16⟩
  | .hbm, ⟨25, _⟩ => ⟨S1x4096x10240, .f32⟩
  | .hbm, ⟨26, _⟩ => ⟨S1x10240x4096, .f32⟩
  | .hbm, ⟨27, _⟩ => ⟨S16384x10240, .bf16⟩
  | .hbm, ⟨28, _⟩ => ⟨S4096x10240, .bf16⟩
  | .hbm, ⟨29, _⟩ => ⟨S16384x10240, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1x512x4096, .f32⟩
  | .local _ .vmem, ⟨7, _⟩ => ⟨S1x512x4096, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | .local _ .vmem, ⟨12, _⟩ => ⟨S4096x512, .bf16⟩
  | .local _ .vmem, ⟨13, _⟩ => ⟨S4096x512, .bf16⟩
  | .local _ .vmem, ⟨14, _⟩ => ⟨S1024x4096, .bf16⟩
  | .local _ .vmem, ⟨15, _⟩ => ⟨S1024x4096, .bf16⟩
  | .local _ .vmem, ⟨16, _⟩ => ⟨S4096x1024, .bf16⟩
  | .local _ .vmem, ⟨17, _⟩ => ⟨S4096x1024, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x1024, .bf16⟩
  | .local _ .vmem, ⟨23, _⟩ => ⟨S1024x1024, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 20, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

abbrev stage1_0 : Fin 1 → Memref sig .tc .vmem S1024x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1x512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false, false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false, false]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S4096x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev grid2 : Pipeline.Grid := ⟨3, ![15, 10, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, c0_i32_4.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]
-- ==== InARefIdeal.lean ====
abbrev S8x2048x4096 : Shape := ⟨3, ![8, 2048, 4096]⟩
abbrev S4096 : Shape := ⟨1, ![4096]⟩
abbrev S1x4096x10400 : Shape := ⟨3, ![1, 4096, 10400]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S4096x10400 : Shape := ⟨2, ![4096, 10400]⟩
abbrev S8x2048x10400 : Shape := ⟨3, ![8, 2048, 10400]⟩
abbrev S8x2048x1024 : Shape := ⟨3, ![8, 2048, 1024]⟩
abbrev S8x2048x128 : Shape := ⟨3, ![8, 2048, 128]⟩
abbrev S8x2048x32 : Shape := ⟨3, ![8, 2048, 32]⟩
abbrev S2048 : Shape := ⟨1, ![2048]⟩
abbrev S8x2048x32x128 : Shape := ⟨4, ![8, 2048, 32, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x32x64 : Shape := ⟨4, ![8, 2048, 32, 64]⟩
abbrev S1x2048x1x64 : Shape := ⟨4, ![1, 2048, 1, 64]⟩
abbrev S8x2048x8x128 : Shape := ⟨4, ![8, 2048, 8, 128]⟩
abbrev S8x2048x8x64 : Shape := ⟨4, ![8, 2048, 8, 64]⟩
abbrev S16384x4096 : Shape := ⟨2, ![16384, 4096]⟩
abbrev S16384x1024 : Shape := ⟨2, ![16384, 1024]⟩
abbrev S16384x10240 : Shape := ⟨2, ![16384, 10240]⟩

abbrev nBuf : Space → Nat
  | .hbm => 142
  | .vmem => 0
  | .smem => 0
  | _ => 0

abbrev hbmTy0_0 (i : Nat) : BufTy := match i % 128 with
  | 0 => ⟨S8x2048x4096, .f32⟩
  | 1 => ⟨S4096, .f32⟩
  | 2 => ⟨S1x4096x10400, .f32⟩
  | 3 => ⟨S8x2048x4096, .f32⟩
  | 4 => ⟨S_, .f32⟩
  | 5 => ⟨S8x2048, .f32⟩
  | 6 => ⟨S8x2048x1, .f32⟩
  | 7 => ⟨S_, .f32⟩
  | 8 => ⟨S8x2048x1, .f32⟩
  | 9 => ⟨S8x2048x1, .f32⟩
  | 10 => ⟨S_, .f32⟩
  | 11 => ⟨S8x2048x1, .f32⟩
  | 12 => ⟨S8x2048x1, .f32⟩
  | 13 => ⟨S8x2048x1, .f32⟩
  | 14 => ⟨S8x2048x4096, .f32⟩
  | 15 => ⟨S8x2048x4096, .f32⟩
  | 16 => ⟨S1x1x4096, .f32⟩
  | 17 => ⟨S8x2048x4096, .f32⟩
  | 18 => ⟨S8x2048x4096, .f32⟩
  | 19 => ⟨S4096x10400, .f32⟩
  | 20 => ⟨S8x2048x10400, .f32⟩
  | 21 => ⟨S8x2048x4096, .f32⟩
  | 22 => ⟨S8x2048x1024, .f32⟩
  | 23 => ⟨S8x2048x1024, .f32⟩
  | 24 => ⟨S8x2048x4096, .f32⟩
  | 25 => ⟨S8x2048x128, .f32⟩
  | 26 => ⟨S8x2048x32, .f32⟩
  | 27 => ⟨S2048, .i32⟩
  | 28 => ⟨S8x2048x32x128, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S2048, .f32⟩
  | 38 => ⟨S2048x1, .f32⟩
  | 39 => ⟨S1x64, .f32⟩
  | 40 => ⟨S2048x64, .f32⟩
  | 41 => ⟨S2048x64, .f32⟩
  | 42 => ⟨S2048x64, .f32⟩
  | 43 => ⟨S2048x64, .f32⟩
  | 44 => ⟨S2048x1x64, .f32⟩
  | 45 => ⟨S2048x64, .f32⟩
  | 46 => ⟨S2048x1x64, .f32⟩
  | 47 => ⟨S8x2048x32x64, .f32⟩
  | 48 => ⟨S8x2048x32x64, .f32⟩
  | 49 => ⟨S1x2048x1x64, .f32⟩
  | 50 => ⟨S8x2048x32x64, .f32⟩
  | 51 => ⟨S8x2048x32x64, .f32⟩
  | 52 => ⟨S1x2048x1x64, .f32⟩
  | 53 => ⟨S8x2048x32x64, .f32⟩
  | 54 => ⟨S8x2048x32x64, .f32⟩
  | 55 => ⟨S8x2048x32x64, .f32⟩
  | 56 => ⟨S1x2048x1x64, .f32⟩
  | 57 => ⟨S8x2048x32x64, .f32⟩
  | 58 => ⟨S8x2048x32x64, .f32⟩
  | 59 => ⟨S1x2048x1x64, .f32⟩
  | 60 => ⟨S8x2048x32x64, .f32⟩
  | 61 => ⟨S8x2048x32x64, .f32⟩
  | 62 => ⟨S8x2048x32x64, .f32⟩
  | 63 => ⟨S8x2048x32x128, .f32⟩
  | 64 => ⟨S8x2048x8x128, .f32⟩
  | 65 => ⟨S64, .f32⟩
  | 66 => ⟨S64, .f32⟩
  | 67 => ⟨S_, .f32⟩
  | 68 => ⟨S64, .f32⟩
  | 69 => ⟨S64, .f32⟩
  | 70 => ⟨S_, .f32⟩
  | 71 => ⟨S64, .f32⟩
  | 72 => ⟨S64, .f32⟩
  | 73 => ⟨S2048, .f32⟩
  | 74 => ⟨S2048x1, .f32⟩
  | 75 => ⟨S1x64, .f32⟩
  | 76 => ⟨S2048x64, .f32⟩
  | 77 => ⟨S2048x64, .f32⟩
  | 78 => ⟨S2048x64, .f32⟩
  | 79 => ⟨S2048x64, .f32⟩
  | 80 => ⟨S2048x1x64, .f32⟩
  | 81 => ⟨S2048x64, .f32⟩
  | 82 => ⟨S2048x1x64, .f32⟩
  | 83 => ⟨S8x2048x8x64, .f32⟩
  | 84 => ⟨S8x2048x8x64, .f32⟩
  | 85 => ⟨S1x2048x1x64, .f32⟩
  | 86 => ⟨S8x2048x8x64, .f32⟩
  | 87 => ⟨S8x2048x8x64, .f32⟩
  | 88 => ⟨S1x2048x1x64, .f32⟩
  | 89 => ⟨S8x2048x8x64, .f32⟩
  | 90 => ⟨S8x2048x8x64, .f32⟩
  | 91 => ⟨S8x2048x8x64, .f32⟩
  | 92 => ⟨S1x2048x1x64, .f32⟩
  | 93 => ⟨S8x2048x8x64, .f32⟩
  | 94 => ⟨S8x2048x8x64, .f32⟩
  | 95 => ⟨S1x2048x1x64, .f32⟩
  | 96 => ⟨S8x2048x8x64, .f32⟩
  | 97 => ⟨S8x2048x8x64, .f32⟩
  | 98 => ⟨S8x2048x8x64, .f32⟩
  | 99 => ⟨S8x2048x8x128, .f32⟩
  | 100 => ⟨S8x2048x32x128, .f32⟩
  | 101 => ⟨S64, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S2048, .f32⟩
  | 110 => ⟨S2048x1, .f32⟩
  | 111 => ⟨S1x64, .f32⟩
  | 112 => ⟨S2048x64, .f32⟩
  | 113 => ⟨S2048x64, .f32⟩
  | 114 => ⟨S2048x64, .f32⟩
  | 115 => ⟨S2048x64, .f32⟩
  | 116 => ⟨S2048x1x64, .f32⟩
  | 117 => ⟨S2048x64, .f32⟩
  | 118 => ⟨S2048x1x64, .f32⟩
  | 119 => ⟨S8x2048x32x64, .f32⟩
  | 120 => ⟨S8x2048x32x64, .f32⟩
  | 121 => ⟨S1x2048x1x64, .f32⟩
  | 122 => ⟨S8x2048x32x64, .f32⟩
  | 123 => ⟨S8x2048x32x64, .f32⟩
  | 124 => ⟨S1x2048x1x64, .f32⟩
  | 125 => ⟨S8x2048x32x64, .f32⟩
  | 126 => ⟨S8x2048x32x64, .f32⟩
  | 127 => ⟨S8x2048x32x64, .f32⟩
  | _ => ⟨S8x2048x4096, .f32⟩

abbrev hbmTy0_1 (i : Nat) : BufTy := match i % 128 with
  | 0 => ⟨S1x2048x1x64, .f32⟩
  | 1 => ⟨S8x2048x32x64, .f32⟩
  | 2 => ⟨S8x2048x32x64, .f32⟩
  | 3 => ⟨S1x2048x1x64, .f32⟩
  | 4 => ⟨S8x2048x32x64, .f32⟩
  | 5 => ⟨S8x2048x32x64, .f32⟩
  | 6 => ⟨S8x2048x32x64, .f32⟩
  | 7 => ⟨S8x2048x32x128, .f32⟩
  | 8 => ⟨S16384x4096, .f32⟩
  | 9 => ⟨S16384x1024, .f32⟩
  | 10 => ⟨S16384x1024, .f32⟩
  | 11 => ⟨S16384x4096, .f32⟩
  | 12 => ⟨S16384x10240, .f32⟩
  | 13 => ⟨S16384x10240, .bf16⟩
  | _ => ⟨S8x2048x4096, .f32⟩

abbrev hbmTy (i : Nat) : BufTy := match i / 128 with
  | 0 => hbmTy0_0 i
  | 1 => hbmTy0_1 i
  | _ => ⟨S8x2048x4096, .f32⟩

abbrev bufTy : (tb : Table) → Fin (tcTables nBuf tb) → BufTy
  | .hbm, ⟨i, _⟩ => hbmTy i
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_6 : Ref sig .tc := ⟨.hbm, 103, rfl⟩
abbrev main_v93 : Ref sig .tc := ⟨.hbm, 104, rfl⟩
abbrev main_v94 : Ref sig .tc := ⟨.hbm, 105, rfl⟩
abbrev main_cst_7 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩

abbrev nD : Nat := 1
abbrev τ : Topo := Topo.v7x

variable {F : FTy → Type} [FloatOps F]
-- ==== Proof.Soft.lean ====
module

public import Idealize.ShloMosaic.Lib.Pipeline.ValueKit

@[expose] public section

noncomputable section

namespace Cert.Band

open Idealize.ShloMosaic

/-! A softmax over a window of keys, in the form of the kernel (powers of two, one division at the end, masked keys at minus infinity) and in the form
of the reference (exponentials, every weight divided), and that both depend only on the keys that are not masked. -/

/-- The scale of the logits, the `f32` nearest to one over the square root of 128. -/
abbrev sc : ℝ := 11863283 / 134217728
/-- The scale times the reciprocal of the natural logarithm of two. -/
abbrev sc2 : ℝ := (11863283 / 134217728) * (Real.log 2)⁻¹

theorem sc_pos : (0 : ℝ) < sc := by unfold sc; norm_num
theorem sc2_pos : (0 : ℝ) < sc2 := mul_pos sc_pos (inv_pos.2 (Real.log_pos (by norm_num)))

theorem exp2_masked (M : EReal) : Ideal.exp2 ((⊥ - M) * (sc2 : ℝ)) = 0 := by
  rw [sub_eq_add_neg, EReal.bot_add, EReal.bot_mul_coe_of_pos sc2_pos]; exact Ideal.exp2_bot

/-- The kernel's row: weights over all padded positions. -/
def soft (T V : ℕ → EReal) : EReal :=
  Ideal.div (∑ p ∈ Finset.range 2560, Ideal.exp2 ((T p - (Finset.range 2560).sup T) * (sc2 : ℝ)) * V p)
    (∑ p ∈ Finset.range 2560, Ideal.exp2 ((T p - (Finset.range 2560).sup T) * (sc2 : ℝ)))

theorem sum_window (G : ℕ → EReal) (n o : ℕ) (ho : o + n ≤ 2560) (h : ∀ p, p < 2560 → ¬(o ≤ p ∧ p < o + n) → G p = 0) :
    ∑ x : Fin n, G (o + x) = ∑ p ∈ Finset.range 2560, G p := by
  rw [Fin.sum_univ_eq_sum_range (fun x => G (o + x)) n]
  have h1 := Finset.sum_Ico_eq_sum_range G o (o + n)
  rw [Nat.add_sub_cancel_left] at h1
  rw [← h1]
  refine Finset.sum_subset (fun p hp => ?_) fun p hp hn => ?_
  · rw [Finset.mem_Ico] at hp; rw [Finset.mem_range]; omega
  · rw [Finset.mem_Ico] at hn; rw [Finset.mem_range] at hp; exact h p hp hn

theorem sup_window (T : ℕ → EReal) (n o : ℕ) (ho : o + n ≤ 2560) (h : ∀ p, p < 2560 → ¬(o ≤ p ∧ p < o + n) → T p = ⊥) :
    Finset.fold max ⊥ (fun x : Fin n => T (o + x)) Finset.univ = (Finset.range 2560).sup T := by
  change Finset.univ.sup (fun x : Fin n => T (o + x)) = _
  refine le_antisymm (Finset.sup_le fun x _ => ?_) (Finset.sup_le fun p hp => ?_)
  · exact Finset.le_sup (f := T) (Finset.mem_range.2 (by omega))
  · rw [Finset.mem_range] at hp
    by_cases hw : o ≤ p ∧ p < o + n
    · have := Finset.le_sup (f := fun x : Fin n => T (o + x)) (Finset.mem_univ ⟨p - o, by omega⟩)
      simpa [Nat.add_sub_cancel' hw.1] using this
    · rw [h p hp hw]; exact bot_le

/-- The kernel's row over a window that holds every unmasked key. -/
theorem soft_window (T V : ℕ → EReal) (n o : ℕ) (ho : o + n ≤ 2560) (h : ∀ p, p < 2560 → ¬(o ≤ p ∧ p < o + n) → T p = ⊥)
    (t v : Fin n → EReal) (ht : ∀ x, t x = T (o + x)) (hv : ∀ x, v x = V (o + x)) :
    Ideal.div (∑ x, Ideal.exp2 ((t x - Finset.fold max ⊥ t Finset.univ) * (sc2 : ℝ)) * v x)
      (∑ x, Ideal.exp2 ((t x - Finset.fold max ⊥ t Finset.univ) * (sc2 : ℝ))) = soft T V := by
  obtain rfl : t = fun x : Fin n => T (o + x) := funext ht
  obtain rfl : v = fun x : Fin n => V (o + x) := funext hv
  rw [sup_window T n o ho h]
  unfold soft
  rw [sum_window (fun p => Ideal.exp2 ((T p - (Finset.range 2560).sup T) * (sc2 : ℝ)) * V p) n o ho
      (fun p hp hw => by rw [h p hp hw, exp2_masked, zero_mul]),
    sum_window (fun p => Ideal.exp2 ((T p - (Finset.range 2560).sup T) * (sc2 : ℝ))) n o ho
      (fun p hp hw => by rw [h p hp hw, exp2_masked])]

theorem exp2_scaled (x : ℝ) : Ideal.exp2 ((x : EReal) * (sc2 : ℝ)) = ((Real.exp (x * sc) : ℝ) : EReal) := by
  rw [← EReal.coe_mul, Ideal.exp2_coe]
  congr 1
  rw [Real.rpow_eq_pow, Real.rpow_def_of_pos (by norm_num)]
  congr 1
  have : Real.log 2 ≠ 0 := (Real.log_pos (by norm_num)).ne'
  unfold sc2 sc
  field_simp

/-- The reference's row equals the kernel's, where every logit is a real number or masked and some logit is a real number. -/
theorem softmax_eq {n : ℕ} (t v : Fin n → EReal) (ht : ∀ x, t x = ⊥ ∨ ∃ r : ℝ, t x = r) (x0 : Fin n) (r0 : ℝ) (h0 : t x0 = r0)
    (l : Fin n → EReal) (hl : ∀ x, l x = t x * (sc : ℝ)) :
    ∑ x, v x * Ideal.div (Ideal.exp (l x - Finset.fold max ⊥ l Finset.univ)) (∑ y, Ideal.exp (l y - Finset.fold max ⊥ l Finset.univ))
      = Ideal.div (∑ x, Ideal.exp2 ((t x - Finset.fold max ⊥ t Finset.univ) * (sc2 : ℝ)) * v x)
          (∑ x, Ideal.exp2 ((t x - Finset.fold max ⊥ t Finset.univ) * (sc2 : ℝ))) := by
  change ∑ x, v x * Ideal.div (Ideal.exp (l x - Finset.univ.sup l)) (∑ y, Ideal.exp (l y - Finset.univ.sup l))
      = Ideal.div (∑ x, Ideal.exp2 ((t x - Finset.univ.sup t) * (sc2 : ℝ)) * v x) (∑ x, Ideal.exp2 ((t x - Finset.univ.sup t) * (sc2 : ℝ)))
  -- the greatest logit is a real number, reached at some key
  obtain ⟨x1, -, h1⟩ := Finset.exists_mem_eq_sup Finset.univ ⟨x0, Finset.mem_univ _⟩ t
  have hge : t x0 ≤ t x1 := h1 ▸ Finset.le_sup (f := t) (Finset.mem_univ x0)
  obtain ⟨m, hm⟩ : ∃ m : ℝ, t x1 = m := by
    rcases ht x1 with h | h
    · rw [h, h0] at hge; exact absurd hge (by simp)
    · exact h
  have hM : Finset.univ.sup t = (m : EReal) := h1.trans hm
  have hN : Finset.univ.sup l = ((m * sc : ℝ) : EReal) := by
    refine le_antisymm (Finset.sup_le fun x _ => ?_) ?_
    · rw [hl x]
      rcases ht x with h | ⟨r, h⟩
      · rw [h, EReal.bot_mul_coe_of_pos sc_pos]; exact bot_le
      · have hx : t x ≤ m := hM ▸ Finset.le_sup (f := t) (Finset.mem_univ x)
        rw [h] at hx ⊢
        rw [← EReal.coe_mul]
        exact EReal.coe_le_coe_iff.2 (mul_le_mul_of_nonneg_right (EReal.coe_le_coe_iff.1 hx) sc_pos.le)
    · have := Finset.le_sup (f := l) (Finset.mem_univ x1)
      rwa [hl x1, hm, ← EReal.coe_mul] at this
  rw [hM, hN]
  -- the weights are real numbers, the same ones
  have hw : ∀ x, ∃ w : ℝ, 0 ≤ w ∧ Ideal.exp2 ((t x - m) * (sc2 : ℝ)) = w ∧ Ideal.exp (l x - ((m * sc : ℝ) : EReal)) = w := by
    intro x
    rcases ht x with h | ⟨r, h⟩
    · refine ⟨0, le_refl _, ?_, ?_⟩
      · rw [h, exp2_masked]; rfl
      · rw [hl x, h, EReal.bot_mul_coe_of_pos sc_pos, sub_eq_add_neg, EReal.bot_add]; exact Ideal.exp_bot
    · refine ⟨Real.exp ((r - m) * sc), (Real.exp_pos _).le, ?_, ?_⟩
      · rw [h, ← EReal.coe_sub, exp2_scaled]
      · rw [hl x, h, ← EReal.coe_mul, ← EReal.coe_sub, Ideal.exp_coe, sub_mul]
  choose w hw0 hw1 hw2 using hw
  simp only [hw1, hw2]
  have hS : ∑ x, ((w x : ℝ) : EReal) = ((∑ x, w x : ℝ) : EReal) := (map_sum (⟨⟨Real.toEReal, rfl⟩, EReal.coe_add⟩ : ℝ →+ EReal) w Finset.univ).symm
  have hpos : 0 < ∑ x, w x := by
    refine Finset.sum_pos' (fun x _ => hw0 x) ⟨x1, Finset.mem_univ _, ?_⟩
    have := hw1 x1
    rw [hm, ← EReal.coe_sub, exp2_scaled, EReal.coe_eq_coe_iff] at this
    rw [← this]; exact Real.exp_pos _
  rw [hS, Ideal.div_coe hpos.ne']
  have hc : (0 : ℝ) ≤ 1 / ∑ x, w x := (div_pos one_pos hpos).le
  have hd : ∀ s : Finset (Fin n), (∑ x ∈ s, (w x : EReal) * v x) * ((1 / ∑ x, w x : ℝ) : EReal) = ∑ x ∈ s, (w x : EReal) * v x * ((1 / ∑ x, w x : ℝ) : EReal) := by
    intro s
    induction s using Finset.induction_on with
    | empty => simp
    | insert a s ha ih =>
      rw [Finset.sum_insert ha, Finset.sum_insert ha, EReal.right_distrib_of_nonneg_of_ne_top (EReal.coe_nonneg.2 hc) (EReal.coe_ne_top _), ih]
  rw [hd]
  refine Finset.sum_congr rfl fun x _ => ?_
  rw [Ideal.div_coe hpos.ne', ← mul_assoc, mul_comm (v x)]

end Cert.Band
end
-- ==== Proof.Spec.lean ====
module

public import proofs.«01_k».proof.Proof.Soft
public import Idealize.ShloMosaic.Lib.Pipeline.ValueKit

@[expose] public section

noncomputable section

namespace Cert.Band

open Idealize.ShloMosaic

/-! What both sides compute, over the padded key positions `p = key + 512`. -/

/-- The logit of row `r` against padded position `p`, divided by the scale; minus infinity outside the row's band. -/
def keyT (A0 : FVec Ideal ⟨3, ![8, 2048, 12288]⟩ .bf16) (A1 : FVec Ideal ⟨2, ![32, 513]⟩ .f32) (b : Fin 8) (r : Fin 2048) (h : Fin 32) (p : ℕ) : EReal :=
  if hp : (64 * (r.val / 64) ≤ p ∧ p < 64 * (r.val / 64) + 576) ∧ 512 ≤ p then
    (∑ d : Fin 128, A0 (ix3 b r ⟨128 * h.val + d.val, by omega⟩) * A0 (ix3 b ⟨p - 512, by omega⟩ ⟨4096 + 128 * h.val + d.val, by omega⟩))
      + A1 (ix2 h ⟨min (r.val + 768 - p) 512, by omega⟩) * ((134217728 / 11863283 : ℝ) : EReal)
  else ⊥

/-- The value at padded position `p` and column `e`. -/
def valV (A0 : FVec Ideal ⟨3, ![8, 2048, 12288]⟩ .bf16) (b : Fin 8) (e : Fin 4096) (p : ℕ) : EReal :=
  if hp : 512 ≤ p ∧ p < 2560 then A0 (ix3 b ⟨p - 512, by omega⟩ ⟨8192 + e.val, by omega⟩) else 0

/-- The band attention. -/
def spec (A0 : FVec Ideal ⟨3, ![8, 2048, 12288]⟩ .bf16) (A1 : FVec Ideal ⟨2, ![32, 513]⟩ .f32) (b : Fin 8) (r : Fin 2048) (e : Fin 4096) : EReal :=
  soft (keyT A0 A1 b r ⟨e.val / 128, by omega⟩) (valV A0 b e)

theorem sum_real {ι : Type*} (s : Finset ι) (f : ι → EReal) (h : ∀ i, ∃ r : ℝ, f i = r) : ∃ r : ℝ, ∑ i ∈ s, f i = r := by
  choose g hg using h
  exact ⟨∑ i ∈ s, g i, by simp only [hg]; exact (map_sum (⟨⟨Real.toEReal, rfl⟩, EReal.coe_add⟩ : ℝ →+ EReal) g s).symm⟩

theorem keyT_real (A0 : FVec Ideal ⟨3, ![8, 2048, 12288]⟩ .bf16) (A1 : FVec Ideal ⟨2, ![32, 513]⟩ .f32) (h0 : ∀ i, ∃ x : ℝ, A0 i = (x : EReal)) (h1 : ∀ i, ∃ x : ℝ, A1 i = (x : EReal))
    (b : Fin 8) (r : Fin 2048) (h : Fin 32) (p : ℕ) :
    ((64 * (r.val / 64) ≤ p ∧ p < 64 * (r.val / 64) + 576) ∧ 512 ≤ p) → ∃ x : ℝ, keyT A0 A1 b r h p = x := by
  intro hp
  unfold keyT
  rw [dif_pos hp]
  obtain ⟨x, hx⟩ := sum_real Finset.univ (fun d : Fin 128 => (A0 (ix3 b r ⟨128 * h.val + d.val, by omega⟩) * A0 (ix3 b ⟨p - 512, by omega⟩ ⟨4096 + 128 * h.val + d.val, by omega⟩) : EReal)) (fun d => by
    obtain ⟨u, hu⟩ := h0 (ix3 b r ⟨128 * h.val + d.val, by omega⟩)
    obtain ⟨v, hv⟩ := h0 (ix3 b ⟨p - 512, by omega⟩ ⟨4096 + 128 * h.val + d.val, by omega⟩)
    exact ⟨u * v, by rw [hu, hv, EReal.coe_mul]⟩)
  obtain ⟨y, hy⟩ := h1 (ix2 h ⟨min (r.val + 768 - p) 512, by omega⟩)
  exact ⟨x + y * (134217728 / 11863283), by rw [hx, hy, EReal.coe_add, EReal.coe_mul]⟩

end Cert.Band
end
-- ==== Proof.Bias.lean ====
module

public import proofs.«01_k».proof.Proof.Gen.KernelIdeal.Value
public import proofs.«01_k».proof.Proof.Spec
public import Idealize.ShloMosaic.Lib.Pipeline.ValueKit
public import Idealize.ShloMosaic.Lib.Tactic.WordOmega

@[expose] public section

set_option maxRecDepth 16384

noncomputable section

namespace Cert.Band

open Cert.KernelIdeal Cert.KernelIdeal.Gen Idealize.ShloMosaic Idealize.ShloMosaic.TcCoe Idealize.SL.Sem

/-! The bias tiles the kernel keeps in its scratch buffer. -/

/-- Division by 64 as the kernel writes it, rounding down. -/
theorem chunk_word (j : ℕ) (hj : j < 768) :
    Scalar.select
      (IntOp.andi
        (IntOp.cmpi CmpIPredicate.ne
          (IntOp.subi (BitVec.setWidth 32 (IntOp.cmpi CmpIPredicate.sgt (BitVec.ofNat 32 j) 0#32))
            (BitVec.setWidth 32 (IntOp.cmpi CmpIPredicate.slt (BitVec.ofNat 32 j) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j) 64#32) 0#32))
      (IntOp.subi (IntOp.divsi ArithUnit.vector (BitVec.ofNat 32 j) 64#32) 1#32)
      (IntOp.divsi ArithUnit.vector (BitVec.ofNat 32 j) 64#32) = BitVec.ofNat 32 (j / 64) := by
  have : ∀ j : Fin 768, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by decide +kernel
  exact this ⟨j, hj⟩

theorem mask_at (r : Fin 256) (j : Fin 768) :
    k0_pay5 k0_pay2 k0_pay3 k0_pay4 (ix2 r j) = if r.val / 64 ≤ j.val / 64 ∧ j.val / 64 ≤ r.val / 64 + 8 then 1#1 else 0#1 := by
  pointwise [k0_pay5, k0_pay2, k0_pay3, k0_pay4]
  rw [chunk_word j.val j.isLt, chunk_word r.val (by omega)]
  obtain ⟨a, ha⟩ : ∃ a : Fin 12, a.val = j.val / 64 := ⟨⟨j.val / 64, by omega⟩, rfl⟩
  obtain ⟨b, hb⟩ : ∃ b : Fin 4, b.val = r.val / 64 := ⟨⟨r.val / 64, by omega⟩, rfl⟩
  rw [← ha, ← hb]
  have : ∀ (a : Fin 12) (b : Fin 4), IntOp.andi (IntOp.cmpi CmpIPredicate.sge (BitVec.ofNat 32 a.val) (BitVec.ofNat 32 b.val))
      (IntOp.cmpi CmpIPredicate.sle (BitVec.ofNat 32 a.val) (IntOp.addi (BitVec.ofNat 32 b.val) 8#32)) = if b.val ≤ a.val ∧ a.val ≤ b.val + 8 then 1#1 else 0#1 := by
    decide +kernel
  exact this a b

/-- The bias of local row `r` against window column `j`, from one head's row of biases. -/
def biasV (g : Fin 1024 → EReal) (r : Fin 256) (j : Fin 768) : EReal :=
  if r.val / 64 ≤ j.val / 64 ∧ j.val / 64 ≤ r.val / 64 + 8 then g ⟨j.val + 255 - r.val, by omega⟩ * ((134217728 / 11863283 : ℝ) : EReal) else ⊥

theorem biasV_select (g : Fin 1024 → EReal) (r : Fin 256) (j : Fin 768) (h : (j.val + 1024 - (769 + r.val) % 1024) % 1024 < 1024) :
    Scalar.select (k0_pay5 k0_pay2 k0_pay3 k0_pay4 (ix2 r j)) (g ⟨(j.val + 1024 - (769 + r.val) % 1024) % 1024, h⟩ * (Named.named (F := Ideal) κ "root_d" 1093993715#32 : Ideal .f32))
      (Named.named (F := Ideal) κ "mask" 4048155338#32 : Ideal .f32) = biasV g r j := by
  have e : (⟨(j.val + 1024 - (769 + r.val) % 1024) % 1024, h⟩ : Fin 1024) = ⟨j.val + 255 - r.val, by omega⟩ := Fin.ext (by dsimp only; omega)
  have k1 : (Named.named (F := Ideal) κ "root_d" 1093993715#32 : Ideal .f32) = ((134217728 / 11863283 : ℝ) : EReal) := IdealRules.named_const.ideal_named_scalar _ _ _ _ rfl
  have k2 : (Named.named (F := Ideal) κ "mask" 4048155338#32 : Ideal .f32) = (⊥ : EReal) := IdealRules.named_const.ideal_named_scalar _ _ _ _ rfl
  rw [mask_at, e, k1, k2]
  unfold biasV
  split <;> rfl

theorem pay6_at (x : Vec Ideal S1x1x1024 .f32) (r : Fin 256) (j : Fin 768) :
    k0_pay6 (F := Ideal) k0_pay2 k0_pay3 k0_pay4 x (ix3 0 r j) = biasV (fun i => x (ix3 0 0 i)) r j := by
  pointwise [k0_pay6]
  exact biasV_select (fun i => x (ix3 0 0 i)) r j _

/-- The same from the mask as one argument. -/
theorem pay8_at (x : Vec Ideal S1x1x1024 .f32) (r : Fin 256) (j : Fin 768) :
    k0_pay8 (F := Ideal) (k0_pay5 k0_pay2 k0_pay3 k0_pay4) x (ix3 0 r j) = biasV (fun i => x (ix3 0 0 i)) r j := by
  pointwise [k0_pay8]
  exact biasV_select (fun i => x (ix3 0 0 i)) r j _

/-- The eight heads' tiles. -/
def biasT (g : Vec Ideal S8x1x1024 .f32) : Vec Ideal S8x256x768 .f32 := fun y => biasV (fun i => g (ix3 (y 0) 0 i)) (y 1) (y 2)

/-- A step's result from its three blocks and the bias tiles, at one element. -/
def tileT (x0 x1 : Vec Ideal S1x2048x1024 .bf16) (bs : Vec Ideal S8x256x768 .f32) (r : Fin 2048) (h : Fin 8) (p : ℕ) : EReal :=
  if hp : 256 * (r.val / 256) ≤ p ∧ p < 256 * (r.val / 256) + 768 ∧ 512 ≤ p then
    (∑ d : Fin 128, x0 (ix3 0 r ⟨128 * h.val + d.val, by omega⟩) * x1 (ix3 0 ⟨p - 512, by omega⟩ ⟨128 * h.val + d.val, by omega⟩))
      + bs (ix3 h ⟨r.val % 256, by omega⟩ ⟨p - 256 * (r.val / 256), by omega⟩)
  else ⊥

def tileV (x2 : Vec Ideal S1x2048x1024 .bf16) (e : Fin 1024) (p : ℕ) : EReal :=
  if hp : 512 ≤ p ∧ p < 2560 then x2 (ix3 0 ⟨p - 512, by omega⟩ e) else 0

def tileOut (x0 x1 x2 : Vec Ideal S1x2048x1024 .bf16) (bs : Vec Ideal S8x256x768 .f32) (r : Fin 2048) (e : Fin 1024) : EReal :=
  soft (tileT x0 x1 bs r ⟨e.val / 128, by omega⟩) (tileV x2 e)

/-- One row of one head over a window of `n` keys. -/
def rowK {n : ℕ} (t v : Fin n → EReal) : EReal :=
  Ideal.div (∑ x, Ideal.exp2 ((t x - Finset.fold max ⊥ t Finset.univ) * (sc2 : ℝ)) * v x)
    (∑ x, Ideal.exp2 ((t x - Finset.fold max ⊥ t Finset.univ) * (sc2 : ℝ)))

/-- A window that ends with the row's block of 256 and starts 512 before it, or at the first key, gives the step's result. -/
theorem rowK_tile (x0 x1 x2 : Vec Ideal S1x2048x1024 .bf16) (bs : Vec Ideal S8x256x768 .f32) (r : Fin 2048) (e : Fin 1024)
    (n o : ℕ) (h1 : o + n = 256 * (r.val / 256) + 768) (h2 : 512 ≤ o) (h3 : o = 512 ∨ o = 256 * (r.val / 256)) (h4 : n ≤ 768)
    (q : Fin 128 → EReal) (k : Fin n → Fin 128 → EReal) (b v : Fin n → EReal)
    (hq : ∀ d : Fin 128, q d = x0 (ix3 0 r ⟨128 * (e.val / 128) + d.val, by omega⟩))
    (hk : ∀ (j : Fin n) (d : Fin 128), k j d = x1 (ix3 0 ⟨o + j.val - 512, by omega⟩ ⟨128 * (e.val / 128) + d.val, by omega⟩))
    (hb : ∀ j : Fin n, b j = bs (ix3 ⟨e.val / 128, by omega⟩ ⟨r.val % 256, by omega⟩ ⟨o + j.val - 256 * (r.val / 256), by omega⟩))
    (hv : ∀ j : Fin n, v j = x2 (ix3 0 ⟨o + j.val - 512, by omega⟩ e)) :
    rowK (fun j => (∑ d, q d * k j d) + b j) v = tileOut x0 x1 x2 bs r e := by
  refine soft_window _ _ n o (by omega) (fun p hp hw => ?_) _ _ (fun j => ?_) (fun j => ?_)
  · unfold tileT; rw [dif_neg (fun h => hw ⟨by omega, by omega⟩)]
  · unfold tileT
    rw [dif_pos ⟨by omega, by omega, by omega⟩, hb]
    refine congrArg (· + _) (Finset.sum_congr rfl fun d _ => ?_)
    rw [hq, hk]
  · unfold tileV
    rw [dif_pos ⟨by omega, by omega⟩, hv]

end Cert.Band
end
-- ==== Proof.Tile.lean ====
module

public import proofs.«01_k».proof.Proof.Bias

@[expose] public section

set_option maxRecDepth 16384

noncomputable section

namespace Cert.Band

open Cert.KernelIdeal Cert.KernelIdeal.Gen Idealize.ShloMosaic Idealize.ShloMosaic.TcCoe Idealize.SL.Sem

/-! One store of the kernel's unrolled body: 256 rows of one head against a window of 256, 512 or 768 keys. -/

theorem log2_scale : (Named.named (F := Ideal) κ "log2_scale" 1040356334#32 : Ideal .f32) = ((sc2 : ℝ) : EReal) := IdealRules.named_const.ideal_named_scalar _ _ _ _ rfl
theorem neg_inf32 : (Ideal.ofBits .f32 4286578688#32 : EReal) = ⊥ := rfl

theorem unit256 (q : Vec Ideal S1x256x128 .bf16) (k : Vec Ideal S1x256x128 .bf16) (b : Vec Ideal S1x256x256 .f32) (v : Vec Ideal S1x256x128 .bf16) (i : S1x256x128.Idx) :
    @Eq EReal (k0_pay16 (F := Ideal) q k b v i)
      (rowK (fun x : Fin 256 => (∑ d : Fin 128, (q (ix3 0 (i 1) d) : EReal) * (k (ix3 0 x d) : EReal)) + (b (ix3 0 (i 1) x) : EReal)) (fun x => v (ix3 0 x (i 2)))) := by
  pointwise [k0_pay16]
  simp only [log2_scale, neg_inf32]
  rfl

theorem unit512 (q : Vec Ideal S1x256x128 .bf16) (k : Vec Ideal S1x512x128 .bf16) (b : Vec Ideal S1x256x512 .f32) (v : Vec Ideal S1x512x128 .bf16) (i : S1x256x128.Idx) :
    @Eq EReal (k0_pay38 (F := Ideal) q k b v i)
      (rowK (fun x : Fin 512 => (∑ d : Fin 128, (q (ix3 0 (i 1) d) : EReal) * (k (ix3 0 x d) : EReal)) + (b (ix3 0 (i 1) x) : EReal)) (fun x => v (ix3 0 x (i 2)))) := by
  pointwise [k0_pay38]
  simp only [log2_scale, neg_inf32]
  rfl

theorem unit768 (q : Vec Ideal S1x256x128 .bf16) (k : Vec Ideal S1x768x128 .bf16) (b : Vec Ideal S1x256x768 .f32) (v : Vec Ideal S1x768x128 .bf16) (i : S1x256x128.Idx) :
    @Eq EReal (k0_pay49 (F := Ideal) q k b v i)
      (rowK (fun x : Fin 768 => (∑ d : Fin 128, (q (ix3 0 (i 1) d) : EReal) * (k (ix3 0 x d) : EReal)) + (b (ix3 0 (i 1) x) : EReal)) (fun x => v (ix3 0 x (i 2)))) := by
  pointwise [k0_pay49]
  simp only [log2_scale, neg_inf32]
  rfl

/-- A load of a rectangle at one element: the whole array at the shifted index. -/
theorem ld3 {n0 n1 n2 s0 s1 s2 : ℕ} {φ : EltTy} (X : Vec Ideal ⟨3, ![n0, n1, n2]⟩ φ) (o0 o1 o2 : ℕ)
    (inb : ∀ k, ![o0, o1, o2] k + ![s0, s1, s2] k ≤ (⟨3, ![n0, n1, n2]⟩ : Shape).size k)
    (i : Fin s0) (j : Fin s1) (k : Fin s2) (i' : Fin n0) (j' : Fin n1) (k' : Fin n2) (hi : i'.val = o0 + i.val) (hj : j'.val = o1 + j.val) (hk : k'.val = o2 + k.val) :
    View.ld X (Rect.unit ![o0, o1, o2] ![s0, s1, s2] inb) (ix3 i j k) = X (ix3 i' j' k') := by
  pointwise
  rw [Shape.Idx.norm_def]
  refine congrArg X (funext fun a => ?_)
  fin_cases a
  · exact Fin.ext hi.symm
  · exact Fin.ext hj.symm
  · exact Fin.ext hk.symm

/-! The same store as the program's text splits it elsewhere. -/

theorem pay1_eq (q : Vec Ideal S1x256x128 .bf16) (k : Vec Ideal S1x768x128 .bf16) (b : Vec Ideal S1x256x768 .f32) (v : Vec Ideal S1x768x128 .bf16) :
    k0_pay1 (F := Ideal) (k0_pay131 v) (k0_pay132 (k0_pay130 q k b)) (Named.named κ "log2_scale" 0x3E0293EE#32) = k0_pay49 q k b v := rfl

theorem pay129_eq (q : Vec Ideal S1x256x128 .bf16) (k : Vec Ideal S1x768x128 .bf16) (b : Vec Ideal S1x256x768 .f32) (v : Vec Ideal S1x768x128 .bf16) :
    k0_pay129 (F := Ideal) (k0_pay128 q k) b v = k0_pay49 q k b v := rfl

theorem pay127_eq (q : Vec Ideal S1x256x128 .bf16) (k : Vec Ideal S1x768x128 .bf16) (b : Vec Ideal S1x256x768 .f32) (v : Vec Ideal S1x768x128 .bf16) :
    k0_pay127 (F := Ideal) q k b v = k0_pay49 q k b v := rfl

theorem pay126_eq (q : Vec Ideal S1x256x128 .bf16) (k : Vec Ideal S1x768x128 .bf16) (b : Vec Ideal S1x256x768 .f32) (v : Vec Ideal S1x768x128 .bf16) :
    k0_pay126 (F := Ideal) q k b v = k0_pay49 q k b v := rfl

theorem pay125_eq (q : Vec Ideal S1x256x128 .bf16) (k : Vec Ideal S1x768x128 .bf16) (b : Vec Ideal S1x256x768 .f32) (v : Vec Ideal S1x768x128 .bf16) :
    k0_pay125 (F := Ideal) (k0_pay124 q k b v) = k0_pay49 q k b v := rfl

theorem pay123_eq (q : Vec Ideal S1x256x128 .bf16) (k : Vec Ideal S1x768x128 .bf16) (b : Vec Ideal S1x256x768 .f32) (v : Vec Ideal S1x768x128 .bf16) :
    k0_pay123 (F := Ideal) (k0_pay121 v) (k0_pay122 q k b) = k0_pay49 q k b v := rfl

theorem pay120_eq (q : Vec Ideal S1x256x128 .bf16) (k : Vec Ideal S1x768x128 .bf16) (b : Vec Ideal S1x256x768 .f32) (v : Vec Ideal S1x768x128 .bf16) :
    k0_pay120 (F := Ideal) (k0_pay119 q k b) v = k0_pay49 q k b v := rfl

theorem pay118_eq (q : Vec Ideal S1x256x128 .bf16) (k : Vec Ideal S1x768x128 .bf16) (b : Vec Ideal S1x256x768 .f32) (v : Vec Ideal S1x768x128 .bf16) :
    k0_pay118 (F := Ideal) (k0_pay117 q k) b v = k0_pay49 q k b v := rfl

theorem pay116_eq (q : Vec Ideal S1x256x128 .bf16) (k : Vec Ideal S1x768x128 .bf16) (b : Vec Ideal S1x256x768 .f32) (v : Vec Ideal S1x768x128 .bf16) :
    k0_pay116 (F := Ideal) q k b v = k0_pay49 q k b v := rfl

theorem pay115_eq (q : Vec Ideal S1x256x128 .bf16) (k : Vec Ideal S1x768x128 .bf16) (b : Vec Ideal S1x256x768 .f32) (v : Vec Ideal S1x768x128 .bf16) :
    k0_pay115 (F := Ideal) q k b v = k0_pay49 q k b v := rfl

theorem pay114_eq (q : Vec Ideal S1x256x128 .bf16) (k : Vec Ideal S1x768x128 .bf16) (b : Vec Ideal S1x256x768 .f32) (v : Vec Ideal S1x768x128 .bf16) :
    k0_pay114 (F := Ideal) (k0_pay113 q k b v) = k0_pay49 q k b v := rfl

theorem pay112_eq (q : Vec Ideal S1x256x128 .bf16) (k : Vec Ideal S1x768x128 .bf16) (b : Vec Ideal S1x256x768 .f32) (v : Vec Ideal S1x768x128 .bf16) :
    k0_pay112 (F := Ideal) (k0_pay110 v) (k0_pay111 q k b) = k0_pay49 q k b v := rfl

theorem pay109_eq (q : Vec Ideal S1x256x128 .bf16) (k : Vec Ideal S1x768x128 .bf16) (b : Vec Ideal S1x256x768 .f32) (v : Vec Ideal S1x768x128 .bf16) :
    k0_pay109 (F := Ideal) (k0_pay108 q k b) v = k0_pay49 q k b v := rfl

theorem pay107_eq (q : Vec Ideal S1x256x128 .bf16) (k : Vec Ideal S1x768x128 .bf16) (b : Vec Ideal S1x256x768 .f32) (v : Vec Ideal S1x768x128 .bf16) :
    k0_pay107 (F := Ideal) (k0_pay106 q k) b v = k0_pay49 q k b v := rfl

theorem pay105_eq (q : Vec Ideal S1x256x128 .bf16) (k : Vec Ideal S1x768x128 .bf16) (b : Vec Ideal S1x256x768 .f32) (v : Vec Ideal S1x768x128 .bf16) :
    k0_pay105 (F := Ideal) q k b v = k0_pay49 q k b v := rfl

theorem pay104_eq (q : Vec Ideal S1x256x128 .bf16) (k : Vec Ideal S1x768x128 .bf16) (b : Vec Ideal S1x256x768 .f32) (v : Vec Ideal S1x768x128 .bf16) :
    k0_pay104 (F := Ideal) q k b v = k0_pay49 q k b v := rfl

theorem pay103_eq (q : Vec Ideal S1x256x128 .bf16) (k : Vec Ideal S1x768x128 .bf16) (b : Vec Ideal S1x256x768 .f32) (v : Vec Ideal S1x768x128 .bf16) :
    k0_pay103 (F := Ideal) (k0_pay102 q k b v) = k0_pay49 q k b v := rfl

theorem pay101_eq (q : Vec Ideal S1x256x128 .bf16) (k : Vec Ideal S1x768x128 .bf16) (b : Vec Ideal S1x256x768 .f32) (v : Vec Ideal S1x768x128 .bf16) :
    k0_pay101 (F := Ideal) (k0_pay99 v) (k0_pay100 q k b) = k0_pay49 q k b v := rfl

theorem pay98_eq (q : Vec Ideal S1x256x128 .bf16) (k : Vec Ideal S1x768x128 .bf16) (b : Vec Ideal S1x256x768 .f32) (v : Vec Ideal S1x768x128 .bf16) :
    k0_pay98 (F := Ideal) (k0_pay97 q k b) v = k0_pay49 q k b v := rfl

theorem pay96_eq (q : Vec Ideal S1x256x128 .bf16) (k : Vec Ideal S1x768x128 .bf16) (b : Vec Ideal S1x256x768 .f32) (v : Vec Ideal S1x768x128 .bf16) :
    k0_pay96 (F := Ideal) (k0_pay95 q k) b v = k0_pay49 q k b v := rfl

theorem pay94_eq (q : Vec Ideal S1x256x128 .bf16) (k : Vec Ideal S1x768x128 .bf16) (b : Vec Ideal S1x256x768 .f32) (v : Vec Ideal S1x768x128 .bf16) :
    k0_pay94 (F := Ideal) q k b v = k0_pay49 q k b v := rfl

theorem pay93_eq (q : Vec Ideal S1x256x128 .bf16) (k : Vec Ideal S1x768x128 .bf16) (b : Vec Ideal S1x256x768 .f32) (v : Vec Ideal S1x768x128 .bf16) :
    k0_pay93 (F := Ideal) q k b v = k0_pay49 q k b v := rfl

theorem pay92_eq (q : Vec Ideal S1x256x128 .bf16) (k : Vec Ideal S1x768x128 .bf16) (b : Vec Ideal S1x256x768 .f32) (v : Vec Ideal S1x768x128 .bf16) :
    k0_pay92 (F := Ideal) (k0_pay91 q k b v) = k0_pay49 q k b v := rfl

theorem pay90_eq (q : Vec Ideal S1x256x128 .bf16) (k : Vec Ideal S1x768x128 .bf16) (b : Vec Ideal S1x256x768 .f32) (v : Vec Ideal S1x768x128 .bf16) :
    k0_pay90 (F := Ideal) (k0_pay88 v) (k0_pay89 q k b) = k0_pay49 q k b v := rfl

theorem pay87_eq (q : Vec Ideal S1x256x128 .bf16) (k : Vec Ideal S1x768x128 .bf16) (b : Vec Ideal S1x256x768 .f32) (v : Vec Ideal S1x768x128 .bf16) :
    k0_pay87 (F := Ideal) (k0_pay86 q k b) v = k0_pay49 q k b v := rfl

theorem pay85_eq (q : Vec Ideal S1x256x128 .bf16) (k : Vec Ideal S1x768x128 .bf16) (b : Vec Ideal S1x256x768 .f32) (v : Vec Ideal S1x768x128 .bf16) :
    k0_pay85 (F := Ideal) (k0_pay84 q k) b v = k0_pay49 q k b v := rfl

theorem pay83_eq (q : Vec Ideal S1x256x128 .bf16) (k : Vec Ideal S1x768x128 .bf16) (b : Vec Ideal S1x256x768 .f32) (v : Vec Ideal S1x768x128 .bf16) :
    k0_pay83 (F := Ideal) q k b v = k0_pay49 q k b v := rfl

theorem pay82_eq (q : Vec Ideal S1x256x128 .bf16) (k : Vec Ideal S1x768x128 .bf16) (b : Vec Ideal S1x256x768 .f32) (v : Vec Ideal S1x768x128 .bf16) :
    k0_pay82 (F := Ideal) q k b v = k0_pay49 q k b v := rfl

theorem pay81_eq (q : Vec Ideal S1x256x128 .bf16) (k : Vec Ideal S1x768x128 .bf16) (b : Vec Ideal S1x256x768 .f32) (v : Vec Ideal S1x768x128 .bf16) :
    k0_pay81 (F := Ideal) (k0_pay80 q k b v) = k0_pay49 q k b v := rfl

theorem pay79_eq (q : Vec Ideal S1x256x128 .bf16) (k : Vec Ideal S1x768x128 .bf16) (b : Vec Ideal S1x256x768 .f32) (v : Vec Ideal S1x768x128 .bf16) :
    k0_pay79 (F := Ideal) (k0_pay77 v) (k0_pay78 q k b) = k0_pay49 q k b v := rfl

theorem pay76_eq (q : Vec Ideal S1x256x128 .bf16) (k : Vec Ideal S1x768x128 .bf16) (b : Vec Ideal S1x256x768 .f32) (v : Vec Ideal S1x768x128 .bf16) :
    k0_pay76 (F := Ideal) (k0_pay75 q k b) v = k0_pay49 q k b v := rfl

theorem pay74_eq (q : Vec Ideal S1x256x128 .bf16) (k : Vec Ideal S1x768x128 .bf16) (b : Vec Ideal S1x256x768 .f32) (v : Vec Ideal S1x768x128 .bf16) :
    k0_pay74 (F := Ideal) (k0_pay73 q k) b v = k0_pay49 q k b v := rfl

theorem pay72_eq (q : Vec Ideal S1x256x128 .bf16) (k : Vec Ideal S1x768x128 .bf16) (b : Vec Ideal S1x256x768 .f32) (v : Vec Ideal S1x768x128 .bf16) :
    k0_pay72 (F := Ideal) q k b v = k0_pay49 q k b v := rfl

theorem pay71_eq (q : Vec Ideal S1x256x128 .bf16) (k : Vec Ideal S1x768x128 .bf16) (b : Vec Ideal S1x256x768 .f32) (v : Vec Ideal S1x768x128 .bf16) :
    k0_pay71 (F := Ideal) q k b v = k0_pay49 q k b v := rfl

theorem pay70_eq (q : Vec Ideal S1x256x128 .bf16) (k : Vec Ideal S1x768x128 .bf16) (b : Vec Ideal S1x256x768 .f32) (v : Vec Ideal S1x768x128 .bf16) :
    k0_pay70 (F := Ideal) (k0_pay69 q k b v) = k0_pay49 q k b v := rfl

theorem pay68_eq (q : Vec Ideal S1x256x128 .bf16) (k : Vec Ideal S1x768x128 .bf16) (b : Vec Ideal S1x256x768 .f32) (v : Vec Ideal S1x768x128 .bf16) :
    k0_pay68 (F := Ideal) (k0_pay66 v) (k0_pay67 q k b) = k0_pay49 q k b v := rfl

theorem pay65_eq (q : Vec Ideal S1x256x128 .bf16) (k : Vec Ideal S1x768x128 .bf16) (b : Vec Ideal S1x256x768 .f32) (v : Vec Ideal S1x768x128 .bf16) :
    k0_pay65 (F := Ideal) (k0_pay64 q k b) v = k0_pay49 q k b v := rfl

theorem pay63_eq (q : Vec Ideal S1x256x128 .bf16) (k : Vec Ideal S1x768x128 .bf16) (b : Vec Ideal S1x256x768 .f32) (v : Vec Ideal S1x768x128 .bf16) :
    k0_pay63 (F := Ideal) (k0_pay62 q k) b v = k0_pay49 q k b v := rfl

theorem pay61_eq (q : Vec Ideal S1x256x128 .bf16) (k : Vec Ideal S1x768x128 .bf16) (b : Vec Ideal S1x256x768 .f32) (v : Vec Ideal S1x768x128 .bf16) :
    k0_pay61 (F := Ideal) q k b v = k0_pay49 q k b v := rfl

theorem pay60_eq (q : Vec Ideal S1x256x128 .bf16) (k : Vec Ideal S1x768x128 .bf16) (b : Vec Ideal S1x256x768 .f32) (v : Vec Ideal S1x768x128 .bf16) :
    k0_pay60 (F := Ideal) q k b v = k0_pay49 q k b v := rfl

theorem pay59_eq (q : Vec Ideal S1x256x128 .bf16) (k : Vec Ideal S1x768x128 .bf16) (b : Vec Ideal S1x256x768 .f32) (v : Vec Ideal S1x768x128 .bf16) :
    k0_pay59 (F := Ideal) (k0_pay58 q k b v) = k0_pay49 q k b v := rfl

theorem pay57_eq (q : Vec Ideal S1x256x128 .bf16) (k : Vec Ideal S1x768x128 .bf16) (b : Vec Ideal S1x256x768 .f32) (v : Vec Ideal S1x768x128 .bf16) :
    k0_pay57 (F := Ideal) (k0_pay55 v) (k0_pay56 q k b) = k0_pay49 q k b v := rfl

theorem pay54_eq (q : Vec Ideal S1x256x128 .bf16) (k : Vec Ideal S1x768x128 .bf16) (b : Vec Ideal S1x256x768 .f32) (v : Vec Ideal S1x768x128 .bf16) :
    k0_pay54 (F := Ideal) (k0_pay53 q k b) v = k0_pay49 q k b v := rfl

theorem pay52_eq (q : Vec Ideal S1x256x128 .bf16) (k : Vec Ideal S1x768x128 .bf16) (b : Vec Ideal S1x256x768 .f32) (v : Vec Ideal S1x768x128 .bf16) :
    k0_pay52 (F := Ideal) (k0_pay51 q k) b v = k0_pay49 q k b v := rfl

theorem pay50_eq (q : Vec Ideal S1x256x128 .bf16) (k : Vec Ideal S1x768x128 .bf16) (b : Vec Ideal S1x256x768 .f32) (v : Vec Ideal S1x768x128 .bf16) :
    k0_pay50 (F := Ideal) q k b v = k0_pay49 q k b v := rfl

theorem pay48_eq (q : Vec Ideal S1x256x128 .bf16) (k : Vec Ideal S1x768x128 .bf16) (b : Vec Ideal S1x256x768 .f32) (v : Vec Ideal S1x768x128 .bf16) :
    k0_pay48 (F := Ideal) (k0_pay47 q k b v) = k0_pay49 q k b v := rfl

theorem pay46_eq (q : Vec Ideal S1x256x128 .bf16) (k : Vec Ideal S1x768x128 .bf16) (b : Vec Ideal S1x256x768 .f32) (v : Vec Ideal S1x768x128 .bf16) :
    k0_pay46 (F := Ideal) (k0_pay44 v) (k0_pay45 q k b) = k0_pay49 q k b v := rfl

theorem pay43_eq (q : Vec Ideal S1x256x128 .bf16) (k : Vec Ideal S1x512x128 .bf16) (b : Vec Ideal S1x256x512 .f32) (v : Vec Ideal S1x512x128 .bf16) :
    k0_pay43 (F := Ideal) (k0_pay42 q k b) v = k0_pay38 q k b v := rfl

theorem pay41_eq (q : Vec Ideal S1x256x128 .bf16) (k : Vec Ideal S1x512x128 .bf16) (b : Vec Ideal S1x256x512 .f32) (v : Vec Ideal S1x512x128 .bf16) :
    k0_pay41 (F := Ideal) (k0_pay40 q k) b v = k0_pay38 q k b v := rfl

theorem pay39_eq (q : Vec Ideal S1x256x128 .bf16) (k : Vec Ideal S1x512x128 .bf16) (b : Vec Ideal S1x256x512 .f32) (v : Vec Ideal S1x512x128 .bf16) :
    k0_pay39 (F := Ideal) q k b v = k0_pay38 q k b v := rfl

theorem pay37_eq (q : Vec Ideal S1x256x128 .bf16) (k : Vec Ideal S1x512x128 .bf16) (b : Vec Ideal S1x256x512 .f32) (v : Vec Ideal S1x512x128 .bf16) :
    k0_pay37 (F := Ideal) (k0_pay36 q k b v) = k0_pay38 q k b v := rfl

theorem pay35_eq (q : Vec Ideal S1x256x128 .bf16) (k : Vec Ideal S1x512x128 .bf16) (b : Vec Ideal S1x256x512 .f32) (v : Vec Ideal S1x512x128 .bf16) :
    k0_pay35 (F := Ideal) (k0_pay33 v) (k0_pay34 q k b) = k0_pay38 q k b v := rfl

theorem pay32_eq (q : Vec Ideal S1x256x128 .bf16) (k : Vec Ideal S1x512x128 .bf16) (b : Vec Ideal S1x256x512 .f32) (v : Vec Ideal S1x512x128 .bf16) :
    k0_pay32 (F := Ideal) (k0_pay31 q k b) v = k0_pay38 q k b v := rfl

theorem pay30_eq (q : Vec Ideal S1x256x128 .bf16) (k : Vec Ideal S1x512x128 .bf16) (b : Vec Ideal S1x256x512 .f32) (v : Vec Ideal S1x512x128 .bf16) :
    k0_pay30 (F := Ideal) (k0_pay29 q k) b v = k0_pay38 q k b v := rfl

theorem pay28_eq (q : Vec Ideal S1x256x128 .bf16) (k : Vec Ideal S1x256x128 .bf16) (b : Vec Ideal S1x256x256 .f32) (v : Vec Ideal S1x256x128 .bf16) :
    k0_pay28 (F := Ideal) q k b v = k0_pay16 q k b v := rfl

theorem pay27_eq (q : Vec Ideal S1x256x128 .bf16) (k : Vec Ideal S1x256x128 .bf16) (b : Vec Ideal S1x256x256 .f32) (v : Vec Ideal S1x256x128 .bf16) :
    k0_pay27 (F := Ideal) q k b v = k0_pay16 q k b v := rfl

theorem pay26_eq (q : Vec Ideal S1x256x128 .bf16) (k : Vec Ideal S1x256x128 .bf16) (b : Vec Ideal S1x256x256 .f32) (v : Vec Ideal S1x256x128 .bf16) :
    k0_pay26 (F := Ideal) (k0_pay25 q k b v) = k0_pay16 q k b v := rfl

theorem pay24_eq (q : Vec Ideal S1x256x128 .bf16) (k : Vec Ideal S1x256x128 .bf16) (b : Vec Ideal S1x256x256 .f32) (v : Vec Ideal S1x256x128 .bf16) :
    k0_pay24 (F := Ideal) (k0_pay22 v) (k0_pay23 q k b) = k0_pay16 q k b v := rfl

theorem pay21_eq (q : Vec Ideal S1x256x128 .bf16) (k : Vec Ideal S1x256x128 .bf16) (b : Vec Ideal S1x256x256 .f32) (v : Vec Ideal S1x256x128 .bf16) :
    k0_pay21 (F := Ideal) (k0_pay20 q k b) v = k0_pay16 q k b v := rfl

theorem pay19_eq (q : Vec Ideal S1x256x128 .bf16) (k : Vec Ideal S1x256x128 .bf16) (b : Vec Ideal S1x256x256 .f32) (v : Vec Ideal S1x256x128 .bf16) :
    k0_pay19 (F := Ideal) (k0_pay18 q k) b v = k0_pay16 q k b v := rfl

theorem pay17_eq (q : Vec Ideal S1x256x128 .bf16) (k : Vec Ideal S1x256x128 .bf16) (b : Vec Ideal S1x256x256 .f32) (v : Vec Ideal S1x256x128 .bf16) :
    k0_pay17 (F := Ideal) q k b v = k0_pay16 q k b v := rfl

/-- A store at block row `r0`, head column `c0`, over the window that starts at key `k0`. -/
theorem tile_close (x0 x1 x2 : Vec Ideal S1x2048x1024 .bf16) (bs : Vec Ideal S8x256x768 .f32) (r : Fin 2048) (e : Fin 1024) {n : ℕ} (i : S1x256x128.Idx) (r0 c0 k0 m h : ℕ)
    (inb0 : ∀ k, ![0, r0, c0] k + ![1, 256, 128] k ≤ (⟨3, ![1, 2048, 1024]⟩ : Shape).size k)
    (inb1 : ∀ k, ![0, k0, c0] k + ![1, n, 128] k ≤ (⟨3, ![1, 2048, 1024]⟩ : Shape).size k)
    (b : Fin n → EReal) (hr0 : r0 = 256 * m) (hc0 : c0 = 128 * h) (hk0 : k0 + n = r0 + 256) (hk1 : k0 = 0 ∨ k0 + 512 = r0) (hn : n ≤ 768)
    (h1 : r.val = r0 + (i 1).val) (l1 : (i 1).val < 256) (h2 : e.val = c0 + (i 2).val) (l2 : (i 2).val < 128)
    (hb : ∀ j : Fin n, b j = bs (ix3 ⟨e.val / 128, by omega⟩ ⟨r.val % 256, by omega⟩ ⟨k0 + 512 + j.val - 256 * (r.val / 256), by omega⟩)) :
    rowK (fun x : Fin n => (∑ d : Fin 128, (View.ld x0 (Rect.unit ![0, r0, c0] ![1, 256, 128] inb0) (ix3 0 (i 1) d) : EReal) * (View.ld x1 (Rect.unit ![0, k0, c0] ![1, n, 128] inb1) (ix3 0 x d) : EReal)) + b x)
      (fun x => View.ld x2 (Rect.unit ![0, k0, c0] ![1, n, 128] inb1) (ix3 0 x (i 2))) = tileOut x0 x1 x2 bs r e := by
  refine rowK_tile x0 x1 x2 bs r e n (k0 + 512) (by omega) (by omega) (by omega) hn _ _ _ _ (fun d => ?_) (fun j d => ?_) hb (fun j => ?_)
  · exact ld3 (s0 := 1) (s1 := 256) (s2 := 128) _ _ _ _ _ _ _ _ _ _ _ rfl h1 (by dsimp only; omega)
  · exact ld3 (s0 := 1) (s1 := n) (s2 := 128) _ _ _ _ _ _ _ _ _ _ _ rfl (by dsimp only; omega) (by dsimp only; omega)
  · exact ld3 (s0 := 1) (s1 := n) (s2 := 128) _ _ _ _ _ _ _ _ _ _ _ rfl (by dsimp only; omega) h2

/-! The tiles read back from the scratch buffer in the step that stores them. -/

/-- A load inside the last store's rectangle reads that store's payload. -/
theorem readCov_head (v : View sig .tc .vmem S8x256x768 .f32) (h c n : ℕ) (inb : ∀ a, ![h, 0, 0] a + ![1, 256, 768] a ≤ S8x256x768.size a)
    (inb' : ∀ a, ![h, 0, c] a + ![1, 256, n] a ≤ S8x256x768.size a) (w : S1x256x768.Idx → EReal) (L : List (View.Piece (Elt Ideal) S8x256x768 .f32))
    (i : Fin 256) (j : Fin n) (j' : Fin 768) (hj : j'.val = c + j.val) :
    v.readCov ((⟨Rect.unit (s := S8x256x768) ![h, 0, 0] ![1, 256, 768] inb, w⟩ : View.Piece (Elt Ideal) S8x256x768 .f32) :: L)
      (Rect.unit (s := S8x256x768) ![h, 0, c] ![1, 256, n] inb').toLoadRect (ix3 0 i j : (⟨3, ![1, 256, n]⟩ : Shape).Idx) = w (ix3 0 i j') := by
  rw [View.readCov_eq_canon']
  refine Eq.trans (congrArg (View.canon _) ?_) (View.canon_cons_emb (Val := Elt Ideal) (e := .f32) (Rect.unit (s := S8x256x768) ![h, 0, 0] ![1, 256, 768] inb) w L (ix3 0 i j' : (⟨3, ![1, 256, 768]⟩ : Shape).Idx))
  funext a; apply Fin.ext
  fin_cases a
  · rfl
  · rfl
  · show c + 1 * j.val = 0 + 1 * j'.val; omega

theorem bias_load (x3 : Vec Ideal S8x1x1024 .f32) (h : ℕ) (inb : ∀ a, ![h, 0, 0] a + ![1, 1, 1024] a ≤ S8x1x1024.size a) (i i' : Fin 256) (j j' : Fin 768) (h' : Fin 8)
    (hh : h'.val = h) (hi : i' = i) (hj : j' = j) :
    biasV (fun k => View.ld x3 (Rect.unit ![h, 0, 0] ![1, 1, 1024] inb) (ix3 0 0 k)) i j = biasT x3 (ix3 h' i' j') := by
  subst hi hj
  unfold biasT
  refine congrArg (fun g => biasV g i' j') (funext fun k => ?_)
  exact ld3 (s0 := 1) (s1 := 1) (s2 := 1024) _ _ _ _ _ _ _ _ _ _ _ (show h'.val = h + 0 from hh) rfl (Nat.zero_add _).symm

theorem head0_at (x : Vec Ideal S1x1x1024 .f32) (r : Fin 256) (j : Fin 768) :
    k0_pay6 (F := Ideal) k0_pay2 k0_pay3 k0_pay4 x (ix3 0 r j) = biasV (fun i => x (ix3 0 0 i)) r j := pay6_at x r j

theorem head1_at (x : Vec Ideal S1x1x1024 .f32) (r : Fin 256) (j : Fin 768) :
    k0_pay7 (F := Ideal) k0_pay2 k0_pay3 k0_pay4 x (ix3 0 r j) = biasV (fun i => x (ix3 0 0 i)) r j := pay6_at x r j

theorem head2_at (x : Vec Ideal S1x1x1024 .f32) (r : Fin 256) (j : Fin 768) :
    k0_pay8 (F := Ideal) (k0_pay5 k0_pay2 k0_pay3 k0_pay4) x (ix3 0 r j) = biasV (fun i => x (ix3 0 0 i)) r j := pay8_at x r j

theorem head3_at (x : Vec Ideal S1x1x1024 .f32) (r : Fin 256) (j : Fin 768) :
    k0_pay9 (F := Ideal) (k0_pay5 k0_pay2 k0_pay3 k0_pay4) x (ix3 0 r j) = biasV (fun i => x (ix3 0 0 i)) r j := pay8_at x r j

theorem head4_at (x : Vec Ideal S1x1x1024 .f32) (r : Fin 256) (j : Fin 768) :
    k0_pay11 (F := Ideal) (k0_pay10 (k0_pay5 k0_pay2 k0_pay3 k0_pay4) x) (ix3 0 r j) = biasV (fun i => x (ix3 0 0 i)) r j := pay8_at x r j

theorem head5_at (x : Vec Ideal S1x1x1024 .f32) (r : Fin 256) (j : Fin 768) :
    k0_pay12 (F := Ideal) (k0_pay5 k0_pay2 k0_pay3 k0_pay4) x (ix3 0 r j) = biasV (fun i => x (ix3 0 0 i)) r j := pay8_at x r j

theorem head6_at (x : Vec Ideal S1x1x1024 .f32) (r : Fin 256) (j : Fin 768) :
    k0_pay13 (F := Ideal) (k0_pay5 k0_pay2 k0_pay3 k0_pay4) x (ix3 0 r j) = biasV (fun i => x (ix3 0 0 i)) r j := pay8_at x r j

theorem head7_at (x : Vec Ideal S1x1x1024 .f32) (r : Fin 256) (j : Fin 768) :
    k0_pay15 (F := Ideal) (k0_pay5 k0_pay2 k0_pay3 k0_pay4) (k0_pay14 x) (ix3 0 r j) = biasV (fun i => x (ix3 0 0 i)) r j := pay8_at x r j

end Cert.Band
end
-- ==== Proof.OutA.lean ====
module

public import proofs.«01_k».proof.Proof.Bias
public import proofs.«01_k».proof.Proof.Tile
public import Idealize.ShloMosaic.Lib.Pipeline.ReadBack

@[expose] public section

set_option maxRecDepth 16384

noncomputable section

namespace Cert.Band

open Cert.KernelIdeal Cert.KernelIdeal.Gen Idealize.ShloMosaic Idealize.ShloMosaic.TcCoe Idealize.SL.Sem

set_option maxHeartbeats 2000000 in
theorem outA (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S8x1x1024 .f32) (harg5 : arg5.IsWhole) (arg6 : Memref sig .tc .vmem S1x2048x1024 .bf16) (harg6 : arg6.IsWhole) (arg7 : Memref sig .tc .vmem S8x256x768 .f32) (harg7 : arg7.IsWhole) (hc0 : cond0_0 i)
    (x0 : Vec Ideal S1x2048x1024 .bf16) (x1 : Vec Ideal S1x2048x1024 .bf16) (x2 : Vec Ideal S1x2048x1024 .bf16) (x3 : Vec Ideal S8x1x1024 .f32) (r : Fin 2048) (e : Fin 1024) :
    @Eq EReal (out0_A_4 c i arg2 harg2 arg3 harg3 arg4 harg4 arg5 harg5 arg6 harg6 arg7 harg7 hc0 x0 x1 x2 x3 (ix3 0 r e)) (tileOut x0 x1 x2 (biasT x3) r e) := by
  frame_open
  simp (disch := decide) only [↓ View.readCov_skip]
  frame_out
  canon_tiles x h
  case piece0 =>
    rw [pay1_eq]; exact (unit768 _ _ _ _ x).trans (tile_close x0 x1 x2 (biasT x3) r e x 1792 896 1280 7 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece1 =>
    rw [pay129_eq]; exact (unit768 _ _ _ _ x).trans (tile_close x0 x1 x2 (biasT x3) r e x 1792 768 1280 7 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece2 =>
    rw [pay127_eq]; exact (unit768 _ _ _ _ x).trans (tile_close x0 x1 x2 (biasT x3) r e x 1792 640 1280 7 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece3 =>
    rw [pay126_eq]; exact (unit768 _ _ _ _ x).trans (tile_close x0 x1 x2 (biasT x3) r e x 1792 512 1280 7 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece4 =>
    rw [pay125_eq]; exact (unit768 _ _ _ _ x).trans (tile_close x0 x1 x2 (biasT x3) r e x 1792 384 1280 7 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece5 =>
    rw [pay123_eq]; exact (unit768 _ _ _ _ x).trans (tile_close x0 x1 x2 (biasT x3) r e x 1792 256 1280 7 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece6 =>
    rw [pay120_eq]; exact (unit768 _ _ _ _ x).trans (tile_close x0 x1 x2 (biasT x3) r e x 1792 128 1280 7 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece7 =>
    rw [pay118_eq]; exact (unit768 _ _ _ _ x).trans (tile_close x0 x1 x2 (biasT x3) r e x 1792 0 1280 7 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece8 =>
    rw [pay116_eq]; exact (unit768 _ _ _ _ x).trans (tile_close x0 x1 x2 (biasT x3) r e x 1536 896 1024 6 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece9 =>
    rw [pay115_eq]; exact (unit768 _ _ _ _ x).trans (tile_close x0 x1 x2 (biasT x3) r e x 1536 768 1024 6 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece10 =>
    rw [pay114_eq]; exact (unit768 _ _ _ _ x).trans (tile_close x0 x1 x2 (biasT x3) r e x 1536 640 1024 6 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece11 =>
    rw [pay112_eq]; exact (unit768 _ _ _ _ x).trans (tile_close x0 x1 x2 (biasT x3) r e x 1536 512 1024 6 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece12 =>
    rw [pay109_eq]; exact (unit768 _ _ _ _ x).trans (tile_close x0 x1 x2 (biasT x3) r e x 1536 384 1024 6 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece13 =>
    rw [pay107_eq]; exact (unit768 _ _ _ _ x).trans (tile_close x0 x1 x2 (biasT x3) r e x 1536 256 1024 6 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece14 =>
    rw [pay105_eq]; exact (unit768 _ _ _ _ x).trans (tile_close x0 x1 x2 (biasT x3) r e x 1536 128 1024 6 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece15 =>
    rw [pay104_eq]; exact (unit768 _ _ _ _ x).trans (tile_close x0 x1 x2 (biasT x3) r e x 1536 0 1024 6 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece16 =>
    rw [pay103_eq]; exact (unit768 _ _ _ _ x).trans (tile_close x0 x1 x2 (biasT x3) r e x 1280 896 768 5 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece17 =>
    rw [pay101_eq]; exact (unit768 _ _ _ _ x).trans (tile_close x0 x1 x2 (biasT x3) r e x 1280 768 768 5 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece18 =>
    rw [pay98_eq]; exact (unit768 _ _ _ _ x).trans (tile_close x0 x1 x2 (biasT x3) r e x 1280 640 768 5 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece19 =>
    rw [pay96_eq]; exact (unit768 _ _ _ _ x).trans (tile_close x0 x1 x2 (biasT x3) r e x 1280 512 768 5 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece20 =>
    rw [pay94_eq]; exact (unit768 _ _ _ _ x).trans (tile_close x0 x1 x2 (biasT x3) r e x 1280 384 768 5 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece21 =>
    rw [pay93_eq]; exact (unit768 _ _ _ _ x).trans (tile_close x0 x1 x2 (biasT x3) r e x 1280 256 768 5 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece22 =>
    rw [pay92_eq]; exact (unit768 _ _ _ _ x).trans (tile_close x0 x1 x2 (biasT x3) r e x 1280 128 768 5 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece23 =>
    rw [pay90_eq]; exact (unit768 _ _ _ _ x).trans (tile_close x0 x1 x2 (biasT x3) r e x 1280 0 768 5 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece24 =>
    rw [pay87_eq]; exact (unit768 _ _ _ _ x).trans (tile_close x0 x1 x2 (biasT x3) r e x 1024 896 512 4 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece25 =>
    rw [pay85_eq]; exact (unit768 _ _ _ _ x).trans (tile_close x0 x1 x2 (biasT x3) r e x 1024 768 512 4 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece26 =>
    rw [pay83_eq]; exact (unit768 _ _ _ _ x).trans (tile_close x0 x1 x2 (biasT x3) r e x 1024 640 512 4 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece27 =>
    rw [pay82_eq]; exact (unit768 _ _ _ _ x).trans (tile_close x0 x1 x2 (biasT x3) r e x 1024 512 512 4 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece28 =>
    rw [pay81_eq]; exact (unit768 _ _ _ _ x).trans (tile_close x0 x1 x2 (biasT x3) r e x 1024 384 512 4 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece29 =>
    rw [pay79_eq]; exact (unit768 _ _ _ _ x).trans (tile_close x0 x1 x2 (biasT x3) r e x 1024 256 512 4 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece30 =>
    rw [pay76_eq]; exact (unit768 _ _ _ _ x).trans (tile_close x0 x1 x2 (biasT x3) r e x 1024 128 512 4 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece31 =>
    rw [pay74_eq]; exact (unit768 _ _ _ _ x).trans (tile_close x0 x1 x2 (biasT x3) r e x 1024 0 512 4 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece32 =>
    rw [pay72_eq]; exact (unit768 _ _ _ _ x).trans (tile_close x0 x1 x2 (biasT x3) r e x 768 896 256 3 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece33 =>
    rw [pay71_eq]; exact (unit768 _ _ _ _ x).trans (tile_close x0 x1 x2 (biasT x3) r e x 768 768 256 3 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece34 =>
    rw [pay70_eq]; exact (unit768 _ _ _ _ x).trans (tile_close x0 x1 x2 (biasT x3) r e x 768 640 256 3 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece35 =>
    rw [pay68_eq]; exact (unit768 _ _ _ _ x).trans (tile_close x0 x1 x2 (biasT x3) r e x 768 512 256 3 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece36 =>
    rw [pay65_eq]; exact (unit768 _ _ _ _ x).trans (tile_close x0 x1 x2 (biasT x3) r e x 768 384 256 3 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece37 =>
    rw [pay63_eq]; exact (unit768 _ _ _ _ x).trans (tile_close x0 x1 x2 (biasT x3) r e x 768 256 256 3 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece38 =>
    rw [pay61_eq]; exact (unit768 _ _ _ _ x).trans (tile_close x0 x1 x2 (biasT x3) r e x 768 128 256 3 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece39 =>
    rw [pay60_eq]; exact (unit768 _ _ _ _ x).trans (tile_close x0 x1 x2 (biasT x3) r e x 768 0 256 3 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece40 =>
    rw [pay59_eq]; exact (unit768 _ _ _ _ x).trans (tile_close x0 x1 x2 (biasT x3) r e x 512 896 0 2 7 _ _ _ rfl rfl rfl (by decide) (by decide) (h1.trans (by omega)) x1_lt (h2.trans (by omega)) x2_lt (fun j => (readCov_head _ 7 0 768 _ _ _ _ _ _ ⟨0 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece41 =>
    rw [pay57_eq]; exact (unit768 _ _ _ _ x).trans (tile_close x0 x1 x2 (biasT x3) r e x 512 768 0 2 6 _ _ _ rfl rfl rfl (by decide) (by decide) (h1.trans (by omega)) x1_lt (h2.trans (by omega)) x2_lt (fun j => (readCov_head _ 6 0 768 _ _ _ _ _ _ ⟨0 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece42 =>
    rw [pay54_eq]; exact (unit768 _ _ _ _ x).trans (tile_close x0 x1 x2 (biasT x3) r e x 512 640 0 2 5 _ _ _ rfl rfl rfl (by decide) (by decide) (h1.trans (by omega)) x1_lt (h2.trans (by omega)) x2_lt (fun j => (readCov_head _ 5 0 768 _ _ _ _ _ _ ⟨0 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece43 =>
    rw [pay52_eq]; exact (unit768 _ _ _ _ x).trans (tile_close x0 x1 x2 (biasT x3) r e x 512 512 0 2 4 _ _ _ rfl rfl rfl (by decide) (by decide) (h1.trans (by omega)) x1_lt (h2.trans (by omega)) x2_lt (fun j => (readCov_head _ 4 0 768 _ _ _ _ _ _ ⟨0 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece44 =>
    rw [pay50_eq]; exact (unit768 _ _ _ _ x).trans (tile_close x0 x1 x2 (biasT x3) r e x 512 384 0 2 3 _ _ _ rfl rfl rfl (by decide) (by decide) (h1.trans (by omega)) x1_lt (h2.trans (by omega)) x2_lt (fun j => (readCov_head _ 3 0 768 _ _ _ _ _ _ ⟨0 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece45 =>
    exact (unit768 _ _ _ _ x).trans (tile_close x0 x1 x2 (biasT x3) r e x 512 256 0 2 2 _ _ _ rfl rfl rfl (by decide) (by decide) (h1.trans (by omega)) x1_lt (h2.trans (by omega)) x2_lt (fun j => (readCov_head _ 2 0 768 _ _ _ _ _ _ ⟨0 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece46 =>
    rw [pay48_eq]; exact (unit768 _ _ _ _ x).trans (tile_close x0 x1 x2 (biasT x3) r e x 512 128 0 2 1 _ _ _ rfl rfl rfl (by decide) (by decide) (h1.trans (by omega)) x1_lt (h2.trans (by omega)) x2_lt (fun j => (readCov_head _ 1 0 768 _ _ _ _ _ _ ⟨0 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece47 =>
    rw [pay46_eq]; exact (unit768 _ _ _ _ x).trans (tile_close x0 x1 x2 (biasT x3) r e x 512 0 0 2 0 _ _ _ rfl rfl rfl (by decide) (by decide) (h1.trans (by omega)) x1_lt (h2.trans (by omega)) x2_lt (fun j => (readCov_head _ 0 0 768 _ _ _ _ _ _ ⟨0 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece48 =>
    rw [pay43_eq]; exact (unit512 _ _ _ _ x).trans (tile_close x0 x1 x2 (biasT x3) r e x 256 896 0 1 7 _ _ _ rfl rfl rfl (by decide) (by decide) (h1.trans (by omega)) x1_lt (h2.trans (by omega)) x2_lt (fun j => (readCov_head _ 7 256 512 _ _ _ _ _ _ ⟨256 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece49 =>
    rw [pay41_eq]; exact (unit512 _ _ _ _ x).trans (tile_close x0 x1 x2 (biasT x3) r e x 256 768 0 1 6 _ _ _ rfl rfl rfl (by decide) (by decide) (h1.trans (by omega)) x1_lt (h2.trans (by omega)) x2_lt (fun j => (readCov_head _ 6 256 512 _ _ _ _ _ _ ⟨256 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece50 =>
    rw [pay39_eq]; exact (unit512 _ _ _ _ x).trans (tile_close x0 x1 x2 (biasT x3) r e x 256 640 0 1 5 _ _ _ rfl rfl rfl (by decide) (by decide) (h1.trans (by omega)) x1_lt (h2.trans (by omega)) x2_lt (fun j => (readCov_head _ 5 256 512 _ _ _ _ _ _ ⟨256 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece51 =>
    exact (unit512 _ _ _ _ x).trans (tile_close x0 x1 x2 (biasT x3) r e x 256 512 0 1 4 _ _ _ rfl rfl rfl (by decide) (by decide) (h1.trans (by omega)) x1_lt (h2.trans (by omega)) x2_lt (fun j => (readCov_head _ 4 256 512 _ _ _ _ _ _ ⟨256 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece52 =>
    rw [pay37_eq]; exact (unit512 _ _ _ _ x).trans (tile_close x0 x1 x2 (biasT x3) r e x 256 384 0 1 3 _ _ _ rfl rfl rfl (by decide) (by decide) (h1.trans (by omega)) x1_lt (h2.trans (by omega)) x2_lt (fun j => (readCov_head _ 3 256 512 _ _ _ _ _ _ ⟨256 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece53 =>
    rw [pay35_eq]; exact (unit512 _ _ _ _ x).trans (tile_close x0 x1 x2 (biasT x3) r e x 256 256 0 1 2 _ _ _ rfl rfl rfl (by decide) (by decide) (h1.trans (by omega)) x1_lt (h2.trans (by omega)) x2_lt (fun j => (readCov_head _ 2 256 512 _ _ _ _ _ _ ⟨256 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece54 =>
    rw [pay32_eq]; exact (unit512 _ _ _ _ x).trans (tile_close x0 x1 x2 (biasT x3) r e x 256 128 0 1 1 _ _ _ rfl rfl rfl (by decide) (by decide) (h1.trans (by omega)) x1_lt (h2.trans (by omega)) x2_lt (fun j => (readCov_head _ 1 256 512 _ _ _ _ _ _ ⟨256 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece55 =>
    rw [pay30_eq]; exact (unit512 _ _ _ _ x).trans (tile_close x0 x1 x2 (biasT x3) r e x 256 0 0 1 0 _ _ _ rfl rfl rfl (by decide) (by decide) (h1.trans (by omega)) x1_lt (h2.trans (by omega)) x2_lt (fun j => (readCov_head _ 0 256 512 _ _ _ _ _ _ ⟨256 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))
  case piece56 =>
    rw [pay28_eq]; exact (unit256 _ _ _ _ x).trans (tile_close x0 x1 x2 (biasT x3) r e x 0 896 0 0 7 _ _ _ rfl rfl rfl (by decide) (by decide) (h1.trans (by omega)) x1_lt (h2.trans (by omega)) x2_lt (fun j => (readCov_head _ 7 512 256 _ _ _ _ _ _ ⟨512 + j.val, by omega⟩ rfl).trans ((head7_at _ _ _).trans (bias_load x3 7 _ _ _ _ _ _ (by dsimp only [ix3] at h2 ⊢; omega) (Fin.ext (by dsimp only [ix3] at h1 ⊢; omega)) (Fin.ext (by dsimp only [ix3] at h1 ⊢; omega))))))
  case piece57 =>
    rw [pay27_eq]; exact (unit256 _ _ _ _ x).trans (tile_close x0 x1 x2 (biasT x3) r e x 0 768 0 0 6 _ _ _ rfl rfl rfl (by decide) (by decide) (h1.trans (by omega)) x1_lt (h2.trans (by omega)) x2_lt (fun j => (readCov_head _ 6 512 256 _ _ _ _ _ _ ⟨512 + j.val, by omega⟩ rfl).trans ((head6_at _ _ _).trans (bias_load x3 6 _ _ _ _ _ _ (by dsimp only [ix3] at h2 ⊢; omega) (Fin.ext (by dsimp only [ix3] at h1 ⊢; omega)) (Fin.ext (by dsimp only [ix3] at h1 ⊢; omega))))))
  case piece58 =>
    rw [pay26_eq]; exact (unit256 _ _ _ _ x).trans (tile_close x0 x1 x2 (biasT x3) r e x 0 640 0 0 5 _ _ _ rfl rfl rfl (by decide) (by decide) (h1.trans (by omega)) x1_lt (h2.trans (by omega)) x2_lt (fun j => (readCov_head _ 5 512 256 _ _ _ _ _ _ ⟨512 + j.val, by omega⟩ rfl).trans ((head5_at _ _ _).trans (bias_load x3 5 _ _ _ _ _ _ (by dsimp only [ix3] at h2 ⊢; omega) (Fin.ext (by dsimp only [ix3] at h1 ⊢; omega)) (Fin.ext (by dsimp only [ix3] at h1 ⊢; omega))))))
  case piece59 =>
    rw [pay24_eq]; exact (unit256 _ _ _ _ x).trans (tile_close x0 x1 x2 (biasT x3) r e x 0 512 0 0 4 _ _ _ rfl rfl rfl (by decide) (by decide) (h1.trans (by omega)) x1_lt (h2.trans (by omega)) x2_lt (fun j => (readCov_head _ 4 512 256 _ _ _ _ _ _ ⟨512 + j.val, by omega⟩ rfl).trans ((head4_at _ _ _).trans (bias_load x3 4 _ _ _ _ _ _ (by dsimp only [ix3] at h2 ⊢; omega) (Fin.ext (by dsimp only [ix3] at h1 ⊢; omega)) (Fin.ext (by dsimp only [ix3] at h1 ⊢; omega))))))
  case piece60 =>
    rw [pay21_eq]; exact (unit256 _ _ _ _ x).trans (tile_close x0 x1 x2 (biasT x3) r e x 0 384 0 0 3 _ _ _ rfl rfl rfl (by decide) (by decide) (h1.trans (by omega)) x1_lt (h2.trans (by omega)) x2_lt (fun j => (readCov_head _ 3 512 256 _ _ _ _ _ _ ⟨512 + j.val, by omega⟩ rfl).trans ((head3_at _ _ _).trans (bias_load x3 3 _ _ _ _ _ _ (by dsimp only [ix3] at h2 ⊢; omega) (Fin.ext (by dsimp only [ix3] at h1 ⊢; omega)) (Fin.ext (by dsimp only [ix3] at h1 ⊢; omega))))))
  case piece61 =>
    rw [pay19_eq]; exact (unit256 _ _ _ _ x).trans (tile_close x0 x1 x2 (biasT x3) r e x 0 256 0 0 2 _ _ _ rfl rfl rfl (by decide) (by decide) (h1.trans (by omega)) x1_lt (h2.trans (by omega)) x2_lt (fun j => (readCov_head _ 2 512 256 _ _ _ _ _ _ ⟨512 + j.val, by omega⟩ rfl).trans ((head2_at _ _ _).trans (bias_load x3 2 _ _ _ _ _ _ (by dsimp only [ix3] at h2 ⊢; omega) (Fin.ext (by dsimp only [ix3] at h1 ⊢; omega)) (Fin.ext (by dsimp only [ix3] at h1 ⊢; omega))))))
  case piece62 =>
    rw [pay17_eq]; exact (unit256 _ _ _ _ x).trans (tile_close x0 x1 x2 (biasT x3) r e x 0 128 0 0 1 _ _ _ rfl rfl rfl (by decide) (by decide) (h1.trans (by omega)) x1_lt (h2.trans (by omega)) x2_lt (fun j => (readCov_head _ 1 512 256 _ _ _ _ _ _ ⟨512 + j.val, by omega⟩ rfl).trans ((head1_at _ _ _).trans (bias_load x3 1 _ _ _ _ _ _ (by dsimp only [ix3] at h2 ⊢; omega) (Fin.ext (by dsimp only [ix3] at h1 ⊢; omega)) (Fin.ext (by dsimp only [ix3] at h1 ⊢; omega))))))
  case piece63 =>
    exact (unit256 _ _ _ _ x).trans (tile_close x0 x1 x2 (biasT x3) r e x 0 0 0 0 0 _ _ _ rfl rfl rfl (by decide) (by decide) (h1.trans (by omega)) x1_lt (h2.trans (by omega)) x2_lt (fun j => (readCov_head _ 0 512 256 _ _ _ _ _ _ ⟨512 + j.val, by omega⟩ rfl).trans ((head0_at _ _ _).trans (bias_load x3 0 _ _ _ _ _ _ (by dsimp only [ix3] at h2 ⊢; omega) (Fin.ext (by dsimp only [ix3] at h1 ⊢; omega)) (Fin.ext (by dsimp only [ix3] at h1 ⊢; omega))))))

end Cert.Band
end
-- ==== Proof.OutB.lean ====
module

public import proofs.«01_k».proof.Proof.Bias
public import proofs.«01_k».proof.Proof.Tile
public import Idealize.ShloMosaic.Lib.Pipeline.ReadBack

@[expose] public section

set_option maxRecDepth 16384

noncomputable section

namespace Cert.Band

open Cert.KernelIdeal Cert.KernelIdeal.Gen Idealize.ShloMosaic Idealize.ShloMosaic.TcCoe Idealize.SL.Sem

set_option maxHeartbeats 2000000 in
theorem outB (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S8x1x1024 .f32) (harg5 : arg5.IsWhole) (arg6 : Memref sig .tc .vmem S1x2048x1024 .bf16) (harg6 : arg6.IsWhole) (arg7 : Memref sig .tc .vmem S8x256x768 .f32) (harg7 : arg7.IsWhole) (hc0 : ¬cond0_0 i)
    (x0 : Vec Ideal S1x2048x1024 .bf16) (x1 : Vec Ideal S1x2048x1024 .bf16) (x2 : Vec Ideal S1x2048x1024 .bf16) (x3 : Vec Ideal S8x1x1024 .f32) (xs0 : Vec Ideal S8x256x768 .f32) (r : Fin 2048) (e : Fin 1024) :
    @Eq EReal (out0_B_4 c i arg2 harg2 arg3 harg3 arg4 harg4 arg5 harg5 arg6 harg6 arg7 harg7 hc0 x0 x1 x2 x3 xs0 (ix3 0 r e)) (tileOut x0 x1 x2 xs0 r e) := by
  frame_out
  canon_tiles x h
  case piece0 =>
    rw [pay1_eq]; exact (unit768 _ _ _ _ x).trans (tile_close x0 x1 x2 xs0 r e x 1792 896 1280 7 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece1 =>
    rw [pay129_eq]; exact (unit768 _ _ _ _ x).trans (tile_close x0 x1 x2 xs0 r e x 1792 768 1280 7 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece2 =>
    rw [pay127_eq]; exact (unit768 _ _ _ _ x).trans (tile_close x0 x1 x2 xs0 r e x 1792 640 1280 7 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece3 =>
    rw [pay126_eq]; exact (unit768 _ _ _ _ x).trans (tile_close x0 x1 x2 xs0 r e x 1792 512 1280 7 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece4 =>
    rw [pay125_eq]; exact (unit768 _ _ _ _ x).trans (tile_close x0 x1 x2 xs0 r e x 1792 384 1280 7 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece5 =>
    rw [pay123_eq]; exact (unit768 _ _ _ _ x).trans (tile_close x0 x1 x2 xs0 r e x 1792 256 1280 7 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece6 =>
    rw [pay120_eq]; exact (unit768 _ _ _ _ x).trans (tile_close x0 x1 x2 xs0 r e x 1792 128 1280 7 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece7 =>
    rw [pay118_eq]; exact (unit768 _ _ _ _ x).trans (tile_close x0 x1 x2 xs0 r e x 1792 0 1280 7 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece8 =>
    rw [pay116_eq]; exact (unit768 _ _ _ _ x).trans (tile_close x0 x1 x2 xs0 r e x 1536 896 1024 6 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece9 =>
    rw [pay115_eq]; exact (unit768 _ _ _ _ x).trans (tile_close x0 x1 x2 xs0 r e x 1536 768 1024 6 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece10 =>
    rw [pay114_eq]; exact (unit768 _ _ _ _ x).trans (tile_close x0 x1 x2 xs0 r e x 1536 640 1024 6 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece11 =>
    rw [pay112_eq]; exact (unit768 _ _ _ _ x).trans (tile_close x0 x1 x2 xs0 r e x 1536 512 1024 6 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece12 =>
    rw [pay109_eq]; exact (unit768 _ _ _ _ x).trans (tile_close x0 x1 x2 xs0 r e x 1536 384 1024 6 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece13 =>
    rw [pay107_eq]; exact (unit768 _ _ _ _ x).trans (tile_close x0 x1 x2 xs0 r e x 1536 256 1024 6 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece14 =>
    rw [pay105_eq]; exact (unit768 _ _ _ _ x).trans (tile_close x0 x1 x2 xs0 r e x 1536 128 1024 6 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece15 =>
    rw [pay104_eq]; exact (unit768 _ _ _ _ x).trans (tile_close x0 x1 x2 xs0 r e x 1536 0 1024 6 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece16 =>
    rw [pay103_eq]; exact (unit768 _ _ _ _ x).trans (tile_close x0 x1 x2 xs0 r e x 1280 896 768 5 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece17 =>
    rw [pay101_eq]; exact (unit768 _ _ _ _ x).trans (tile_close x0 x1 x2 xs0 r e x 1280 768 768 5 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece18 =>
    rw [pay98_eq]; exact (unit768 _ _ _ _ x).trans (tile_close x0 x1 x2 xs0 r e x 1280 640 768 5 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece19 =>
    rw [pay96_eq]; exact (unit768 _ _ _ _ x).trans (tile_close x0 x1 x2 xs0 r e x 1280 512 768 5 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece20 =>
    rw [pay94_eq]; exact (unit768 _ _ _ _ x).trans (tile_close x0 x1 x2 xs0 r e x 1280 384 768 5 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece21 =>
    rw [pay93_eq]; exact (unit768 _ _ _ _ x).trans (tile_close x0 x1 x2 xs0 r e x 1280 256 768 5 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece22 =>
    rw [pay92_eq]; exact (unit768 _ _ _ _ x).trans (tile_close x0 x1 x2 xs0 r e x 1280 128 768 5 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece23 =>
    rw [pay90_eq]; exact (unit768 _ _ _ _ x).trans (tile_close x0 x1 x2 xs0 r e x 1280 0 768 5 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece24 =>
    rw [pay87_eq]; exact (unit768 _ _ _ _ x).trans (tile_close x0 x1 x2 xs0 r e x 1024 896 512 4 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece25 =>
    rw [pay85_eq]; exact (unit768 _ _ _ _ x).trans (tile_close x0 x1 x2 xs0 r e x 1024 768 512 4 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece26 =>
    rw [pay83_eq]; exact (unit768 _ _ _ _ x).trans (tile_close x0 x1 x2 xs0 r e x 1024 640 512 4 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece27 =>
    rw [pay82_eq]; exact (unit768 _ _ _ _ x).trans (tile_close x0 x1 x2 xs0 r e x 1024 512 512 4 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece28 =>
    rw [pay81_eq]; exact (unit768 _ _ _ _ x).trans (tile_close x0 x1 x2 xs0 r e x 1024 384 512 4 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece29 =>
    rw [pay79_eq]; exact (unit768 _ _ _ _ x).trans (tile_close x0 x1 x2 xs0 r e x 1024 256 512 4 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece30 =>
    rw [pay76_eq]; exact (unit768 _ _ _ _ x).trans (tile_close x0 x1 x2 xs0 r e x 1024 128 512 4 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece31 =>
    rw [pay74_eq]; exact (unit768 _ _ _ _ x).trans (tile_close x0 x1 x2 xs0 r e x 1024 0 512 4 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece32 =>
    rw [pay72_eq]; exact (unit768 _ _ _ _ x).trans (tile_close x0 x1 x2 xs0 r e x 768 896 256 3 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece33 =>
    rw [pay71_eq]; exact (unit768 _ _ _ _ x).trans (tile_close x0 x1 x2 xs0 r e x 768 768 256 3 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece34 =>
    rw [pay70_eq]; exact (unit768 _ _ _ _ x).trans (tile_close x0 x1 x2 xs0 r e x 768 640 256 3 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece35 =>
    rw [pay68_eq]; exact (unit768 _ _ _ _ x).trans (tile_close x0 x1 x2 xs0 r e x 768 512 256 3 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece36 =>
    rw [pay65_eq]; exact (unit768 _ _ _ _ x).trans (tile_close x0 x1 x2 xs0 r e x 768 384 256 3 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece37 =>
    rw [pay63_eq]; exact (unit768 _ _ _ _ x).trans (tile_close x0 x1 x2 xs0 r e x 768 256 256 3 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece38 =>
    rw [pay61_eq]; exact (unit768 _ _ _ _ x).trans (tile_close x0 x1 x2 xs0 r e x 768 128 256 3 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece39 =>
    rw [pay60_eq]; exact (unit768 _ _ _ _ x).trans (tile_close x0 x1 x2 xs0 r e x 768 0 256 3 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece40 =>
    rw [pay59_eq]; exact (unit768 _ _ _ _ x).trans (tile_close x0 x1 x2 xs0 r e x 512 896 0 2 7 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece41 =>
    rw [pay57_eq]; exact (unit768 _ _ _ _ x).trans (tile_close x0 x1 x2 xs0 r e x 512 768 0 2 6 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece42 =>
    rw [pay54_eq]; exact (unit768 _ _ _ _ x).trans (tile_close x0 x1 x2 xs0 r e x 512 640 0 2 5 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece43 =>
    rw [pay52_eq]; exact (unit768 _ _ _ _ x).trans (tile_close x0 x1 x2 xs0 r e x 512 512 0 2 4 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece44 =>
    rw [pay50_eq]; exact (unit768 _ _ _ _ x).trans (tile_close x0 x1 x2 xs0 r e x 512 384 0 2 3 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece45 =>
    exact (unit768 _ _ _ _ x).trans (tile_close x0 x1 x2 xs0 r e x 512 256 0 2 2 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece46 =>
    rw [pay48_eq]; exact (unit768 _ _ _ _ x).trans (tile_close x0 x1 x2 xs0 r e x 512 128 0 2 1 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece47 =>
    rw [pay46_eq]; exact (unit768 _ _ _ _ x).trans (tile_close x0 x1 x2 xs0 r e x 512 0 0 2 0 _ _ _ rfl rfl rfl (by decide) (by decide) (h1.trans (by omega)) x1_lt (h2.trans (by omega)) x2_lt (fun j => ld3 (s0 := 1) (s1 := 256) (s2 := 768) _ _ _ _ _ _ _ _ _ _ _ (by dsimp only [ix3] at h2 ⊢; omega) (by dsimp only [ix3] at h1 ⊢; omega) (by dsimp only [ix3] at h1 ⊢; omega)))
  case piece48 =>
    rw [pay43_eq]; exact (unit512 _ _ _ _ x).trans (tile_close x0 x1 x2 xs0 r e x 256 896 0 1 7 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece49 =>
    rw [pay41_eq]; exact (unit512 _ _ _ _ x).trans (tile_close x0 x1 x2 xs0 r e x 256 768 0 1 6 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece50 =>
    rw [pay39_eq]; exact (unit512 _ _ _ _ x).trans (tile_close x0 x1 x2 xs0 r e x 256 640 0 1 5 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece51 =>
    exact (unit512 _ _ _ _ x).trans (tile_close x0 x1 x2 xs0 r e x 256 512 0 1 4 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece52 =>
    rw [pay37_eq]; exact (unit512 _ _ _ _ x).trans (tile_close x0 x1 x2 xs0 r e x 256 384 0 1 3 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece53 =>
    rw [pay35_eq]; exact (unit512 _ _ _ _ x).trans (tile_close x0 x1 x2 xs0 r e x 256 256 0 1 2 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece54 =>
    rw [pay32_eq]; exact (unit512 _ _ _ _ x).trans (tile_close x0 x1 x2 xs0 r e x 256 128 0 1 1 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece55 =>
    rw [pay30_eq]; exact (unit512 _ _ _ _ x).trans (tile_close x0 x1 x2 xs0 r e x 256 0 0 1 0 _ _ _ rfl rfl rfl (by decide) (by decide) (h1.trans (by omega)) x1_lt (h2.trans (by omega)) x2_lt (fun j => ld3 (s0 := 1) (s1 := 256) (s2 := 512) _ _ _ _ _ _ _ _ _ _ _ (by dsimp only [ix3] at h2 ⊢; omega) (by dsimp only [ix3] at h1 ⊢; omega) (by dsimp only [ix3] at h1 ⊢; omega)))
  case piece56 =>
    rw [pay28_eq]; exact (unit256 _ _ _ _ x).trans (tile_close x0 x1 x2 xs0 r e x 0 896 0 0 7 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece57 =>
    rw [pay27_eq]; exact (unit256 _ _ _ _ x).trans (tile_close x0 x1 x2 xs0 r e x 0 768 0 0 6 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece58 =>
    rw [pay26_eq]; exact (unit256 _ _ _ _ x).trans (tile_close x0 x1 x2 xs0 r e x 0 640 0 0 5 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece59 =>
    rw [pay24_eq]; exact (unit256 _ _ _ _ x).trans (tile_close x0 x1 x2 xs0 r e x 0 512 0 0 4 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece60 =>
    rw [pay21_eq]; exact (unit256 _ _ _ _ x).trans (tile_close x0 x1 x2 xs0 r e x 0 384 0 0 3 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece61 =>
    rw [pay19_eq]; exact (unit256 _ _ _ _ x).trans (tile_close x0 x1 x2 xs0 r e x 0 256 0 0 2 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece62 =>
    rw [pay17_eq]; exact (unit256 _ _ _ _ x).trans (tile_close x0 x1 x2 xs0 r e x 0 128 0 0 1 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))
  case piece63 =>
    exact (unit256 _ _ _ _ x).trans (tile_close x0 x1 x2 xs0 r e x 0 0 0 0 0 _ _ _ rfl rfl rfl (by decide) (by decide) (h1.trans (by omega)) x1_lt (h2.trans (by omega)) x2_lt (fun j => ld3 (s0 := 1) (s1 := 256) (s2 := 256) _ _ _ _ _ _ _ _ _ _ _ (by dsimp only [ix3] at h2 ⊢; omega) (by dsimp only [ix3] at h1 ⊢; omega) (by dsimp only [ix3] at h1 ⊢; omega)))

end Cert.Band
end
-- ==== Proof.Final.lean ====
module

public import proofs.«01_k».proof.Proof.OutA
public import proofs.«01_k».proof.Proof.OutB
public import Idealize.ShloMosaic.Lib.Pipeline.ValueKit.Held

@[expose] public section

set_option maxRecDepth 16384

noncomputable section

namespace Cert.Band

open Cert.KernelIdeal Cert.KernelIdeal.Gen Cert.KernelIdeal.Value Idealize.ShloMosaic Idealize.ShloMosaic.TcCoe Idealize.SL.Sem

theorem biasT_in (g : Vec Ideal S8x1x1024 .f32) (h : Fin 8) (r : Fin 256) (j : Fin 768) (hp : r.val / 64 ≤ j.val / 64 ∧ j.val / 64 ≤ r.val / 64 + 8) :
    @Eq EReal (biasT g (ix3 h r j)) (@HMul.hMul EReal EReal EReal _ (g (ix3 h 0 ⟨j.val + 255 - r.val, by omega⟩)) ((134217728 / 11863283 : ℝ) : EReal)) := if_pos hp

theorem biasT_out (g : Vec Ideal S8x1x1024 .f32) (h : Fin 8) (r : Fin 256) (j : Fin 768) (hp : ¬(r.val / 64 ≤ j.val / 64 ∧ j.val / 64 ≤ r.val / 64 + 8)) :
    @Eq EReal (biasT g (ix3 h r j)) ⊥ := if_neg hp

/-- A head's stored tile is the tile of its row of biases. -/
theorem soutA_head (x3 : Vec Ideal S8x1x1024 .f32) (h : Fin 8) (r : Fin 256) (j : Fin 768) (n : ℕ) (inb : ∀ a, ![n, 0, 0] a + ![1, 1, 1024] a ≤ S8x1x1024.size a)
    (x : S1x256x768.Idx) (P : S1x256x768.Idx → EReal)
    (hP : ∀ (r : Fin 256) (j : Fin 768), P (ix3 0 r j) = biasV (fun k => View.ld x3 (Rect.unit ![n, 0, 0] ![1, 1, 1024] inb) (ix3 0 0 k)) r j)
    (h0 : h.val = n + (x 0).val) (l0 : (x 0).val < 1) (h1 : r.val = (x 1).val) (h2 : j.val = (x 2).val) : P x = biasT x3 (ix3 h r j) := by
  have e : x = ix3 0 r j := by
    funext a
    match a with
    | ⟨0, _⟩ => exact Fin.ext (by show (x 0).val = 0; omega)
    | ⟨1, _⟩ => exact Fin.ext h1.symm
    | ⟨2, _⟩ => exact Fin.ext h2.symm
  rw [e, hP]
  exact bias_load x3 n inb _ _ _ _ _ (by omega) rfl rfl

set_option maxHeartbeats 2000000 in
theorem soutA (c : Dev nD) (i : grid0.Coords) (arg2 : Memref sig .tc .vmem S1x2048x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S8x1x1024 .f32) (harg5 : arg5.IsWhole) (arg6 : Memref sig .tc .vmem S1x2048x1024 .bf16) (harg6 : arg6.IsWhole) (arg7 : Memref sig .tc .vmem S8x256x768 .f32) (harg7 : arg7.IsWhole) (hc0 : cond0_0 i)
    (x0 : Vec Ideal S1x2048x1024 .bf16) (x1 : Vec Ideal S1x2048x1024 .bf16) (x2 : Vec Ideal S1x2048x1024 .bf16) (x3 : Vec Ideal S8x1x1024 .f32) (h : Fin 8) (r : Fin 256) (j : Fin 768) :
    @Eq EReal (sout0_A_0 c i arg2 harg2 arg3 harg3 arg4 harg4 arg5 harg5 arg6 harg6 arg7 harg7 hc0 x0 x1 x2 x3 (ix3 h r j)) (biasT x3 (ix3 h r j)) := by
  frame_out
  canon_tiles x h
  case piece0 => exact soutA_head x3 h r j 7 _ x _ (head7_at _) (h0.trans (by omega)) x0_lt h1 h2
  case piece1 => exact soutA_head x3 h r j 6 _ x _ (head6_at _) (h0.trans (by omega)) x0_lt h1 h2
  case piece2 => exact soutA_head x3 h r j 5 _ x _ (head5_at _) (h0.trans (by omega)) x0_lt h1 h2
  case piece3 => exact soutA_head x3 h r j 4 _ x _ (head4_at _) (h0.trans (by omega)) x0_lt h1 h2
  case piece4 => exact soutA_head x3 h r j 3 _ x _ (head3_at _) (h0.trans (by omega)) x0_lt h1 h2
  case piece5 => exact soutA_head x3 h r j 2 _ x _ (head2_at _) (h0.trans (by omega)) x0_lt h1 h2
  case piece6 => exact soutA_head x3 h r j 1 _ x _ (head1_at _) (h0.trans (by omega)) x0_lt h1 h2
  case piece7 => exact soutA_head x3 h r j 0 _ x _ (head0_at _) (h0.trans (by omega)) x0_lt h1 h2

variable (m : (ℓ : Loc nD τ sig) → Buf (Elt Ideal) ℓ)

theorem start_word' (n k : ℕ) (hn : n ≤ k) (hk : k < 4096) : min (BitVec.toInt (BitVec.ofNat 32 n)).toNat k = n := by
  have : (BitVec.toInt (BitVec.ofNat 32 n)).toNat = n := by
    rw [BitVec.toInt_eq_toNat_of_lt (by rw [BitVec.toNat_ofNat]; omega), BitVec.toNat_ofNat]; omega
  rw [this]; omega

theorem relRow {α : Type} (X : S32x513.Idx → α) (I : IVec S1024x1 32) (h : Fin 32) (k : Fin 1024) (n : ℕ) (hn : n < 513)
    (h0 : I (ix2 k 0) = BitVec.ofNat 32 n) :
    Host.gather gather_S32x513_S1024x1_S32x1024_0_1_n_n_1_1_321 X I (ix2 h k) = X (ix2 h ⟨n, hn⟩) := by
  unfold Host.gather
  refine congrArg X (funext fun a => Fin.ext ?_)
  have hs : gather_S32x513_S1024x1_S32x1024_0_1_n_n_1_1_321.siIdx (ix2 h k) (0 : Fin 1) = ix2 k 0 := by
    funext e
    match e with
    | ⟨0, _⟩ => rfl
    | ⟨1, _⟩ => rfl
  show GatherDims.start _ _ _ a + GatherDims.batchCoord _ _ a + GatherDims.offCoord _ _ a = _
  rw [GatherDims.batchCoord_eq_zero _ _ _ List.not_mem_nil, Nat.add_zero]
  match a with
  | ⟨0, _⟩ =>
    exact (congrArg (fun n => n + h.val) (dif_neg (show ¬ (0 : Fin 2) ∈ ([1] : List (Fin 2)) by decide))).trans (Nat.zero_add _)
  | ⟨1, _⟩ =>
    exact (congrArg (fun n => n + 0) ((dif_pos (show (1 : Fin 2) ∈ ([1] : List (Fin 2)) by decide)).trans (congrArg (fun z => min (BitVec.toInt (I z)).toNat (513 - 1)) hs))).trans
      (by rw [h0, start_word' _ _ (by omega) (by omega)]; rfl)

/-- The host's index of the relative bias, as a word, at every lane of a head's row. -/
theorem rel_word : ∀ k : Fin 1024,
    Scalar.select (IntOp.cmpi CmpIPredicate.slt (IntOp.addi (IntOp.minsi 256#32 (IntOp.maxsi 4294967040#32 (IntOp.subi 767#32 (BitVec.ofNat 32 k.val)))) 256#32) 0#32)
      (IntOp.addi (IntOp.addi (IntOp.minsi 256#32 (IntOp.maxsi 4294967040#32 (IntOp.subi 767#32 (BitVec.ofNat 32 k.val)))) 256#32) 513#32)
      (IntOp.addi (IntOp.minsi 256#32 (IntOp.maxsi 4294967040#32 (IntOp.subi 767#32 (BitVec.ofNat 32 k.val)))) 256#32)
      = BitVec.ofNat 32 (min (1023 - k.val) 512) := by decide +kernel

/-- The rows of biases at the call's entry. -/
theorem V_rel (c : Dev nD) (h : Fin 32) (k : Fin 1024) : @Eq EReal (V m c main_v13 (ix3 h 0 k)) (m ((c.tc : Thread nD τ).loc main_arg1) (ix2 h ⟨min (1023 - k.val) 512, by omega⟩)) := by
  show StableHlo.after (List.flatten [hostOps0, hostOps0_1, hostOps0_2]) (fun b => m (c, b)) (Proc.devRef .tc main_v13) (ix3 h 0 k) = _
  simp only [List.flatten_cons, List.flatten_nil, List.append_nil, List.cons_append, List.nil_append]
  entry_read
  pointwise
  refine relRow _ _ h k _ _ ?_
  simp only [StableHlo.TRef.ofBuf_toBuf]
  have e2 : ∀ a b d (X : IVec S1024 32), (StableHlo.TRef.of main_v2 a b d : StableHlo.TRef sig ⟨S1024, .i32⟩).ofBuf (Val := Elt Ideal) X = X := fun _ _ _ _ => rfl
  have e3 : ∀ a b d (X : IVec S1024 32), (StableHlo.TRef.of main_v3 a b d : StableHlo.TRef sig ⟨S1024, .i32⟩).toBuf (Val := Elt Ideal) X = X := fun _ _ _ _ => rfl
  have e0 : ∀ a b d (X : IVec S_ 32), (StableHlo.TRef.of main_c_0 a b d : StableHlo.TRef sig ⟨S_, .i32⟩).ofBuf (Val := Elt Ideal) X = X := fun _ _ _ _ => rfl
  have e1 : ∀ a b d (X : IVec S_ 32), (StableHlo.TRef.of main_c_1 a b d : StableHlo.TRef sig ⟨S_, .i32⟩).ofBuf (Val := Elt Ideal) X = X := fun _ _ _ _ => rfl
  simp only [e0, e1, e2, e3]
  pointwise
  exact rel_word k

theorem idx0 : ∀ t : Fin cfg0.N, (win0_0.index t (0 : Fin 3) = t.val % 8 ∧ win0_0.index t (1 : Fin 3) = 0 ∧ win0_0.index t (2 : Fin 3) = t.val / 8)
    ∧ (win0_1.index t (0 : Fin 3) = t.val % 8 ∧ win0_1.index t (1 : Fin 3) = 0 ∧ win0_1.index t (2 : Fin 3) = 4 + t.val / 8)
    ∧ (win0_2.index t (0 : Fin 3) = t.val % 8 ∧ win0_2.index t (1 : Fin 3) = 0 ∧ win0_2.index t (2 : Fin 3) = 8 + t.val / 8)
    ∧ (win0_3.index t (0 : Fin 3) = t.val / 8 ∧ win0_3.index t (1 : Fin 3) = 0 ∧ win0_3.index t (2 : Fin 3) = 0) :=
  (by decide +kernel : ∀ t : Fin grid0.N, (win0_0.index t (0 : Fin 3) = t.val % 8 ∧ win0_0.index t (1 : Fin 3) = 0 ∧ win0_0.index t (2 : Fin 3) = t.val / 8)
    ∧ (win0_1.index t (0 : Fin 3) = t.val % 8 ∧ win0_1.index t (1 : Fin 3) = 0 ∧ win0_1.index t (2 : Fin 3) = 4 + t.val / 8)
    ∧ (win0_2.index t (0 : Fin 3) = t.val % 8 ∧ win0_2.index t (1 : Fin 3) = 0 ∧ win0_2.index t (2 : Fin 3) = 8 + t.val / 8)
    ∧ (win0_3.index t (0 : Fin 3) = t.val / 8 ∧ win0_3.index t (1 : Fin 3) = 0 ∧ win0_3.index t (2 : Fin 3) = 0))

theorem blk0 (c : Dev nD) (t : Fin cfg0.N) (r : Fin 2048) (k : Fin 1024) (b : Fin 8) (e : Fin 12288) (hb : b.val = t.val % 8) (he : e.val = 1024 * (t.val / 8) + k.val) :
    @Eq EReal (iblk m c 0 t (ix3 0 r k)) (m ((c.tc : Thread nD τ).loc main_arg0) (ix3 b r e)) := by
  obtain ⟨⟨i0, i1, i2⟩, -⟩ := idx0 t
  refine Eq.trans (congrArg (V m c main_arg0) (?_ : _ = ix3 b r e)) (congrFun (V_main_arg0 m c) _)
  funext a
  match a with
  | ⟨0, _⟩ => exact Fin.ext (by blk_simp [i0]; omega)
  | ⟨1, _⟩ => exact Fin.ext (by blk_simp [i1])
  | ⟨2, _⟩ => exact Fin.ext (by blk_simp [i2]; omega)

theorem blk1 (c : Dev nD) (t : Fin cfg0.N) (r : Fin 2048) (k : Fin 1024) (b : Fin 8) (e : Fin 12288) (hb : b.val = t.val % 8) (he : e.val = 4096 + (1024 * (t.val / 8) + k.val)) :
    @Eq EReal (iblk m c 1 t (ix3 0 r k)) (m ((c.tc : Thread nD τ).loc main_arg0) (ix3 b r e)) := by
  obtain ⟨-, ⟨i0, i1, i2⟩, -⟩ := idx0 t
  refine Eq.trans (congrArg (V m c main_arg0) (?_ : _ = ix3 b r e)) (congrFun (V_main_arg0 m c) _)
  funext a
  match a with
  | ⟨0, _⟩ => exact Fin.ext (by blk_simp [i0]; omega)
  | ⟨1, _⟩ => exact Fin.ext (by blk_simp [i1])
  | ⟨2, _⟩ => exact Fin.ext (by blk_simp [i2]; omega)

theorem blk2 (c : Dev nD) (t : Fin cfg0.N) (r : Fin 2048) (k : Fin 1024) (b : Fin 8) (e : Fin 12288) (hb : b.val = t.val % 8) (he : e.val = 8192 + (1024 * (t.val / 8) + k.val)) :
    @Eq EReal (iblk m c 2 t (ix3 0 r k)) (m ((c.tc : Thread nD τ).loc main_arg0) (ix3 b r e)) := by
  obtain ⟨-, -, ⟨i0, i1, i2⟩, -⟩ := idx0 t
  refine Eq.trans (congrArg (V m c main_arg0) (?_ : _ = ix3 b r e)) (congrFun (V_main_arg0 m c) _)
  funext a
  match a with
  | ⟨0, _⟩ => exact Fin.ext (by blk_simp [i0]; omega)
  | ⟨1, _⟩ => exact Fin.ext (by blk_simp [i1])
  | ⟨2, _⟩ => exact Fin.ext (by blk_simp [i2]; omega)

theorem blk3 (c : Dev nD) (t : Fin cfg0.N) (g : Fin 8) (k : Fin 1024) (h : Fin 32) (hh : h.val = 8 * (t.val / 8) + g.val) :
    @Eq EReal (iblk m c 3 t (ix3 g 0 k)) (m ((c.tc : Thread nD τ).loc main_arg1) (ix2 h ⟨min (1023 - k.val) 512, by omega⟩)) := by
  obtain ⟨-, -, -, i0, i1, i2⟩ := idx0 t
  refine Eq.trans (congrArg (V m c main_v13) (?_ : _ = ix3 h 0 k)) (V_rel m c h k)
  funext a
  match a with
  | ⟨0, _⟩ => exact Fin.ext (by blk_simp [i0]; omega)
  | ⟨1, _⟩ => exact Fin.ext (by blk_simp [i1])
  | ⟨2, _⟩ => exact Fin.ext (by blk_simp [i2])

/-- The stored tiles after a step: the tiles of the head group's biases. -/
theorem tiles (c : Dev nD) (t : Fin cfg0.N) : (outsAt0 m c t.val t.isLt).2 = biasT (iblk m c 3 t) := by
  have hA : ∀ u : Fin cfg0.N, u.val % 8 = 0 → ∀ y : S8x256x768.Idx, (outsAt0 m c u.val u.isLt).2 y = biasT (iblk m c 3 u) y := fun u hu y => by
    rw [outsAt0_A m c u hu, eq_ix3 y]
    dsimp only
    have E := soutA c (grid0.coords u) (ms0_0 u) (hs0_0 u) (ms0_1 u) (hs0_1 u) (ms0_2 u) (hs0_2 u) (ms0_3 u) (hs0_3 u) (ms0_4 u) (hs0_4 u) scM0_0 (Memref.isWhole_whole _) ((hcond0_0 u).mpr hu) (iblk m c 0 u) (iblk m c 1 u) (iblk m c 2 u) (iblk m c 3 u) (y 0) (y 1) (y 2)
    exact E
  have hB : ∀ u : Fin cfg0.N, ¬u.val % 8 = 0 → ∀ y : S8x256x768.Idx, (outsAt0 m c u.val u.isLt).2 y = (outsAt0 m c (u.val - 1) (Nat.lt_of_le_of_lt (Nat.sub_le _ _) u.isLt)).2 y := fun u hu y => by
    exact (congrFun (congrArg Prod.snd (outsAt0_B m c u hu)) y).trans rfl
  funext y
  rw [Pipeline.eq_of_write_hold_apply (fun n h => (outsAt0 m c n h).2) 8 (fun u => biasT (iblk m c 3 u)) hA hB t y]
  have hN := lt_of_lt_of_eq t.isLt (show cfg0.N = 32 from N_0)
  refine congrArg (fun g => biasV g (y 1) (y 2)) (funext fun k => ?_)
  have ha : (y 0).val < 8 := (y 0).isLt
  exact (blk3 m c _ (y 0) k ⟨8 * (t.val / 8) + (y 0).val, by omega⟩ (by dsimp only; omega)).trans (blk3 m c t (y 0) k _ rfl).symm

theorem tile_prev (c : Dev nD) (t : Fin cfg0.N) (h0 : ¬t.val % 8 = 0) : biasT (iblk m c 3 ⟨t.val - 1, Nat.lt_of_le_of_lt (Nat.sub_le _ _) t.isLt⟩) = biasT (iblk m c 3 t) := by
  have hN := lt_of_lt_of_eq t.isLt (show cfg0.N = 32 from N_0)
  funext y
  refine congrArg (fun g => biasV g (y 1) (y 2)) (funext fun k => ?_)
  have ha : (y 0).val < 8 := (y 0).isLt
  exact (blk3 m c _ (y 0) k ⟨8 * (t.val / 8) + (y 0).val, by omega⟩ (by dsimp only; omega)).trans (blk3 m c t (y 0) k _ rfl).symm

/-- A step's result from its blocks. -/
theorem step (c : Dev nD) (t : Fin cfg0.N) (r : Fin 2048) (e : Fin 1024) :
    @Eq EReal ((outsAt0 m c t.val t.isLt).1 (ix3 0 r e)) (tileOut (iblk m c 0 t) (iblk m c 1 t) (iblk m c 2 t) (biasT (iblk m c 3 t)) r e) := by
  by_cases h0 : t.val % 8 = 0
  · rw [outsAt0_A m c t h0]
    dsimp only
    have E := outA c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t) r e
    exact E
  · rw [outsAt0_B m c t h0]
    dsimp only
    have E := (outB c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2 r e)
    refine E.trans ?_
    rw [tiles m c ⟨t.val - 1, Nat.lt_of_le_of_lt (Nat.sub_le _ _) t.isLt⟩, tile_prev m c t h0]

theorem step_spec (c : Dev nD) (t : Fin cfg0.N) (r : Fin 2048) (e : Fin 1024) (b : Fin 8) (E : Fin 4096) (hb : b.val = t.val % 8) (hE : E.val = 1024 * (t.val / 8) + e.val) :
    tileOut (iblk m c 0 t) (iblk m c 1 t) (iblk m c 2 t) (biasT (iblk m c 3 t)) r e
      = spec (m ((c.tc : Thread nD τ).loc main_arg0)) (m ((c.tc : Thread nD τ).loc main_arg1)) b r E := by
  have hT : tileT (iblk m c 0 t) (iblk m c 1 t) (biasT (iblk m c 3 t)) r ⟨e.val / 128, by omega⟩
      = keyT (m ((c.tc : Thread nD τ).loc main_arg0)) (m ((c.tc : Thread nD τ).loc main_arg1)) b r ⟨E.val / 128, by omega⟩ := by
    funext p
    unfold tileT keyT
    by_cases hp : 256 * (r.val / 256) ≤ p ∧ p < 256 * (r.val / 256) + 768 ∧ 512 ≤ p
    · rw [dif_pos hp]
      by_cases hq : 64 * (r.val / 64) ≤ p ∧ p < 64 * (r.val / 64) + 576
      · rw [dif_pos ⟨hq, hp.2.2⟩]
        refine congrArg₂ (· + ·) (Finset.sum_congr rfl fun d _ => congrArg₂ (· * ·) ?_ ?_) ?_
        · exact blk0 m c t r _ b _ hb (by dsimp only; omega)
        · exact blk1 m c t _ _ b _ hb (by dsimp only; omega)
        · rw [biasT_in _ _ _ _ (by dsimp only; omega)]
          refine congrArg (· * _) ((blk3 m c t _ _ ⟨E.val / 128, by omega⟩ (by dsimp only; omega)).trans (congrArg _ (congrArg (ix2 _) (Fin.ext ?_))))
          dsimp only
          omega
      · rw [dif_neg (fun h => hq h.1)]
        refine Eq.trans (congrArg (_ + ·) (?_ : _ = (⊥ : EReal))) (EReal.add_bot _)
        exact biasT_out _ _ _ _ (fun h => hq (by dsimp only at h; omega))
    · rw [dif_neg hp, dif_neg (fun h => hp ⟨by omega, by omega, h.2⟩)]
  have hV : tileV (iblk m c 2 t) e = valV (m ((c.tc : Thread nD τ).loc main_arg0)) b E := by
    funext p
    unfold tileV valV
    by_cases hp : 512 ≤ p ∧ p < 2560
    · rw [dif_pos hp, dif_pos hp]
      exact blk2 m c t _ _ b _ hb (by dsimp only; omega)
    · rw [dif_neg hp, dif_neg hp]
  unfold tileOut spec
  rw [hT, hV]

/-- The array the kernel leaves. -/
theorem kernel_spec (c : Dev nD) (b : Fin 8) (r : Fin 2048) (E : Fin 4096) :
    @Eq EReal (G4 m c (ix3 b r E)) (spec (m ((c.tc : Thread nD τ).loc main_arg0)) (m ((c.tc : Thread nD τ).loc main_arg1)) b r E) := by
  have hpt : pt4Of (ix3 b r E) = b.val + 8 * (E.val / 1024) := by
    show 1 * (b.val / 1 - 0) + 8 * (r.val / 2048 - 0) + 8 * (E.val / 1024 - 0) = _
    omega
  have hN : cfg0.N = 32 := N_0
  have hlt : pt4Of (ix3 b r E) < cfg0.N := by rw [hpt, hN]; omega
  unfold G4
  rw [dif_pos hlt, ← outsAt0_sweep m c _ hlt]
  have hl : loc4Of (ix3 b r E) = ix3 0 r ⟨E.val % 1024, by omega⟩ := by
    funext a
    match a with
    | ⟨0, _⟩ => exact Fin.ext (by show b.val % 1 = 0; omega)
    | ⟨1, _⟩ => exact Fin.ext (by show r.val % 2048 = r.val; omega)
    | ⟨2, _⟩ => rfl
  rw [hl]
  exact (step m c ⟨_, hlt⟩ r _).trans (step_spec m c ⟨_, hlt⟩ r _ b E (by show b.val = pt4Of (ix3 b r E) % 8; rw [hpt]; omega) (by show E.val = 1024 * (pt4Of (ix3 b r E) / 8) + E.val % 1024; rw [hpt]; omega))

end Cert.Band
end
-- ==== Proof.RefReads.lean ====
module

public import proofs.«01_k».proof.Proof.Gen.ReferenceIdeal.Run
public import Idealize.ShloMosaic.Lib.Pipeline.ValueKit

@[expose] public section

set_option maxRecDepth 16384

noncomputable section

namespace Cert.Band

open Cert.ReferenceIdeal Cert.ReferenceIdeal.Value Idealize.ShloMosaic Idealize.ShloMosaic.TcCoe Idealize.SL.Sem

/-! The three gathers of the reference, each read at one index. -/

/-- The start table of the reference's window gathers: entry `c` starts at row `64 c`; `n` is the wrap of a negative start. -/
@[reducible] def starts (n : BitVec 32) : IVec S32x4 32 :=
  concatenate S32x4 1
    [⟨S32x1, broadcastInDim S32x1 ![] Gen.bcast_S_S32x1 (constantI S_ 32 0#32)⟩,
      ⟨S32x1, broadcastInDim S32x1 ![0] Gen.bcast_S32_S32x1_0
          (select
            (cmpi CmpIPredicate.slt (muli (iotaInDim S32 32 0) (broadcastInDim S32 ![] Gen.bcast_S_S32 (constantI S_ 32 64#32)))
              (broadcastInDim S32 ![] Gen.bcast_S_S32 (constantI S_ 32 0#32)))
            (addi (muli (iotaInDim S32 32 0) (broadcastInDim S32 ![] Gen.bcast_S_S32 (constantI S_ 32 64#32)))
              (broadcastInDim S32 ![] Gen.bcast_S_S32 (constantI S_ 32 n)))
            (muli (iotaInDim S32 32 0) (broadcastInDim S32 ![] Gen.bcast_S_S32 (constantI S_ 32 64#32))))⟩,
      ⟨S32x1, broadcastInDim S32x1 ![] Gen.bcast_S_S32x1 (constantI S_ 32 0#32)⟩,
      ⟨S32x1, broadcastInDim S32x1 ![] Gen.bcast_S_S32x1 (constantI S_ 32 0#32)⟩]
    Gen.concatenates_S32x1_S32x1_S32x1_S32x1_S32x4_d1

theorem mul64_word (c : Fin 32) (n : BitVec 32) :
    Scalar.select (IntOp.cmpi CmpIPredicate.slt (BitVec.ofNat 32 c.val * 64#32) 0#32) (BitVec.ofNat 32 c.val * 64#32 + n) (BitVec.ofNat 32 c.val * 64#32)
      = BitVec.ofNat 32 (64 * c.val) := by
  have h : BitVec.ofNat 32 c.val * 64#32 = BitVec.ofNat 32 (64 * c.val) := by
    rw [← BitVec.ofNat_mul, Nat.mul_comm]
  have h2 : ∀ c : Fin 32, IntOp.cmpi CmpIPredicate.slt (BitVec.ofNat 32 c.val * 64#32) 0#32 = 0#1 := by decide +kernel
  rw [h2 c, h]; rfl

theorem starts0 (n : BitVec 32) (c : Fin 32) : starts n (ix2 c 0) = 0#32 := by
  pointwise [starts]
theorem starts1 (n : BitVec 32) (c : Fin 32) : starts n (ix2 c 1) = BitVec.ofNat 32 (64 * c.val) := by
  refine Eq.trans ?_ (mul64_word c n)
  pointwise [starts]
  rfl
theorem starts2 (n : BitVec 32) (c : Fin 32) : starts n (ix2 c 2) = 0#32 := by
  pointwise [starts]
theorem starts3 (n : BitVec 32) (c : Fin 32) : starts n (ix2 c 3) = 0#32 := by
  pointwise [starts]

theorem start_word (x b : ℕ) (hx : x ≤ b) (hb : b < 2 ^ 31) : min (BitVec.ofNat 32 x).toInt.toNat b = x := by
  have h1 : (BitVec.ofNat 32 x).toNat = x := by rw [BitVec.toNat_ofNat]; exact Nat.mod_eq_of_lt (by omega)
  have h : (BitVec.ofNat 32 x).toInt = (x : ℤ) := by
    rw [BitVec.toInt_eq_toNat_of_lt (by rw [h1]; omega), h1]
  rw [h]; simp only [Int.toNat_natCast]; exact Nat.min_eq_left hx

theorem win2560 {α : Type} (X : S8x2560x32x128.Idx → α) (I : IVec S32x4 32) (c : Fin 32) (b : Fin 8) (w : Fin 576) (h : Fin 32) (d : Fin 128)
    (h0 : I (ix2 c 0) = 0#32) (h1 : I (ix2 c 1) = BitVec.ofNat 32 (64 * c.val)) (h2 : I (ix2 c 2) = 0#32) (h3 : I (ix2 c 3) = 0#32) :
    Host.gather gather_S8x2560x32x128_S32x4_S32x8x576x32x128_1234_n_n_n_0123_1_857632128 X I (ix5 c b w h d)
      = X (ix4 b ⟨64 * c.val + w.val, by omega⟩ h d) := by
  unfold Host.gather
  refine congrArg X (funext fun a => Fin.ext ?_)
  have hs : ∀ k : Fin 4, gather_S8x2560x32x128_S32x4_S32x8x576x32x128_1234_n_n_n_0123_1_857632128.siIdx (ix5 c b w h d) k = ix2 c k := fun k => by
    funext e
    match e with
    | ⟨0, _⟩ => rfl
    | ⟨1, _⟩ => rfl
  show GatherDims.start _ _ _ a + GatherDims.batchCoord _ _ a + GatherDims.offCoord _ _ a = _
  rw [GatherDims.batchCoord_eq_zero _ _ _ List.not_mem_nil, Nat.add_zero]
  have hm : ∀ k : Fin 4, k ∈ ([0, 1, 2, 3] : List (Fin 4)) := by decide
  have hw : 64 * c.val ≤ 2560 - 576 := by omega
  match a with
  | ⟨0, _⟩ =>
    exact (congrArg (fun n => n + b.val) ((dif_pos (hm 0)).trans (congrArg (fun z => min (BitVec.toInt (I z)).toNat (8 - 8)) (hs 0)))).trans (by rw [h0, start_word 0 0 (by omega) (by omega)]; exact Nat.zero_add _)
  | ⟨1, _⟩ =>
    exact (congrArg (fun n => n + w.val) ((dif_pos (hm 1)).trans (congrArg (fun z => min (BitVec.toInt (I z)).toNat (2560 - 576)) (hs 1)))).trans (by rw [h1, start_word _ _ hw (by omega)]; rfl)
  | ⟨2, _⟩ =>
    exact (congrArg (fun n => n + h.val) ((dif_pos (hm 2)).trans (congrArg (fun z => min (BitVec.toInt (I z)).toNat (32 - 32)) (hs 2)))).trans (by rw [h2, start_word 0 0 (by omega) (by omega)]; exact Nat.zero_add _)
  | ⟨3, _⟩ =>
    exact (congrArg (fun n => n + d.val) ((dif_pos (hm 3)).trans (congrArg (fun z => min (BitVec.toInt (I z)).toNat (128 - 128)) (hs 3)))).trans (by rw [h3, start_word 0 0 (by omega) (by omega)]; exact Nat.zero_add _)

theorem win2048 {α : Type} (X : S8x2048x32x128.Idx → α) (I : IVec S32x4 32) (c : Fin 32) (b : Fin 8) (w : Fin 64) (h : Fin 32) (d : Fin 128)
    (h0 : I (ix2 c 0) = 0#32) (h1 : I (ix2 c 1) = BitVec.ofNat 32 (64 * c.val)) (h2 : I (ix2 c 2) = 0#32) (h3 : I (ix2 c 3) = 0#32) :
    Host.gather gather_S8x2048x32x128_S32x4_S32x8x64x32x128_1234_n_n_n_0123_1_86432128 X I (ix5 c b w h d)
      = X (ix4 b ⟨64 * c.val + w.val, by omega⟩ h d) := by
  unfold Host.gather
  refine congrArg X (funext fun a => Fin.ext ?_)
  have hs : ∀ k : Fin 4, gather_S8x2048x32x128_S32x4_S32x8x64x32x128_1234_n_n_n_0123_1_86432128.siIdx (ix5 c b w h d) k = ix2 c k := fun k => by
    funext e
    match e with
    | ⟨0, _⟩ => rfl
    | ⟨1, _⟩ => rfl
  show GatherDims.start _ _ _ a + GatherDims.batchCoord _ _ a + GatherDims.offCoord _ _ a = _
  rw [GatherDims.batchCoord_eq_zero _ _ _ List.not_mem_nil, Nat.add_zero]
  have hm : ∀ k : Fin 4, k ∈ ([0, 1, 2, 3] : List (Fin 4)) := by decide
  have hw : 64 * c.val ≤ 2048 - 64 := by omega
  match a with
  | ⟨0, _⟩ =>
    exact (congrArg (fun n => n + b.val) ((dif_pos (hm 0)).trans (congrArg (fun z => min (BitVec.toInt (I z)).toNat (8 - 8)) (hs 0)))).trans (by rw [h0, start_word 0 0 (by omega) (by omega)]; exact Nat.zero_add _)
  | ⟨1, _⟩ =>
    exact (congrArg (fun n => n + w.val) ((dif_pos (hm 1)).trans (congrArg (fun z => min (BitVec.toInt (I z)).toNat (2048 - 64)) (hs 1)))).trans (by rw [h1, start_word _ _ hw (by omega)]; rfl)
  | ⟨2, _⟩ =>
    exact (congrArg (fun n => n + h.val) ((dif_pos (hm 2)).trans (congrArg (fun z => min (BitVec.toInt (I z)).toNat (32 - 32)) (hs 2)))).trans (by rw [h2, start_word 0 0 (by omega) (by omega)]; exact Nat.zero_add _)
  | ⟨3, _⟩ =>
    exact (congrArg (fun n => n + d.val) ((dif_pos (hm 3)).trans (congrArg (fun z => min (BitVec.toInt (I z)).toNat (128 - 128)) (hs 3)))).trans (by rw [h3, start_word 0 0 (by omega) (by omega)]; exact Nat.zero_add _)

/-- The index of the relative bias that row `t` of a chunk reads for key `w` of its window, as the reference computes it. -/
@[reducible] def relIdx : IVec S64x576 32 :=
  addi (minsi (broadcastInDim S64x576 ![] Gen.bcast_S_S64x576 (id (constantI S_ 32 256#32)))
      (maxsi (broadcastInDim S64x576 ![] Gen.bcast_S_S64x576 (id (constantI S_ 32 4294967040#32)))
        (subi
          (broadcastInDim S64x576 ![0, 1] Gen.bcast_S64x1_S64x576_0_1
            (addi (broadcastInDim S64x1 ![0] Gen.bcast_S64_S64x1_0 (iotaInDim S64 32 0)) (broadcastInDim S64x1 ![] Gen.bcast_S_S64x1 (constantI S_ 32 512#32))))
          (broadcastInDim S64x576 ![0, 1] Gen.bcast_S1x576_S64x576_0_1 (broadcastInDim S1x576 ![1] Gen.bcast_S576_S1x576_1 (iotaInDim S576 32 0))))))
    (broadcastInDim S64x576 ![] Gen.bcast_S_S64x576 (constantI S_ 32 256#32))

@[reducible] def relTable : IVec S64x576x1 32 :=
  broadcastInDim S64x576x1 ![0, 1] Gen.bcast_S64x576_S64x576x1_0_1
    (select (cmpi CmpIPredicate.slt relIdx (broadcastInDim S64x576 ![] Gen.bcast_S_S64x576 (constantI S_ 32 0#32)))
      (addi relIdx (broadcastInDim S64x576 ![] Gen.bcast_S_S64x576 (constantI S_ 32 513#32))) relIdx)

/-- The clipped index as a word, at every difference that a row and a key of its window have. -/
theorem clip_rel : ∀ x : Fin 639,
    Scalar.select (IntOp.cmpi CmpIPredicate.slt (IntOp.addi (IntOp.minsi 256#32 (IntOp.maxsi 4294967040#32 (BitVec.ofNat 32 x.val - 63#32))) 256#32) 0#32)
      (IntOp.addi (IntOp.addi (IntOp.minsi 256#32 (IntOp.maxsi 4294967040#32 (BitVec.ofNat 32 x.val - 63#32))) 256#32) 513#32)
      (IntOp.addi (IntOp.minsi 256#32 (IntOp.maxsi 4294967040#32 (BitVec.ofNat 32 x.val - 63#32))) 256#32)
      = BitVec.ofNat 32 (min (x.val + 193) 512) := by decide +kernel

theorem relTable_at (t : Fin 64) (w : Fin 576) : relTable (ix3 t w 0) = BitVec.ofNat 32 (min (t.val + 768 - w.val) 512) := by
  have hz : IntOp.subi (IntOp.addi (BitVec.ofNat 32 t.val) 512#32) (BitVec.ofNat 32 w.val) = BitVec.ofNat 32 (t.val + 575 - w.val) - 63#32 := by
    show BitVec.ofNat 32 t.val + 512#32 - BitVec.ofNat 32 w.val = _
    apply BitVec.eq_of_toNat_eq
    simp only [BitVec.toNat_sub, BitVec.toNat_add, BitVec.toNat_ofNat]
    omega
  have hc := clip_rel ⟨t.val + 575 - w.val, by omega⟩
  pointwise [relTable, relIdx]
  rw [hz]
  refine Eq.trans hc ?_
  congr 1
  dsimp only
  omega

theorem relRead {α : Type} (X : S32x513.Idx → α) (I : IVec S64x576x1 32) (h : Fin 32) (t : Fin 64) (w : Fin 576) (n : ℕ) (hn : n < 513)
    (h0 : I (ix3 t w 0) = BitVec.ofNat 32 n) :
    Host.gather gather_S32x513_S64x576x1_S32x64x576_0_1_n_n_1_2_321 X I (ix3 h t w) = X (ix2 h ⟨n, hn⟩) := by
  unfold Host.gather
  refine congrArg X (funext fun a => Fin.ext ?_)
  have hs : gather_S32x513_S64x576x1_S32x64x576_0_1_n_n_1_2_321.siIdx (ix3 h t w) (0 : Fin 1) = ix3 t w 0 := by
    funext e
    match e with
    | ⟨0, _⟩ => rfl
    | ⟨1, _⟩ => rfl
    | ⟨2, _⟩ => rfl
  show GatherDims.start _ _ _ a + GatherDims.batchCoord _ _ a + GatherDims.offCoord _ _ a = _
  rw [GatherDims.batchCoord_eq_zero _ _ _ List.not_mem_nil, Nat.add_zero]
  match a with
  | ⟨0, _⟩ =>
    exact (congrArg (fun n => n + h.val) (dif_neg (show ¬ (0 : Fin 2) ∈ ([1] : List (Fin 2)) by decide))).trans (Nat.zero_add _)
  | ⟨1, _⟩ =>
    exact (congrArg (fun n => n + 0) ((dif_pos (show (1 : Fin 2) ∈ ([1] : List (Fin 2)) by decide)).trans (congrArg (fun z => min (BitVec.toInt (I z)).toNat (513 - 1)) hs))).trans
      (by rw [h0, start_word _ _ (by omega) (by omega)]; rfl)

theorem gatherK_at {α : Type} (X : S8x2560x32x128.Idx → α) (c : Fin 32) (b : Fin 8) (w : Fin 576) (h : Fin 32) (d : Fin 128) :
    Host.gather gather_S8x2560x32x128_S32x4_S32x8x576x32x128_1234_n_n_n_0123_1_857632128 X (starts 2560#32) (ix5 c b w h d)
      = X (ix4 b ⟨64 * c.val + w.val, by omega⟩ h d) :=
  win2560 X _ c b w h d (starts0 _ c) (starts1 _ c) (starts2 _ c) (starts3 _ c)

theorem gatherQ_at {α : Type} (X : S8x2048x32x128.Idx → α) (c : Fin 32) (b : Fin 8) (w : Fin 64) (h : Fin 32) (d : Fin 128) :
    Host.gather gather_S8x2048x32x128_S32x4_S32x8x64x32x128_1234_n_n_n_0123_1_86432128 X (starts 2048#32) (ix5 c b w h d)
      = X (ix4 b ⟨64 * c.val + w.val, by omega⟩ h d) :=
  win2048 X _ c b w h d (starts0 _ c) (starts1 _ c) (starts2 _ c) (starts3 _ c)

theorem gatherB_at {α : Type} (X : S32x513.Idx → α) (h : Fin 32) (t : Fin 64) (w : Fin 576) :
    Host.gather gather_S32x513_S64x576x1_S32x64x576_0_1_n_n_1_2_321 X relTable (ix3 h t w)
      = X (ix2 h ⟨min (t.val + 768 - w.val) 512, by omega⟩) :=
  relRead X _ h t w _ _ (relTable_at t w)

end Cert.Band
end
-- ==== Proof.RefValue.lean ====
module

public import proofs.«01_k».proof.Proof.RefReads
public import Idealize.ShloMosaic.Lib.Tactic.WordOmega

@[expose] public section

set_option maxRecDepth 16384

noncomputable section

namespace Cert.Band

open Cert.ReferenceIdeal Cert.ReferenceIdeal.Gen Cert.ReferenceIdeal.Value Idealize.ShloMosaic Idealize.ShloMosaic.TcCoe Idealize.SL.Sem

/-! The reference's result as a function of its four gathered arrays. -/

/-- The masked logits from the gathered queries `Q`, keys `K` and biases `B`. -/
def refLogits (Q : FVec Ideal S32x8x64x32x128 .f32) (K : FVec Ideal S32x8x576x32x128 .f32) (B : FVec Ideal S32x64x576 .f32) : FVec Ideal S32x8x32x64x576 .f32 :=
  select (broadcastInDim S32x8x32x64x576 ![0, 1, 2, 3, 4] bcast_S32x1x1x1x576_S32x8x32x64x576_0_1_2_3_4 (broadcastInDim S32x1x1x1x576 ![0, 4] bcast_S32x576_S32x1x1x1x576_0_4 (cmpi .sge (addi (broadcastInDim S32x576 ![0, 1] bcast_S32x1_S32x576_0_1 (broadcastInDim S32x1 ![0] bcast_S32_S32x1_0 (subi (muli (iotaInDim S32 32 0) (broadcastInDim S32 ![] bcast_S_S32 (constantI S_ 32 64#32))) (broadcastInDim S32 ![] bcast_S_S32 (constantI S_ 32 512#32))))) (broadcastInDim S32x576 ![0, 1] bcast_S1x576_S32x576_0_1 (broadcastInDim S1x576 ![1] bcast_S576_S1x576_1 (iotaInDim S576 32 0)))) (broadcastInDim S32x576 ![] bcast_S_S32x576 (constantI S_ 32 0#32))))) (addf (mulf (Host.dotGeneral dot_S32x8x64x32x128_S32x8x576x32x128_S32x8x32x64x576_4_4_2_2_013_013 none Q K) (broadcastInDim S32x8x32x64x576 ![] bcast_S_S32x8x32x64x576 (constant S_ .f32 0x3DB504F3#32))) (broadcastInDim S32x8x32x64x576 ![0, 1, 2, 3, 4] bcast_S1x1x32x64x576_S32x8x32x64x576_0_1_2_3_4 (broadcastInDim S1x1x32x64x576 ![1, 2, 3, 4] bcast_S1x32x64x576_S1x1x32x64x576_1_2_3_4 (broadcastInDim S1x32x64x576 ![1, 2, 3] bcast_S32x64x576_S1x32x64x576_1_2_3 B)))) (broadcastInDim S32x8x32x64x576 ![1, 2, 3, 4] bcast_S8x32x64x576_S32x8x32x64x576_1_2_3_4 (broadcastInDim S8x32x64x576 ![] bcast_S_S8x32x64x576 (id (constant S_ .f32 0xFF800000#32))))

/-- The greatest logit of each row. -/
def refMax (L : FVec Ideal S32x8x32x64x576 .f32) : FVec Ideal S32x8x32x64 .f32 := (maximumf (broadcastInDim S32x8x32x64 ![] bcast_S_S32x8x32x64 (constant S_ .f32 0xFF800000#32)) (Host.reduce FloatOps.maximumf L (constant S_ .f32 0xFF800000#32) reducesTo_S32x8x32x64x576_S32x8x32x64_d4 h_S_))
/-- The exponentials of the logits less their row's greatest. -/
def refExp (L : FVec Ideal S32x8x32x64x576 .f32) : FVec Ideal S32x8x32x64x576 .f32 := (Host.exp (subf L (broadcastInDim S32x8x32x64x576 ![0, 1, 2, 3, 4] bcast_S32x8x32x64x1_S32x8x32x64x576_0_1_2_3_4 (broadcastInDim S32x8x32x64x1 ![0, 1, 2, 3] bcast_S32x8x32x64_S32x8x32x64x1_0_1_2_3 (refMax L)))))
/-- The softmax of the logits. -/
def refProbs (L : FVec Ideal S32x8x32x64x576 .f32) : FVec Ideal S32x8x32x64x576 .f32 := (Host.divf (refExp L) (broadcastInDim S32x8x32x64x576 ![0, 1, 2, 3, 4] bcast_S32x8x32x64x1_S32x8x32x64x576_0_1_2_3_4 (broadcastInDim S32x8x32x64x1 ![0, 1, 2, 3] bcast_S32x8x32x64_S32x8x32x64x1_0_1_2_3 (Host.reduceAdd (refExp L) (constant S_ .f32 0x00000000#32) reducesTo_S32x8x32x64x576_S32x8x32x64_d4 h_S_))))
/-- The values, weighted. -/
def refDot (V : FVec Ideal S32x8x576x32x128 .f32) (P : FVec Ideal S32x8x32x64x576 .f32) : FVec Ideal S32x8x32x128x64 .f32 := (Host.dotGeneral dot_S32x8x576x32x128_S32x8x32x64x576_S32x8x32x128x64_2_4_4_3_013_012 none V P)
/-- The chunks laid out as the result. -/
def refOut (D : FVec Ideal S32x8x32x128x64 .f32) : FVec Ideal S8x2048x4096 .bf16 := truncf .bf16 (shapeCast _ (transpose S8x32x64x4096 [1, 0, 2, 3] (shapeCast _ (transpose S32x8x64x32x128 [0, 1, 4, 2, 3] D transposes_S32x8x32x128x64_S32x8x64x32x128_0_1_4_2_3) shapeCasts_S32x8x64x32x128_S32x8x64x4096) transposes_S32x8x64x4096_S8x32x64x4096_1_0_2_3) shapeCasts_S8x32x64x4096_S8x2048x4096) bitsLt_bf16_f32

def refQ (A0 : FVec Ideal S8x2048x12288 .bf16) : FVec Ideal S32x8x64x32x128 .f32 :=
  Host.gather gather_S8x2048x32x128_S32x4_S32x8x64x32x128_1234_n_n_n_0123_1_86432128 (shapeCast _ (extractStridedSlice S8x2048x4096 ![0, 0, 0] (extf .f32 A0 bitsLt_bf16_f32) slices_S8x2048x12288_S8x2048x4096_0_0_0) shapeCasts_S8x2048x4096_S8x2048x32x128) (starts 2048#32)
def refK (A0 : FVec Ideal S8x2048x12288 .bf16) : FVec Ideal S32x8x576x32x128 .f32 :=
  Host.gather gather_S8x2560x32x128_S32x4_S32x8x576x32x128_1234_n_n_n_0123_1_857632128 (pad S8x2560x32x128 ![0, 512, 0, 0] ![0, 0, 0, 0] ![0, 0, 0, 0] (shapeCast _ (extractStridedSlice S8x2048x4096 ![0, 0, 4096] (extf .f32 A0 bitsLt_bf16_f32) slices_S8x2048x12288_S8x2048x4096_0_0_4096) shapeCasts_S8x2048x4096_S8x2048x32x128) (sitofp .f32 (constantI S_ 32 0#32)) pads_S8x2048x32x128_S8x2560x32x128_000_51200_000_000 h_S_) (starts 2560#32)
def refV (A0 : FVec Ideal S8x2048x12288 .bf16) : FVec Ideal S32x8x576x32x128 .f32 :=
  Host.gather gather_S8x2560x32x128_S32x4_S32x8x576x32x128_1234_n_n_n_0123_1_857632128 (pad S8x2560x32x128 ![0, 512, 0, 0] ![0, 0, 0, 0] ![0, 0, 0, 0] (shapeCast _ (extractStridedSlice S8x2048x4096 ![0, 0, 8192] (extf .f32 A0 bitsLt_bf16_f32) slices_S8x2048x12288_S8x2048x4096_0_0_8192) shapeCasts_S8x2048x4096_S8x2048x32x128) (sitofp .f32 (constantI S_ 32 0#32)) pads_S8x2048x32x128_S8x2560x32x128_000_51200_000_000 h_S_) (starts 2560#32)
def refB (A1 : FVec Ideal S32x513 .f32) : FVec Ideal S32x64x576 .f32 :=
  Host.gather gather_S32x513_S64x576x1_S32x64x576_0_1_n_n_1_2_321 A1 relTable

theorem ref_eq (m : (ℓ : Loc nD τ sig) → Buf (Elt Ideal) ℓ) (c : Dev nD) :
    res_main_v104 m c = refOut (refDot (refV (m ((c.tc : Thread nD τ).loc main_arg0))) (refProbs (refLogits (refQ (m ((c.tc : Thread nD τ).loc main_arg0))) (refK (m ((c.tc : Thread nD τ).loc main_arg0)))
      (refB (m ((c.tc : Thread nD τ).loc main_arg1)))))) := rfl

theorem refQ_at (A0 : FVec Ideal S8x2048x12288 .bf16) (c : Fin 32) (b : Fin 8) (t : Fin 64) (h : Fin 32) (d : Fin 128) :
    refQ A0 (ix5 c b t h d) = A0 (ix3 b ⟨64 * c.val + t.val, by omega⟩ ⟨128 * h.val + d.val, by omega⟩) := by
  unfold refQ
  refine (gatherQ_at _ c b t h d).trans ?_
  pointwise
  exact congrArg A0 (congrArg (ix3 b _) (Fin.ext (by dsimp only; omega)))

theorem sitofp_zero : (FloatOps.sitofp (F := Ideal) FTy.f32 0#32 : EReal) = 0 := by
  show ((BitVec.toInt 0#32 : ℝ) : EReal) = 0
  simp

theorem refK_at (A0 : FVec Ideal S8x2048x12288 .bf16) (c : Fin 32) (b : Fin 8) (w : Fin 576) (h : Fin 32) (d : Fin 128) :
    refK A0 (ix5 c b w h d) = if hp : 512 ≤ 64 * c.val + w.val then A0 (ix3 b ⟨64 * c.val + w.val - 512, by omega⟩ ⟨4096 + 128 * h.val + d.val, by omega⟩) else 0 := by
  unfold refK
  refine (gatherK_at _ c b w h d).trans ?_
  pointwise
  by_cases hp : 512 ≤ 64 * c.val + w.val
  · rw [dif_pos hp, dif_pos ⟨hp, by omega⟩]
    exact congrArg A0 (congrArg (ix3 b _) (Fin.ext (by dsimp only; omega)))
  · rw [dif_neg (fun h => hp h.1), dif_neg hp]
    exact sitofp_zero

theorem refV_at (A0 : FVec Ideal S8x2048x12288 .bf16) (c : Fin 32) (b : Fin 8) (w : Fin 576) (h : Fin 32) (d : Fin 128) :
    refV A0 (ix5 c b w h d) = if hp : 512 ≤ 64 * c.val + w.val then A0 (ix3 b ⟨64 * c.val + w.val - 512, by omega⟩ ⟨8192 + 128 * h.val + d.val, by omega⟩) else 0 := by
  unfold refV
  refine (gatherK_at _ c b w h d).trans ?_
  pointwise
  by_cases hp : 512 ≤ 64 * c.val + w.val
  · rw [dif_pos hp, dif_pos ⟨hp, by omega⟩]
    exact congrArg A0 (congrArg (ix3 b _) (Fin.ext (by dsimp only; omega)))
  · rw [dif_neg (fun h => hp h.1), dif_neg hp]
    exact sitofp_zero

theorem refB_at (A1 : FVec Ideal S32x513 .f32) (h : Fin 32) (t : Fin 64) (w : Fin 576) :
    refB A1 (ix3 h t w) = A1 (ix2 h ⟨min (t.val + 768 - w.val) 512, by omega⟩) := gatherB_at A1 h t w

/-- A key's validity as the reference computes it, at every chunk and window position. -/
theorem valid_word (c : Fin 32) (w : Fin 576) :
    (512 ≤ 64 * c.val + w.val → IntOp.cmpi CmpIPredicate.sge (IntOp.addi (IntOp.subi (IntOp.muli (BitVec.ofNat 32 c.val) 64#32) 512#32) (BitVec.ofNat 32 w.val)) 0#32 = 1#1)
    ∧ (¬ 512 ≤ 64 * c.val + w.val → IntOp.cmpi CmpIPredicate.sge (IntOp.addi (IntOp.subi (IntOp.muli (BitVec.ofNat 32 c.val) 64#32) 512#32) (BitVec.ofNat 32 w.val)) 0#32 = 0#1) := by
  constructor <;> intro hp <;> unfold IntOp.subi IntOp.muli IntOp.addi <;> word_omega

theorem neg_inf : (Ideal.ofBits FTy.f32 0xFF800000#32 : EReal) = ⊥ := by
  rfl

theorem refLogits_at (Q : FVec Ideal S32x8x64x32x128 .f32) (K : FVec Ideal S32x8x576x32x128 .f32) (B : FVec Ideal S32x64x576 .f32)
    (c : Fin 32) (b : Fin 8) (h : Fin 32) (t : Fin 64) (w : Fin 576) :
    refLogits Q K B (ix5 c b h t w) = if 512 ≤ 64 * c.val + w.val then (∑ d : Fin 128, Q (ix5 c b t h d) * K (ix5 c b w h d)) * Ideal.ofBits .f32 0x3DB504F3#32 + B (ix3 h t w) else ⊥ := by
  pointwise [refLogits]
  by_cases hp : 512 ≤ 64 * c.val + w.val
  · rw [if_pos hp]
    rw [(valid_word c w).1 hp]; rfl
  · rw [if_neg hp]
    rw [(valid_word c w).2 hp]
    exact neg_inf

/-- A row's greatest element over the last of five axes, at any extents. -/
theorem maximumf_apply' {s : Shape} (a b : FVec Ideal s .f32) (i : s.Idx) : maximumf a b i = max (a i) (b i) := rfl

theorem rowMax5 {n0 n1 n2 n3 n4 : ℕ} (x : FVec Ideal ⟨5, ![n0, n1, n2, n3, n4]⟩ .f32) (init : FVec Ideal ⟨0, ![]⟩ .f32)
    (hr : (⟨5, ![n0, n1, n2, n3, n4]⟩ : Shape).ReducesTo [4] ⟨4, ![n0, n1, n2, n3]⟩) (hu : 0 < (⟨0, ![]⟩ : Shape).numel)
    (c : Fin n0) (b : Fin n1) (h : Fin n2) (t : Fin n3) :
    Host.reduce FloatOps.maximumf x init hr hu (ix4 c b h t) = Finset.fold max (init (Shape.Idx.first hu)) (fun w : Fin n4 => x (ix5 c b h t w)) Finset.univ := by
  simp only [pointwise]

theorem refMax_at (L : FVec Ideal S32x8x32x64x576 .f32) (c : Fin 32) (b : Fin 8) (h : Fin 32) (t : Fin 64) :
    refMax L (ix4 c b h t) = Finset.fold max ⊥ (fun w => L (ix5 c b h t w)) Finset.univ := by
  unfold refMax
  rw [maximumf_apply', rowMax5]
  have e1 : broadcastInDim S32x8x32x64 ![] bcast_S_S32x8x32x64 (constant (F := Ideal) S_ .f32 0xFF800000#32) (ix4 c b h t) = (⊥ : EReal) := neg_inf
  have e2 : constant (F := Ideal) S_ .f32 0xFF800000#32 (Shape.Idx.first h_S_) = (⊥ : EReal) := neg_inf
  rw [e1, e2]
  exact max_eq_right bot_le

theorem refExp_at (L : FVec Ideal S32x8x32x64x576 .f32) (c : Fin 32) (b : Fin 8) (h : Fin 32) (t : Fin 64) (w : Fin 576) :
    refExp L (ix5 c b h t w) = Ideal.exp (L (ix5 c b h t w) - refMax L (ix4 c b h t)) := by
  pointwise [refExp]

theorem refProbs_at (L : FVec Ideal S32x8x32x64x576 .f32) (c : Fin 32) (b : Fin 8) (h : Fin 32) (t : Fin 64) (w : Fin 576) :
    refProbs L (ix5 c b h t w) = Ideal.div (refExp L (ix5 c b h t w)) (∑ w' : Fin 576, refExp L (ix5 c b h t w')) := by
  pointwise [refProbs]

theorem refDot_at (V : FVec Ideal S32x8x576x32x128 .f32) (P : FVec Ideal S32x8x32x64x576 .f32) (c : Fin 32) (b : Fin 8) (h : Fin 32) (d : Fin 128) (t : Fin 64) :
    refDot V P (ix5 c b h d t) = ∑ w : Fin 576, V (ix5 c b w h d) * P (ix5 c b h t w) := by
  pointwise [refDot]

theorem refOut_at (D : FVec Ideal S32x8x32x128x64 .f32) (b : Fin 8) (r : Fin 2048) (e : Fin 4096) :
    refOut D (ix3 b r e) = D (ix5 ⟨r.val / 64, by omega⟩ b ⟨e.val / 128, by omega⟩ ⟨e.val % 128, by omega⟩ ⟨r.val % 64, by omega⟩) := by
  pointwise [refOut]

/-- The reference at row `r` of a batch entry and column `e`: the row's softmax against the values, over the 576 keys of its chunk's window. -/
theorem ref_at (A0 : FVec Ideal S8x2048x12288 .bf16) (A1 : FVec Ideal S32x513 .f32) (b : Fin 8) (r : Fin 2048) (e : Fin 4096)
    (L : Fin 576 → EReal)
    (hL : ∀ w, L w = refLogits (refQ A0) (refK A0) (refB A1) (ix5 ⟨r.val / 64, by omega⟩ b ⟨e.val / 128, by omega⟩ ⟨r.val % 64, by omega⟩ w)) :
    @Eq EReal (refOut (refDot (refV A0) (refProbs (refLogits (refQ A0) (refK A0) (refB A1)))) (ix3 b r e))
      (∑ w : Fin 576, refV A0 (ix5 ⟨r.val / 64, by omega⟩ b w ⟨e.val / 128, by omega⟩ ⟨e.val % 128, by omega⟩)
          * Ideal.div (Ideal.exp (L w - Finset.fold max ⊥ L Finset.univ)) (∑ w' : Fin 576, Ideal.exp (L w' - Finset.fold max ⊥ L Finset.univ))) := by
  obtain rfl := funext hL
  refine (refOut_at _ b r e).trans ((refDot_at _ _ _ _ _ _ _).trans ?_)
  refine Finset.sum_congr rfl fun w _ => ?_
  rw [refProbs_at]
  simp only [refExp_at, refMax_at]

end Cert.Band
end
-- ==== Proof.RefSpec.lean ====
module

public import proofs.«01_k».proof.Proof.RefValue
public import proofs.«01_k».proof.Proof.Spec

@[expose] public section

set_option maxRecDepth 16384

noncomputable section

namespace Cert.Band

open Cert.ReferenceIdeal Cert.ReferenceIdeal.Gen Cert.ReferenceIdeal.Value Idealize.ShloMosaic Idealize.ShloMosaic.TcCoe Idealize.SL.Sem

theorem scale_word : (Ideal.ofBits FTy.f32 0x3DB504F3#32 : EReal) = ((11863283 / 134217728 : ℝ) : EReal) := by
  simp [Ideal.ofBits, Ideal.ieee, -EReal.coe_mul]; norm_num

/-- A logit of the reference is the scale times the common one. -/
theorem refLogit_keyT (A0 : FVec Ideal S8x2048x12288 .bf16) (A1 : FVec Ideal S32x513 .f32) (b : Fin 8) (r : Fin 2048) (h : Fin 32) (w : Fin 576) :
    refLogits (refQ A0) (refK A0) (refB A1) (ix5 ⟨r.val / 64, by omega⟩ b h ⟨r.val % 64, by omega⟩ w)
      = keyT A0 A1 b r h (64 * (r.val / 64) + w.val) * ((sc : ℝ) : EReal) := by
  refine (refLogits_at _ _ _ _ _ _ _ _).trans ?_
  unfold keyT
  dsimp only
  by_cases hp : 512 ≤ 64 * (r.val / 64) + w.val
  · rw [if_pos hp, dif_pos ⟨⟨by omega, by omega⟩, hp⟩, EReal.right_distrib_of_nonneg_of_ne_top (EReal.coe_nonneg.2 sc_pos.le) (EReal.coe_ne_top _),
      mul_assoc (A1 _ : EReal), ← EReal.coe_mul, show (134217728 / 11863283 : ℝ) * sc = 1 by unfold sc; norm_num, EReal.coe_one, mul_one, scale_word, refB_at]
    refine congrArg₂ (· + ·) (congrArg (· * _) (Finset.sum_congr rfl fun d _ => ?_)) ?_
    · rw [refQ_at, refK_at, dif_pos hp]
      exact congrArg (fun z => (A0 (ix3 b z ⟨128 * h.val + d.val, by omega⟩) * _ : EReal)) (Fin.ext (by dsimp only; omega))
    · exact congrArg (fun z => (A1 (ix2 h z) : EReal)) (Fin.ext (by dsimp only; omega))
  · rw [if_neg hp, dif_neg (fun h => hp h.2), EReal.bot_mul_coe_of_pos sc_pos]

theorem ref_spec (A0 : FVec Ideal S8x2048x12288 .bf16) (A1 : FVec Ideal S32x513 .f32) (h0 : ∀ i, ∃ x : ℝ, A0 i = (x : EReal)) (h1 : ∀ i, ∃ x : ℝ, A1 i = (x : EReal))
    (b : Fin 8) (r : Fin 2048) (e : Fin 4096) :
    @Eq EReal (refOut (refDot (refV A0) (refProbs (refLogits (refQ A0) (refK A0) (refB A1)))) (ix3 b r e)) (spec A0 A1 b r e) := by
  refine (ref_at A0 A1 b r e _ (fun w => rfl)).trans ?_
  have hband : ∀ w : Fin 576, 512 ≤ 64 * (r.val / 64) + w.val → ∃ x : ℝ, keyT A0 A1 b r ⟨e.val / 128, by omega⟩ (64 * (r.val / 64) + w.val) = x := fun w hw =>
    keyT_real A0 A1 h0 h1 b r _ _ ⟨⟨by omega, by omega⟩, hw⟩
  obtain ⟨r0, hr0⟩ := hband ⟨575, by omega⟩ (by dsimp only; omega)
  refine (softmax_eq (fun w : Fin 576 => keyT A0 A1 b r ⟨e.val / 128, by omega⟩ (64 * (r.val / 64) + w.val)) _ (fun w => ?_) ⟨575, by omega⟩ r0 hr0 _
    (fun w => refLogit_keyT A0 A1 b r _ w)).trans ?_
  · by_cases hw : 512 ≤ 64 * (r.val / 64) + w.val
    · exact Or.inr (hband w hw)
    · exact Or.inl (by unfold keyT; rw [dif_neg (fun h => hw h.2)])
  · refine soft_window _ _ 576 (64 * (r.val / 64)) (by omega) (fun p _ hp => by unfold keyT; rw [dif_neg (fun h => hp h.1)]) _ _ (fun _ => rfl) (fun w => ?_)
    refine (refV_at _ _ _ _ _ _).trans ?_
    unfold valV
    dsimp only
    by_cases hw : 512 ≤ 64 * (r.val / 64) + w.val
    · rw [dif_pos hw, dif_pos ⟨hw, by omega⟩]
      exact congrArg (fun z => (A0 (ix3 b _ z) : EReal)) (Fin.ext (by dsimp only; omega))
    · rw [dif_neg hw, dif_neg (fun h => hw h.1)]

end Cert.Band
end
-- ==== Proof.UpValue.lean ====
/- The up product with its squared relu: what the two calls of `Up` leave, element by element. -/
module

public import proofs.«01_k».proof.Defs
public import proofs.«01_k».proof.Proof.Gen.UpIdeal.Frame
public import Idealize.ShloMosaic.Lib.Pointwise
public import Idealize.ShloMosaic.Lib.Pipeline.ValueKit
public import Idealize.ShloMosaic.Lib.Pipeline.ValueKit.Held
public import Idealize.ShloMosaic.Lib.Pipeline.ValueKit.Partial

@[expose] public section

set_option maxRecDepth 16384

noncomputable section

namespace Cert.UpV

open Cert.UpIdeal Cert.UpIdeal.Gen Idealize.ShloMosaic Idealize.ShloMosaic.TcCoe Idealize.SL.Sem

/-- The squared relu of a number. -/
def relu2 (s : EReal) : EReal := max s 0 * max s 0

/-- An element of the product of the rows of `A`, batch by batch, with the first slice of `W`, through the squared relu. -/
def spec (A : S8x2048x4096.Idx → EReal) (W : S2x4096x16384.Idx → EReal) (r n : Fin 16384) : EReal :=
  relu2 (∑ k : Fin 4096, A (ix3 ⟨r.val / 2048, by omega⟩ ⟨r.val % 2048, by omega⟩ k) * W (ix3 0 k n))

variable (m : (ℓ : Loc nD τ sig) → Buf (Elt Ideal) ℓ) (ρ : Dev nD → PrngReg)

abbrev argA (c : Dev nD) : S8x2048x4096.Idx → EReal := m ((c.tc : Thread nD τ).loc main_arg0)
abbrev argW (c : Dev nD) : S2x4096x16384.Idx → EReal := m ((c.tc : Thread nD τ).loc main_arg1)

/-- The flattened rows at the first call's entry. -/
theorem rows (c : Dev nD) (r : Fin 16384) (k : Fin 4096) :
    @Eq EReal (V1 m ρ c main_v0 (ix2 r k)) (argA m c (ix3 ⟨r.val / 2048, by omega⟩ ⟨r.val % 2048, by omega⟩ k)) := by
  show StableHlo.after hostOps0 (W0 m ρ c) (Proc.devRef .tc main_v0) (ix2 r k) = _
  entry_read
  pointwise

theorem idx0 : ∀ t : Fin cfg0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 2) = 0 ∧ win0_2.index t (1 : Fin 2) = t.val)
    ∧ (win0_3.index t (0 : Fin 2) = 0 ∧ win0_3.index t (1 : Fin 2) = t.val))

theorem idx1 : ∀ t : Fin cfg1.N, (win1_0.index t (0 : Fin 2) = 1 + t.val / 16 ∧ win1_0.index t (1 : Fin 2) = 0)
    ∧ (win1_1.index t (0 : Fin 2) = 0 ∧ win1_1.index t (1 : Fin 2) = t.val % 16)
    ∧ (win1_2.index t (0 : Fin 2) = 1 + t.val / 16 ∧ win1_2.index t (1 : Fin 2) = t.val % 16) :=
  (by decide +kernel : ∀ t : Fin grid1.N, (win1_0.index t (0 : Fin 2) = 1 + t.val / 16 ∧ win1_0.index t (1 : Fin 2) = 0)
    ∧ (win1_1.index t (0 : Fin 2) = 0 ∧ win1_1.index t (1 : Fin 2) = t.val % 16)
    ∧ (win1_2.index t (0 : Fin 2) = 1 + t.val / 16 ∧ win1_2.index t (1 : Fin 2) = t.val % 16))

/-- What a step computes from its blocks. -/
theorem pay0_w (w : Vec Ideal S1x4096x512 .f32) (k : Fin 4096) (b : Fin 512) : @Eq EReal (k0_pay1 w (ix2 k b)) (w (ix3 0 k b)) := by
  unfold k0_pay1
  pointwise

theorem pay0 (x : Vec Ideal S1024x4096 .bf16) (w : Vec Ideal S4096x512 .bf16) (a : Fin 1024) (b : Fin 512) :
    @Eq EReal (k0_pay2 x w (ix2 a b)) (relu2 (∑ k : Fin 4096, (x (ix2 a k) : EReal) * w (ix2 k b))) := by
  unfold k0_pay2 relu2
  pointwise

theorem pay1 (x : Vec Ideal S1024x4096 .bf16) (w : Vec Ideal S4096x1024 .bf16) (a : Fin 1024) (b : Fin 1024) :
    @Eq EReal (k1_pay1 x w (ix2 a b)) (relu2 (∑ k : Fin 4096, (x (ix2 a k) : EReal) * w (ix2 k b))) := by
  unfold k1_pay1 relu2
  pointwise

/-- The first call's blocks. -/
theorem blk0_0 (c : Dev nD) (t : Fin cfg0.N) (a : Fin 1024) (k : Fin 4096) :
    @Eq EReal (iblk0 (V1 m ρ) c 0 t (ix2 a k)) (V1 m ρ c main_v0 (ix2 ⟨a.val, by omega⟩ k)) := by
  obtain ⟨⟨i0, i1⟩, -⟩ := idx0 t
  refine congrArg (V1 m ρ c main_v0) (?_ : _ = ix2 ⟨a.val, _⟩ k)
  funext x
  match x with
  | ⟨0, _⟩ => exact Fin.ext (by blk_simp [i0])
  | ⟨1, _⟩ => exact Fin.ext (by blk_simp [i1])

theorem blk0_1 (c : Dev nD) (t : Fin cfg0.N) (k : Fin 4096) (b : Fin 512) (n : Fin 16384) (hn : n.val = 512 * t.val + b.val) :
    @Eq EReal (iblk0 (V1 m ρ) c 1 t (ix3 0 k b)) (argW m c (ix3 0 k n)) := by
  obtain ⟨-, ⟨i0, i1, i2⟩, -⟩ := idx0 t
  refine Eq.trans (congrArg (V1 m ρ c main_arg1) (?_ : _ = ix3 0 k n)) (congrFun (W1_args m ρ c main_arg1 (by decide)) _)
  funext x
  match x with
  | ⟨0, _⟩ => exact Fin.ext (by blk_simp [i0]; rfl)
  | ⟨1, _⟩ => exact Fin.ext (by blk_simp [i1])
  | ⟨2, _⟩ => exact Fin.ext (by blk_simp [i2]; omega)

/-- The bf16 copy of the first slice of the weights. -/
theorem weights (c : Dev nD) : (dat0 (V1 m ρ) c).arrAt 3 cfg0.N = fun i => argW m c (ix3 0 (i 0) (i 1)) := by
  refine (dat0 (V1 m ρ) c).arrAt_eq_of_covers 3 _ (by decide +kernel) (fun t hf y => ?_)
  obtain ⟨-, -, -, i0, i1⟩ := idx0 t
  blk_simp
  rw [after0_3]
  unfold outsAt0
  dsimp only
  frame_out
  have key : ∀ (y : S4096x512.Idx) (p : Fin 4096) (q : Fin 16384), p.val = (y 0).val → q.val = 512 * t.val + (y 1).val →
      @Eq EReal (k0_pay1 (iblk0 (V1 m ρ) c 1 t) y) (argW m c (ix3 0 p q)) := fun y p q hp hq => by
    rw [eq_ix2 y, show p = y 0 from Fin.ext hp]
    exact (pay0_w _ (y 0) (y 1)).trans (blk0_1 m ρ c t (y 0) (y 1) q hq)
  exact key y _ _ (by blk_simp [i0]) (by blk_simp [i1]; omega)

/-- The rows of the first block after the first call. -/
theorem first (c : Dev nD) (i : S16384x16384.Idx) (hi : (i 0).val / 1024 = 0) :
    (dat0 (V1 m ρ) c).arrAt 2 cfg0.N i = spec (argA m c) (argW m c) (i 0) (i 1) := by
  refine ((dat0 (V1 m ρ) c).arrAt_apply_of_coversWhere 2 (fun i => spec (argA m c) (argW m c) (i 0) (i 1)) (P := fun i => (i 0).val / 1024 = 0) (fun β => β (0 : Fin 2) = 0) (by decide +kernel) (fun t hf y => ?_) (fun j => Iff.rfl) i).trans (if_pos hi)
  obtain ⟨-, -, ⟨i0, i1⟩, -⟩ := idx0 t
  blk_simp
  rw [after0_2]
  unfold outsAt0
  dsimp only
  frame_out
  have key : ∀ (y : S1024x512.Idx) (p : Fin 16384) (q : Fin 16384), p.val = (y 0).val → q.val = 512 * t.val + (y 1).val →
      @Eq EReal (k0_pay2 (iblk0 (V1 m ρ) c 0 t) (k0_pay1 (iblk0 (V1 m ρ) c 1 t)) y) (spec (argA m c) (argW m c) p q) := fun y p q hp hq => by
    rw [eq_ix2 y]
    refine (pay0 _ _ (y 0) (y 1)).trans (congrArg relu2 (Finset.sum_congr rfl fun k _ => congrArg₂ (· * ·) ?_ ?_))
    · refine (blk0_0 m ρ c t (y 0) k).trans ((congrArg (fun r => V1 m ρ c main_v0 (ix2 r k)) (Fin.ext hp.symm)).trans (rows m ρ c p k))
    · exact (pay0_w _ k (y 1)).trans (blk0_1 m ρ c t k (y 1) q hq)
  exact key y _ _ (by blk_simp [i0]) (by blk_simp [i1]; omega)

/-- The arrays at the second call's entry. -/
theorem entry_rows (c : Dev nD) : V3 m ρ c main_v0 = V1 m ρ c main_v0 :=
  (W3_of m ρ c main_v0 (by decide)).trans (W2_of m ρ c main_v0 (by decide))

theorem entry_weights (c : Dev nD) : V3 m ρ c main_v1_1 = fun i => argW m c (ix3 0 (i 0) (i 1)) :=
  (W3_of m ρ c main_v1_1 (by decide)).trans ((W2_arr m ρ c 3).trans (weights m ρ c))

theorem entry_out (c : Dev nD) : V3 m ρ c main_v2 = (dat0 (V1 m ρ) c).arrAt 2 cfg0.N := by
  refine Eq.trans ?_ (W2_arr m ρ c 2)
  show StableHlo.after hostOps1 (W2 m ρ c) (Proc.devRef .tc main_v2) = _
  entry_read
  rfl

/-- The second call's blocks. -/
theorem blk1_0 (c : Dev nD) (t : Fin cfg1.N) (a : Fin 1024) (k : Fin 4096) (r : Fin 16384) (hr : r.val = 1024 * (1 + t.val / 16) + a.val) :
    @Eq EReal (iblk1 (V3 m ρ) c 0 t (ix2 a k)) (argA m c (ix3 ⟨r.val / 2048, by omega⟩ ⟨r.val % 2048, by omega⟩ k)) := by
  obtain ⟨⟨i0, i1⟩, -⟩ := idx1 t
  refine Eq.trans (congrArg (V3 m ρ c main_v0) (?_ : _ = ix2 r k)) ((congrFun (entry_rows m ρ c) _).trans (rows m ρ c r k))
  funext x
  match x with
  | ⟨0, _⟩ => exact Fin.ext (by blk_simp [i0]; omega)
  | ⟨1, _⟩ => exact Fin.ext (by blk_simp [i1])

theorem blk1_1 (c : Dev nD) (t : Fin cfg1.N) (k : Fin 4096) (b : Fin 1024) (n : Fin 16384) (hn : n.val = 1024 * (t.val % 16) + b.val) :
    @Eq EReal (iblk1 (V3 m ρ) c 1 t (ix2 k b)) (argW m c (ix3 0 k n)) := by
  obtain ⟨-, ⟨i0, i1⟩, -⟩ := idx1 t
  refine Eq.trans (congrArg (V3 m ρ c main_v1_1) (?_ : _ = ix2 k n)) (congrFun (entry_weights m ρ c) _)
  funext x
  match x with
  | ⟨0, _⟩ => exact Fin.ext (by blk_simp [i0])
  | ⟨1, _⟩ => exact Fin.ext (by blk_simp [i1]; omega)

/-- The result after the second call. -/
theorem final (c : Dev nD) : W4 m ρ c (Proc.devRef .tc main_v2) = fun i => spec (argA m c) (argW m c) (i 0) (i 1) := by
  refine (W4_arr m ρ c 2).trans ?_
  refine (dat1 (V3 m ρ) c).arrAt_eq_of_coversWhere_of_agree 2 _ (fun β => 1 ≤ β (0 : Fin 2)) (by decide +kernel) (fun t hf y => ?_) (fun j hj => ?_)
  · obtain ⟨-, -, i0, i1⟩ := idx1 t
    blk_simp
    rw [after1_2]
    unfold outsAt1
    dsimp only
    frame_out
    have key : ∀ (y : S1024x1024.Idx) (p : Fin 16384) (q : Fin 16384), p.val = 1024 * (1 + t.val / 16) + (y 0).val → q.val = 1024 * (t.val % 16) + (y 1).val →
        @Eq EReal (k1_pay1 (iblk1 (V3 m ρ) c 0 t) (iblk1 (V3 m ρ) c 1 t) y) (spec (argA m c) (argW m c) p q) := fun y p q hp hq => by
      rw [eq_ix2 y]
      exact (pay1 _ _ (y 0) (y 1)).trans (congrArg relu2 <| Finset.sum_congr rfl fun k _ => congrArg₂ (· * ·) (blk1_0 m ρ c t (y 0) k p hp) (blk1_1 m ρ c t k (y 1) q hq))
    exact key y _ _ (by blk_simp [i0]; omega) (by blk_simp [i1]; omega)
  · rw [A_eq1]
    refine (congrFun (entry_out m ρ c) _).trans (first m ρ c _ ?_)
    blk_simp [Pipeline.Window.cell_apply] at hj ⊢
    omega

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- Both calls run from any memory, and every buffer of the core ends at the contents followed through them. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (QY := fun c s => ∀ b ∈ Pipeline.ucRefs τ sig, s.mem (((c : Thread nD τ)).1, b) = W4 m ρ c b)
    (hu₀ := ?_) (hinit := Pipeline.initEach L lv fun c => ?_) (hfin := fun c s' => ?_) (hQ := fun s h _ => h)
  · have hown : ownU (initOf (Pipeline.cells cfgs cellOf_inj) (Pipeline.launchToks cfgs cellOf_inj))
        ⊢ (BI.own (emb₁ (initOf (Pipeline.cells cfgs cellOf_inj) (Pipeline.launchToks cfgs cellOf_inj))) : sProp (MT nD τ sig Unit (Elt Ideal) ℕ (UR sig nD τ) ℕ)) := .rfl
    have hemp : (BI.emp : sProp (MT nD τ sig Unit (Elt Ideal) ℕ (UR sig nD τ) ℕ)) ⊢ bigSep Finset.univ (fun _ : Dev nD => BI.emp) := by rw [BI.bigSep_emp_const]
    iintro Hu
    imodintro
    isplitl [Hu]
    · iapply hown
      iexact Hu
    iapply hemp
    iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The result and the arguments after the run. -/
theorem kernel_run : θ_run defs (onTc (τ := τ) (main (F := Ideal))) ⟨m, fun _ => 0, ρ⟩ (fun r => ∀ c : Dev nD,
    r.2.mem ((c.tc : Thread nD τ).loc main_v2) = (fun i => spec (argA m c) (argW m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c _ (mem_uc main_v2 (by decide))).trans (final m ρ c),
    (h c _ (mem_uc main_arg0 (by decide))).trans (W4_main_arg0 m ρ c),
    (h c _ (mem_uc main_arg1 (by decide))).trans (W4_main_arg1 m ρ c)⟩) (run m ρ)

end Cert.UpV
end
-- ==== Proof.UpRef.lean ====
/- The up product with its squared relu, from the reference. -/
module

public import proofs.«01_k».proof.Proof.UpValue
public import proofs.«01_k».proof.Proof.Gen.UpRefIdeal.Run

@[expose] public section

set_option maxRecDepth 16384

noncomputable section

namespace Cert.UpV

open Cert.UpRefIdeal Cert.UpRefIdeal.Gen Idealize.ShloMosaic Idealize.ShloMosaic.TcCoe Idealize.SL.Sem

variable (m : (ℓ : Loc nD τ sig) → Buf (Elt Ideal) ℓ) (ρ : Dev nD → PrngReg)

/-- The reference's result and arguments after its run. -/
theorem ref_run : θ_run defs (onTc (τ := τ) (main (F := Ideal))) ⟨m, fun _ => 0, ρ⟩ (fun r => ∀ c : Dev nD,
    r.2.mem ((c.tc : Thread nD τ).loc main_v7) = (fun i => spec (m ((c.tc : Thread nD τ).loc main_arg0)) (m ((c.tc : Thread nD τ).loc main_arg1)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (by
    funext i
    rw [eq_ix2 i]
    unfold spec relu2
    pointwise), (h c).2⟩) (Cert.UpRefIdeal.Value.run (F := Ideal) m ρ)

end Cert.UpV
end
-- ==== Proof.DownValue.lean ====
/- The down product added to the residual, and the final norm: what the calls of `Down` leave, element by element. -/
module

public import proofs.«01_k».proof.Defs
public import proofs.«01_k».proof.Proof.Gen.DownIdeal.Frame
public import Idealize.ShloMosaic.Lib.Pointwise
public import Idealize.ShloMosaic.Lib.Pipeline.ReadBack
public import Idealize.ShloMosaic.Lib.Pipeline.ValueKit
public import Idealize.ShloMosaic.Lib.Pipeline.ValueKit.Held
public import Idealize.ShloMosaic.Lib.Pipeline.ValueKit.Partial

@[expose] public section

set_option maxRecDepth 16384

noncomputable section

namespace Cert.DownV

open Cert.DownIdeal Cert.DownIdeal.Gen Idealize.ShloMosaic Idealize.ShloMosaic.TcCoe Idealize.SL.Sem

/-- A block accumulated over the `J` points of its run, from a first addend of the run's own. -/
theorem reset_sum {N : ℕ} {ι : Type} (J : ℕ) [NeZero J] (f : (n : ℕ) → n < N → ι → EReal) (x p : Fin N → ι → EReal)
    (h0 : ∀ t : Fin N, t.val % J = 0 → ∀ i, f t.val t.isLt i = x t i + p t i)
    (hs : ∀ t : Fin N, ¬t.val % J = 0 → ∀ i, f t.val t.isLt i = f (t.val - 1) (Nat.lt_of_le_of_lt (Nat.sub_le _ _) t.isLt) i + p t i)
    (t : Fin N) (hr : t.val % J = J - 1) (i : ι) :
    f t.val t.isLt i = x ⟨J * (t.val / J), (Nat.mul_div_le t.val J).trans_lt t.isLt⟩ i
      + ∑ s : Fin J, p ⟨J * (t.val / J) + s.val, Pipeline.run_point_lt_of_flush t hr s⟩ i := by
  have e := Pipeline.eq_sum_fin_of_reset_step_apply_of_flush f J (fun _ => 0) (fun t i => (if t.val % J = 0 then x t i else 0) + p t i)
    (fun t h i => by rw [h0 t h i, if_pos h, zero_add]) (fun t h i => by rw [hs t h i, if_neg h, zero_add]) t hr i
  rw [e, zero_add, Finset.sum_add_distrib]
  refine congrArg (· + _) ((Finset.sum_eq_single (0 : Fin J) (fun s _ h => if_neg ?_) (fun h => absurd (Finset.mem_univ _) h)).trans ?_)
  · show ¬(J * (t.val / J) + s.val) % J = 0
    rw [Nat.mul_add_mod, Nat.mod_eq_of_lt s.isLt]
    exact fun e => h (Fin.ext e)
  · have : (J * (t.val / J) + (0 : Fin J).val) % J = 0 := by rw [Nat.mul_add_mod]; simp
    rw [if_pos this]
    rfl

/-- An element of the residual stream with the product of the rows of `A` and the second slice of `W` added, batch and sequence joined. -/
def joined (A : S8x2048x16384.Idx → EReal) (W : S2x16384x4096.Idx → EReal) (X : S8x2048x4096.Idx → EReal) (r : Fin 16384) (n : Fin 4096) : EReal :=
  X (ix3 ⟨r.val / 2048, by omega⟩ ⟨r.val % 2048, by omega⟩ n)
    + ∑ l : Fin 16384, A (ix3 ⟨r.val / 2048, by omega⟩ ⟨r.val % 2048, by omega⟩ l) * W (ix3 1 l n)

/-- An element of a row divided by the root of the row's mean square, and scaled. -/
def normed (x : Fin 4096 → EReal) (g : S4096.Idx → EReal) (n : Fin 4096) : EReal :=
  x n * Ideal.rsqrt (Ideal.div (∑ k : Fin 4096, x k * x k) (Ideal.ofBits .f32 1166016512#32) + Ideal.ofBits .f32 897988541#32) * g (ix1 n)

theorem pay0_w (w : Vec Ideal S1x2048x1024 .f32) (k : Fin 2048) (b : Fin 1024) : @Eq EReal (k0_pay1 w (ix2 k b)) (w (ix3 0 k b)) := by
  unfold k0_pay1
  pointwise

theorem pay0_3 (x : Vec Ideal S1024x2048 .bf16) (w : Vec Ideal S2048x512 .bf16) (o : Vec Ideal S1024x512 .f32) (a : Fin 1024) (b : Fin 512) :
    @Eq EReal (k0_pay3 x w o (ix2 a b)) ((o (ix2 a b) : EReal) + ∑ k : Fin 2048, (x (ix2 a k) : EReal) * w (ix2 k b)) := by
  unfold k0_pay3
  pointwise

theorem pay1_2 (x : Vec Ideal S1024x4096 .bf16) (w : Vec Ideal S4096x512 .bf16) (o : Vec Ideal S1024x512 .f32) (a : Fin 1024) (b : Fin 512) :
    @Eq EReal (k1_pay2 x w o (ix2 a b)) ((o (ix2 a b) : EReal) + ∑ k : Fin 4096, (x (ix2 a k) : EReal) * w (ix2 k b)) := by
  unfold k1_pay2
  pointwise

theorem pay0_4 (x : Vec Ideal S1024x2048 .bf16) (w : Vec Ideal S2048x512 .bf16) (o : Vec Ideal S1024x512 .f32) (a : Fin 1024) (b : Fin 512) :
    @Eq EReal (k0_pay4 x w o (ix2 a b)) ((o (ix2 a b) : EReal) + ∑ k : Fin 2048, (x (ix2 a k) : EReal) * w (ix2 k b)) := by
  unfold k0_pay4
  pointwise

theorem pay1_3 (x : Vec Ideal S1024x4096 .bf16) (w : Vec Ideal S4096x512 .bf16) (o : Vec Ideal S1024x512 .f32) (a : Fin 1024) (b : Fin 512) :
    @Eq EReal (k1_pay3 x w o (ix2 a b)) ((o (ix2 a b) : EReal) + ∑ k : Fin 4096, (x (ix2 a k) : EReal) * w (ix2 k b)) := by
  unfold k1_pay3
  pointwise

theorem pay0_res (x : Vec Ideal S1024x1024 .f32) : k0_pay2 x = x := by
  funext y
  rw [eq_ix2 y]
  unfold k0_pay2
  pointwise

theorem pay1_res (x : Vec Ideal S1024x1024 .f32) : k1_pay1 x = x := by
  funext y
  rw [eq_ix2 y]
  unfold k1_pay1
  pointwise

/-- Two stores, of the left and of the right half of the columns, over any earlier ones. -/
theorem halves (G : S1024x1024.Idx → EReal) (P0 P1 : S1024x512.Idx → EReal) (L : List (View.Piece (Elt Ideal) S1024x1024 .f32))
    (h0 : ∀ (a : Fin 1024) (b : Fin 512), P0 (ix2 a b) = G (ix2 a ⟨b.val, by omega⟩))
    (h1 : ∀ (a : Fin 1024) (b : Fin 512), P1 (ix2 a b) = G (ix2 a ⟨512 + b.val, by omega⟩)) :
    @Eq (S1024x1024.Idx → EReal) (View.canon (Val := Elt Ideal) (e := .f32) (⟨Rect.unit ![0, 512] ![1024, 512] inb_S1024x1024_S1024x512_0_512, P1⟩
      :: ⟨Rect.unit ![0, 0] ![1024, 512] inb_S1024x1024_S1024x512_0_0, P0⟩ :: L)) G := by
  funext y
  refine View.canon_append_of_piecesOf (Val := Elt Ideal) (e := .f32) G L [⟨Rect.unit ![0, 512] ![1024, 512] inb_S1024x1024_S1024x512_0_512, P1⟩,
    ⟨Rect.unit ![0, 0] ![1024, 512] inb_S1024x1024_S1024x512_0_0, P0⟩] ⟨fun x => ?_, fun x => ?_, trivial⟩ y
    (View.cover_of_tiled_head _ _ _ (by rfl) y)
  · rw [eq_ix2 x]
    refine (h1 (x 0) (x 1)).trans (congrArg G ?_)
    funext a
    match a with
    | ⟨0, _⟩ => exact Fin.ext (by show (x 0).val = 0 + 1 * (x 0).val; omega)
    | ⟨1, _⟩ => exact Fin.ext (by show 512 + (x 1).val = 512 + 1 * (x 1).val; omega)
  · rw [eq_ix2 x]
    refine (h0 (x 0) (x 1)).trans (congrArg G ?_)
    funext a
    match a with
    | ⟨0, _⟩ => exact Fin.ext (by show (x 0).val = 0 + 1 * (x 0).val; omega)
    | ⟨1, _⟩ => exact Fin.ext (by show (x 1).val = 0 + 1 * (x 1).val; omega)

/-- A load of half of the columns. -/
theorem ld_half {e : EltTy} (R : ℕ) (X : (⟨2, ![R, 1024]⟩ : Shape).Idx → Elt Ideal e) (o : ℕ) (inb) (a : Fin R) (b : Fin 512) (n : Fin 1024) (hn : n.val = o + b.val) :
    View.ld X (Rect.unit (s := ⟨2, ![R, 1024]⟩) ![0, o] ![R, 512] inb) (ix2 a b) = X (ix2 a n) :=
  View.ld_unit_apply_of X _ _ inb (ix2 a b) (ix2 a n) (fun d => match d with
    | ⟨0, _⟩ => by show a.val = 0 + a.val; omega
    | ⟨1, _⟩ => hn)

/-- A load of half of the columns of what a store of the whole left. -/
theorem fill_half {e : EltTy} {sp : Space} (R : ℕ) (v : View sig .tc sp ⟨2, ![R, 1024]⟩ e) (Z : (⟨2, ![R, 1024]⟩ : Shape).Idx → Elt Ideal e) (o : ℕ) (inb) (inb')
    (a : Fin R) (b : Fin 512) (n : Fin 1024) (hn : n.val = o + b.val) :
    v.readCov (Val := Elt Ideal) [⟨Rect.unit (s := ⟨2, ![R, 1024]⟩) ![0, 0] ![R, 1024] inb', Z⟩] (Rect.unit (s := ⟨2, ![R, 1024]⟩) ![0, o] ![R, 512] inb).toLoadRect (ix2 a b) = Z (ix2 a n) :=
  (congrFun (View.readCov_fill v inb' Z [] _ (fun d => match d with
    | ⟨0, _⟩ => rfl
    | ⟨1, _⟩ => rfl)) _).trans (ld_half R Z o inb a b n hn)

/-- A block with a part added. -/
abbrev plus (x p : S1024x1024.Idx → EReal) (i : S1024x1024.Idx) : EReal := x i + p i

/-- What a point adds to its block. -/
abbrev part0 (x : Vec Ideal S1024x2048 .bf16) (w : Vec Ideal S1x2048x1024 .f32) : S1024x1024.Idx → EReal :=
  fun i => ∑ k : Fin 2048, (x (ix2 (i 0) k) : EReal) * w (ix3 0 k (i 1))

abbrev part1 (x : Vec Ideal S1024x4096 .bf16) (w : Vec Ideal S4096x1024 .bf16) : S1024x1024.Idx → EReal :=
  fun i => ∑ k : Fin 4096, (x (ix2 (i 0) k) : EReal) * w (ix2 k (i 1))

theorem step1_A (c : Dev nD) (i : grid1.Coords) (arg3 : Memref sig .tc .vmem S1024x4096 .bf16) (harg3 : arg3.IsWhole) (arg4 : Memref sig .tc .vmem S4096x1024 .bf16) (harg4 : arg4.IsWhole)
    (arg5 : Memref sig .tc .vmem S1024x1024 .f32) (harg5 : arg5.IsWhole) (arg7 : Memref sig .tc .vmem S1024x1024 .f32) (harg7 : arg7.IsWhole) (hc0 : cond1_0 i)
    (x0 : Vec Ideal S1024x4096 .bf16) (x1 : Vec Ideal S4096x1024 .bf16) (x2 : Vec Ideal S1024x1024 .f32) :
    @Eq (S1024x1024.Idx → EReal) (out1_A_3 c i arg3 harg3 arg4 harg4 arg5 harg5 arg7 harg7 hc0 x0 x1 x2) (fun i => (x2 i : EReal) + ∑ k : Fin 4096, (x0 (ix2 (i 0) k) : EReal) * x1 (ix2 k (i 1))) := by
  frame_out
  refine halves _ _ _ _ (fun a b => ?_) (fun a b => ?_)
  · exact (pay1_2 _ _ _ a b).trans (congrArg₂ (· + ·) ((fill_half 1024 _ _ 0 _ _ a b _ (by simp)).trans (congrFun (pay1_res x2) _)) (Finset.sum_congr rfl fun k _ => congrArg (_ * ·) (ld_half 4096 _ 0 _ k b _ (by simp))))
  · exact (pay1_3 _ _ _ a b).trans (congrArg₂ (· + ·) ((congrFun (View.readCov_skip _ _ _ _ _ (by decide)) _).trans ((fill_half 1024 _ _ 512 _ _ a b _ rfl).trans (congrFun (pay1_res x2) _))) (Finset.sum_congr rfl fun k _ => congrArg (_ * ·) (ld_half 4096 _ 512 _ k b _ rfl)))

theorem step1_B (c : Dev nD) (i : grid1.Coords) (arg3 : Memref sig .tc .vmem S1024x4096 .bf16) (harg3 : arg3.IsWhole) (arg4 : Memref sig .tc .vmem S4096x1024 .bf16) (harg4 : arg4.IsWhole)
    (arg5 : Memref sig .tc .vmem S1024x1024 .f32) (harg5 : arg5.IsWhole) (arg7 : Memref sig .tc .vmem S1024x1024 .f32) (harg7 : arg7.IsWhole) (hc0 : ¬cond1_0 i)
    (x0 : Vec Ideal S1024x4096 .bf16) (x1 : Vec Ideal S4096x1024 .bf16) (x2 o : Vec Ideal S1024x1024 .f32) :
    @Eq (S1024x1024.Idx → EReal) (out1_B_3 c i arg3 harg3 arg4 harg4 arg5 harg5 arg7 harg7 hc0 x0 x1 x2 o) (fun i => (o i : EReal) + ∑ k : Fin 4096, (x0 (ix2 (i 0) k) : EReal) * x1 (ix2 k (i 1))) := by
  frame_out
  refine halves _ _ _ _ (fun a b => ?_) (fun a b => ?_)
  · exact (pay1_2 _ _ _ a b).trans (congrArg₂ (· + ·) (ld_half 1024 _ 0 _ a b _ (by simp)) (Finset.sum_congr rfl fun k _ => congrArg (_ * ·) (ld_half 4096 _ 0 _ k b _ (by simp))))
  · exact (pay1_3 _ _ _ a b).trans (congrArg₂ (· + ·) (ld_half 1024 _ 512 _ a b _ rfl) (Finset.sum_congr rfl fun k _ => congrArg (_ * ·) (ld_half 4096 _ 512 _ k b _ rfl)))

theorem step0_A (c : Dev nD) (i : grid0.Coords) (arg3 : Memref sig .tc .vmem S1024x2048 .bf16) (harg3 : arg3.IsWhole) (arg4 : Memref sig .tc .vmem S1x2048x1024 .f32) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S2048x1024 .bf16) (harg7 : arg7.IsWhole) (hc0 : cond0_0 i)
    (x0 : Vec Ideal S1024x2048 .bf16) (x1 : Vec Ideal S1x2048x1024 .f32) (x2 : Vec Ideal S1024x1024 .f32) :
    @Eq (S1024x1024.Idx → EReal) (out0_A_3 c i arg3 harg3 arg4 harg4 arg5 harg5 arg6 harg6 arg7 harg7 hc0 x0 x1 x2) (fun i => (x2 i : EReal) + ∑ k : Fin 2048, (x0 (ix2 (i 0) k) : EReal) * x1 (ix3 0 k (i 1))) := by
  frame_out
  refine halves _ _ _ _ (fun a b => ?_) (fun a b => ?_)
  · exact (pay0_3 _ _ _ a b).trans (congrArg₂ (· + ·) ((fill_half 1024 _ _ 0 _ _ a b _ (by simp)).trans (congrFun (pay0_res x2) _)) (Finset.sum_congr rfl fun k _ => congrArg (_ * ·) ((fill_half 2048 _ _ 0 _ _ k b _ (by simp)).trans (pay0_w _ k _))))
  · exact (pay0_4 _ _ _ a b).trans (congrArg₂ (· + ·) ((congrFun (View.readCov_skip _ _ _ _ _ (by decide)) _).trans ((fill_half 1024 _ _ 512 _ _ a b _ rfl).trans (congrFun (pay0_res x2) _))) (Finset.sum_congr rfl fun k _ => congrArg (_ * ·) ((fill_half 2048 _ _ 512 _ _ k b _ rfl).trans (pay0_w _ k _))))

theorem step0_B (c : Dev nD) (i : grid0.Coords) (arg3 : Memref sig .tc .vmem S1024x2048 .bf16) (harg3 : arg3.IsWhole) (arg4 : Memref sig .tc .vmem S1x2048x1024 .f32) (harg4 : arg4.IsWhole)
    (arg5 : Memref sig .tc .vmem S1024x1024 .f32) (harg5 : arg5.IsWhole) (arg6 : Memref sig .tc .vmem S1024x1024 .f32) (harg6 : arg6.IsWhole) (arg7 : Memref sig .tc .vmem S2048x1024 .bf16) (harg7 : arg7.IsWhole) (hc0 : ¬cond0_0 i)
    (x0 : Vec Ideal S1024x2048 .bf16) (x1 : Vec Ideal S1x2048x1024 .f32) (x2 o : Vec Ideal S1024x1024 .f32) :
    @Eq (S1024x1024.Idx → EReal) (out0_B_3 c i arg3 harg3 arg4 harg4 arg5 harg5 arg6 harg6 arg7 harg7 hc0 x0 x1 x2 o) (fun i => (o i : EReal) + ∑ k : Fin 2048, (x0 (ix2 (i 0) k) : EReal) * x1 (ix3 0 k (i 1))) := by
  frame_out
  refine halves _ _ _ _ (fun a b => ?_) (fun a b => ?_)
  · exact (pay0_3 _ _ _ a b).trans (congrArg₂ (· + ·) (ld_half 1024 _ 0 _ a b _ (by simp)) (Finset.sum_congr rfl fun k _ => congrArg (_ * ·) ((fill_half 2048 _ _ 0 _ _ k b _ (by simp)).trans (pay0_w _ k _))))
  · exact (pay0_4 _ _ _ a b).trans (congrArg₂ (· + ·) (ld_half 1024 _ 512 _ a b _ rfl) (Finset.sum_congr rfl fun k _ => congrArg (_ * ·) ((fill_half 2048 _ _ 512 _ _ k b _ rfl).trans (pay0_w _ k _))))

theorem idx0 : ∀ t : Fin cfg0.N, (win0_0.index t (0 : Fin 2) = 0 ∧ win0_0.index t (1 : Fin 2) = t.val % 8)
    ∧ (win0_1.index t (0 : Fin 3) = 1 ∧ win0_1.index t (1 : Fin 3) = t.val % 8 ∧ win0_1.index t (2 : Fin 3) = t.val / 8)
    ∧ (win0_2.index t (0 : Fin 2) = 0 ∧ win0_2.index t (1 : Fin 2) = t.val / 8)
    ∧ (win0_3.index t (0 : Fin 2) = 0 ∧ win0_3.index t (1 : Fin 2) = t.val / 8)
    ∧ (win0_4.index t (0 : Fin 2) = t.val % 8 ∧ win0_4.index t (1 : Fin 2) = t.val / 8) :=
  (by decide +kernel : ∀ t : Fin grid0.N, (win0_0.index t (0 : Fin 2) = 0 ∧ win0_0.index t (1 : Fin 2) = t.val % 8)
    ∧ (win0_1.index t (0 : Fin 3) = 1 ∧ win0_1.index t (1 : Fin 3) = t.val % 8 ∧ win0_1.index t (2 : Fin 3) = t.val / 8)
    ∧ (win0_2.index t (0 : Fin 2) = 0 ∧ win0_2.index t (1 : Fin 2) = t.val / 8)
    ∧ (win0_3.index t (0 : Fin 2) = 0 ∧ win0_3.index t (1 : Fin 2) = t.val / 8)
    ∧ (win0_4.index t (0 : Fin 2) = t.val % 8 ∧ win0_4.index t (1 : Fin 2) = t.val / 8))

theorem idx1 : ∀ t : Fin cfg1.N, (win1_0.index t (0 : Fin 2) = 1 + t.val / 16 ∧ win1_0.index t (1 : Fin 2) = t.val % 4)
    ∧ (win1_1.index t (0 : Fin 2) = t.val % 4 ∧ win1_1.index t (1 : Fin 2) = t.val / 4 % 4)
    ∧ (win1_2.index t (0 : Fin 2) = 1 + t.val / 16 ∧ win1_2.index t (1 : Fin 2) = t.val / 4 % 4)
    ∧ (win1_3.index t (0 : Fin 2) = 1 + t.val / 16 ∧ win1_3.index t (1 : Fin 2) = t.val / 4 % 4) :=
  (by decide +kernel : ∀ t : Fin grid1.N, (win1_0.index t (0 : Fin 2) = 1 + t.val / 16 ∧ win1_0.index t (1 : Fin 2) = t.val % 4)
    ∧ (win1_1.index t (0 : Fin 2) = t.val % 4 ∧ win1_1.index t (1 : Fin 2) = t.val / 4 % 4)
    ∧ (win1_2.index t (0 : Fin 2) = 1 + t.val / 16 ∧ win1_2.index t (1 : Fin 2) = t.val / 4 % 4)
    ∧ (win1_3.index t (0 : Fin 2) = 1 + t.val / 16 ∧ win1_3.index t (1 : Fin 2) = t.val / 4 % 4))

theorem idx2 : ∀ t : Fin cfg2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0) :=
  (by decide +kernel : ∀ t : Fin grid2.N, (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = t.val ∧ win2_2.index t (1 : Fin 2) = 0))

theorem flush0 : ∀ t : Fin cfg0.N, win0_3.flush t = true → t.val % 8 = 8 - 1 :=
  (by decide +kernel : ∀ t : Fin grid0.N, win0_3.flush t = true → t.val % 8 = 8 - 1)

theorem flush1 : ∀ t : Fin cfg1.N, win1_3.flush t = true → t.val % 4 = 4 - 1 :=
  (by decide +kernel : ∀ t : Fin grid1.N, win1_3.flush t = true → t.val % 4 = 4 - 1)

variable (m : (ℓ : Loc nD τ sig) → Buf (Elt Ideal) ℓ) (ρ : Dev nD → PrngReg)

abbrev argA (c : Dev nD) : S8x2048x16384.Idx → EReal := m ((c.tc : Thread nD τ).loc main_arg0)
abbrev argW (c : Dev nD) : S2x16384x4096.Idx → EReal := m ((c.tc : Thread nD τ).loc main_arg1)
abbrev argX (c : Dev nD) : S8x2048x4096.Idx → EReal := m ((c.tc : Thread nD τ).loc main_arg2)
abbrev argG (c : Dev nD) : S4096.Idx → EReal := m ((c.tc : Thread nD τ).loc main_arg3)

/-- The joined arrays at the first call's entry. -/
theorem rows (c : Dev nD) (r : Fin 16384) (k : Fin 16384) :
    @Eq EReal (V1 m ρ c main_v0 (ix2 r k)) (argA m c (ix3 ⟨r.val / 2048, by omega⟩ ⟨r.val % 2048, by omega⟩ k)) := by
  show StableHlo.after hostOps0 (W0 m ρ c) (Proc.devRef .tc main_v0) (ix2 r k) = _
  entry_read
  pointwise

theorem rows_res (c : Dev nD) (r : Fin 16384) (n : Fin 4096) :
    @Eq EReal (V1 m ρ c main_v1 (ix2 r n)) (argX m c (ix3 ⟨r.val / 2048, by omega⟩ ⟨r.val % 2048, by omega⟩ n)) := by
  show StableHlo.after hostOps0 (W0 m ρ c) (Proc.devRef .tc main_v1) (ix2 r n) = _
  entry_read
  pointwise

/-- The first call's blocks. -/
theorem blk0_0 (c : Dev nD) (t : Fin cfg0.N) (a : Fin 1024) (k : Fin 2048) (r l : Fin 16384) (hr : r.val = a.val) (hl : l.val = 2048 * (t.val % 8) + k.val) :
    @Eq EReal (iblk0 (V1 m ρ) c 0 t (ix2 a k)) (argA m c (ix3 ⟨r.val / 2048, by omega⟩ ⟨r.val % 2048, by omega⟩ l)) := by
  obtain ⟨⟨i0, i1⟩, -⟩ := idx0 t
  refine Eq.trans (congrArg (V1 m ρ c main_v0) (?_ : _ = ix2 r l)) (rows m ρ c r l)
  funext x
  match x with
  | ⟨0, _⟩ => exact Fin.ext (by blk_simp [i0]; omega)
  | ⟨1, _⟩ => exact Fin.ext (by blk_simp [i1]; omega)

theorem blk0_1 (c : Dev nD) (t : Fin cfg0.N) (k : Fin 2048) (b : Fin 1024) (l : Fin 16384) (n : Fin 4096) (hl : l.val = 2048 * (t.val % 8) + k.val) (hn : n.val = 1024 * (t.val / 8) + b.val) :
    @Eq EReal (iblk0 (V1 m ρ) c 1 t (ix3 0 k b)) (argW m c (ix3 1 l n)) := by
  obtain ⟨-, ⟨i0, i1, i2⟩, -⟩ := idx0 t
  refine Eq.trans (congrArg (V1 m ρ c main_arg1) (?_ : _ = ix3 1 l n)) (congrFun (W1_args m ρ c main_arg1 (by decide)) _)
  funext x
  match x with
  | ⟨0, _⟩ => exact Fin.ext (by blk_simp [i0]; rfl)
  | ⟨1, _⟩ => exact Fin.ext (by blk_simp [i1]; omega)
  | ⟨2, _⟩ => exact Fin.ext (by blk_simp [i2]; omega)

theorem blk0_2 (c : Dev nD) (t : Fin cfg0.N) (a b : Fin 1024) (r : Fin 16384) (n : Fin 4096) (hr : r.val = a.val) (hn : n.val = 1024 * (t.val / 8) + b.val) :
    @Eq EReal (iblk0 (V1 m ρ) c 2 t (ix2 a b)) (argX m c (ix3 ⟨r.val / 2048, by omega⟩ ⟨r.val % 2048, by omega⟩ n)) := by
  obtain ⟨-, -, ⟨i0, i1⟩, -⟩ := idx0 t
  refine Eq.trans (congrArg (V1 m ρ c main_v1) (?_ : _ = ix2 r n)) (rows_res m ρ c r n)
  funext x
  match x with
  | ⟨0, _⟩ => exact Fin.ext (by blk_simp [i0]; omega)
  | ⟨1, _⟩ => exact Fin.ext (by blk_simp [i1]; omega)

theorem reset0 (c : Dev nD) (t : Fin cfg0.N) (h : t.val % 8 = 0) (i : S1024x1024.Idx) :
    @Eq EReal ((outsAt0 (V1 m ρ) c t.val t.isLt).1 i) (plus (iblk0 (V1 m ρ) c 2 t) (part0 (iblk0 (V1 m ρ) c 0 t) (iblk0 (V1 m ρ) c 1 t)) i) := by
  refine (congrFun (congrArg Prod.fst (outsAt0_A (V1 m ρ) c t h)) i).trans ?_
  dsimp only
  exact congrFun (step0_A c (grid0.coords t) (ms0_0 t) (hs0_0 t) (ms0_1 t) (hs0_1 t) (ms0_2 t) (hs0_2 t) (ms0_3 t) (hs0_3 t) (ms0_4 t) (hs0_4 t) ((hcond0_0 t).mpr h) (iblk0 (V1 m ρ) c 0 t) (iblk0 (V1 m ρ) c 1 t) (iblk0 (V1 m ρ) c 2 t)) i

theorem next0 (c : Dev nD) (t : Fin cfg0.N) (h : ¬t.val % 8 = 0) (i : S1024x1024.Idx) :
    @Eq EReal ((outsAt0 (V1 m ρ) c t.val t.isLt).1 i) (plus ((outsAt0 (V1 m ρ) c (t.val - 1) (Nat.lt_of_le_of_lt (Nat.sub_le _ _) t.isLt)).1) (part0 (iblk0 (V1 m ρ) c 0 t) (iblk0 (V1 m ρ) c 1 t)) i) := by
  refine (congrFun (congrArg Prod.fst (outsAt0_B (V1 m ρ) c t h)) i).trans ?_
  dsimp only
  exact congrFun (step0_B c (grid0.coords t) (ms0_0 t) (hs0_0 t) (ms0_1 t) (hs0_1 t) (ms0_2 t) (hs0_2 t) (ms0_3 t) (hs0_3 t) (ms0_4 t) (hs0_4 t) (fun h' => h ((hcond0_0 t).mp h')) (iblk0 (V1 m ρ) c 0 t) (iblk0 (V1 m ρ) c 1 t) (iblk0 (V1 m ρ) c 2 t) ((outsAt0 (V1 m ρ) c (t.val - 1) (Nat.lt_of_le_of_lt (Nat.sub_le _ _) t.isLt)).1)) i

/-- What the first call holds of the product when a run of its points ends. -/
theorem acc0 (c : Dev nD) (t : Fin cfg0.N) (h : t.val % 8 = 8 - 1) (a b : Fin 1024) (r : Fin 16384) (n : Fin 4096) (hr : r.val = a.val) (hn : n.val = 1024 * (t.val / 8) + b.val) :
    @Eq EReal ((outsAt0 (V1 m ρ) c t.val t.isLt).1 (ix2 a b)) (joined (argA m c) (argW m c) (argX m c) r n) := by
  refine (reset_sum (ι := S1024x1024.Idx) 8 (fun n h => (outsAt0 (V1 m ρ) c n h).1) (fun t => iblk0 (V1 m ρ) c 2 t)
    (fun t => part0 (iblk0 (V1 m ρ) c 0 t) (iblk0 (V1 m ρ) c 1 t))
    (reset0 m ρ c) (next0 m ρ c) t h (ix2 a b)).trans ?_
  have ht := t.isLt
  have hN : cfg0.N = 32 := rfl
  refine congrArg₂ (· + ·) (blk0_2 m ρ c _ a b r n hr (by show n.val = 1024 * (8 * (t.val / 8) / 8) + b.val; omega)) (Fin.sum_mul_add_congr (fun s k hl => congrArg₂ (· * ·) ?_ ?_) rfl)
  · exact blk0_0 m ρ c _ a k r ⟨s.val * 2048 + k.val, hl⟩ hr (by show s.val * 2048 + k.val = 2048 * ((8 * (t.val / 8) + s.val) % 8) + k.val; omega)
  · exact blk0_1 m ρ c _ k b ⟨s.val * 2048 + k.val, hl⟩ n (by show s.val * 2048 + k.val = 2048 * ((8 * (t.val / 8) + s.val) % 8) + k.val; omega)
      (by show n.val = 1024 * ((8 * (t.val / 8) + s.val) / 8) + b.val; omega)

/-- The rows of the first block after the first call. -/
theorem first (c : Dev nD) (i : S16384x4096.Idx) (hi : (i 0).val / 1024 = 0) :
    (dat0 (V1 m ρ) c).arrAt 3 cfg0.N i = joined (argA m c) (argW m c) (argX m c) (i 0) (i 1) := by
  refine ((dat0 (V1 m ρ) c).arrAt_apply_of_coversWhere 3 (fun i => joined (argA m c) (argW m c) (argX m c) (i 0) (i 1)) (P := fun i => (i 0).val / 1024 = 0) (fun β => β (0 : Fin 2) = 0) (by decide +kernel) (fun t hf y => ?_) (fun j => Iff.rfl) i).trans (if_pos hi)
  obtain ⟨-, -, -, ⟨i0, i1⟩, -⟩ := idx0 t
  blk_simp
  rw [after0_3]
  have key : ∀ (y : S1024x1024.Idx) (p : Fin 16384) (q : Fin 4096), p.val = (y 0).val → q.val = 1024 * (t.val / 8) + (y 1).val →
      @Eq EReal ((outsAt0 (V1 m ρ) c t.val t.isLt).1 y) (joined (argA m c) (argW m c) (argX m c) p q) := fun y p q hp hq => by
    rw [eq_ix2 y]
    exact acc0 m ρ c t (flush0 t hf) (y 0) (y 1) p q hp hq
  exact key y _ _ (by blk_simp [i0]) (by blk_simp [i1]; omega)

/-- The copy of the weights that every point of the first call keeps. -/
theorem copy (c : Dev nD) (t : Fin cfg0.N) : (outsAt0 (V1 m ρ) c t.val t.isLt).2 = k0_pay1 (iblk0 (V1 m ρ) c 1 t) := by
  by_cases h : t.val % 8 = 0
  · rw [outsAt0_A (V1 m ρ) c t h]
    dsimp only
    frame_out
  · rw [outsAt0_B (V1 m ρ) c t h]
    dsimp only
    frame_out

theorem weights (c : Dev nD) : (dat0 (V1 m ρ) c).arrAt 4 cfg0.N = fun i => argW m c (ix3 1 (i 0) (i 1)) := by
  refine (dat0 (V1 m ρ) c).arrAt_eq_of_covers 4 _ (by decide +kernel) (fun t hf y => ?_)
  obtain ⟨-, -, -, -, i0, i1⟩ := idx0 t
  blk_simp
  rw [after0_4, copy]
  have key : ∀ (y : S2048x1024.Idx) (p : Fin 16384) (q : Fin 4096), p.val = 2048 * (t.val % 8) + (y 0).val → q.val = 1024 * (t.val / 8) + (y 1).val →
      @Eq EReal (k0_pay1 (iblk0 (V1 m ρ) c 1 t) y) (argW m c (ix3 1 p q)) := fun y p q hp hq => by
    rw [eq_ix2 y]
    exact (pay0_w _ (y 0) (y 1)).trans (blk0_1 m ρ c t (y 0) (y 1) p q hp hq)
  exact key y _ _ (by blk_simp [i0]; omega) (by blk_simp [i1]; omega)

/-- The arrays at the second call's entry. -/
theorem entry_rows (c : Dev nD) : V3 m ρ c main_v0 = V1 m ρ c main_v0 :=
  (W3_of m ρ c main_v0 (by decide)).trans (W2_of m ρ c main_v0 (by decide))

theorem entry_res (c : Dev nD) : V3 m ρ c main_v1 = V1 m ρ c main_v1 :=
  (W3_of m ρ c main_v1 (by decide)).trans (W2_of m ρ c main_v1 (by decide))

theorem entry_weights (c : Dev nD) : V3 m ρ c main_v2_1 = fun i => argW m c (ix3 1 (i 0) (i 1)) :=
  (W3_of m ρ c main_v2_1 (by decide)).trans ((W2_arr m ρ c 4).trans (weights m ρ c))

theorem entry_out (c : Dev nD) : V3 m ρ c main_v3 = (dat0 (V1 m ρ) c).arrAt 3 cfg0.N := by
  refine Eq.trans ?_ (W2_arr m ρ c 3)
  show StableHlo.after hostOps1 (W2 m ρ c) (Proc.devRef .tc main_v3) = _
  entry_read
  rfl

/-- The second call's blocks. -/
theorem blk1_0 (c : Dev nD) (t : Fin cfg1.N) (a : Fin 1024) (k : Fin 4096) (r l : Fin 16384) (hr : r.val = 1024 * (1 + t.val / 16) + a.val) (hl : l.val = 4096 * (t.val % 4) + k.val) :
    @Eq EReal (iblk1 (V3 m ρ) c 0 t (ix2 a k)) (argA m c (ix3 ⟨r.val / 2048, by omega⟩ ⟨r.val % 2048, by omega⟩ l)) := by
  obtain ⟨⟨i0, i1⟩, -⟩ := idx1 t
  refine Eq.trans (congrArg (V3 m ρ c main_v0) (?_ : _ = ix2 r l)) ((congrFun (entry_rows m ρ c) _).trans (rows m ρ c r l))
  funext x
  match x with
  | ⟨0, _⟩ => exact Fin.ext (by blk_simp [i0]; omega)
  | ⟨1, _⟩ => exact Fin.ext (by blk_simp [i1]; omega)

theorem blk1_1 (c : Dev nD) (t : Fin cfg1.N) (k : Fin 4096) (b : Fin 1024) (l : Fin 16384) (n : Fin 4096) (hl : l.val = 4096 * (t.val % 4) + k.val) (hn : n.val = 1024 * (t.val / 4 % 4) + b.val) :
    @Eq EReal (iblk1 (V3 m ρ) c 1 t (ix2 k b)) (argW m c (ix3 1 l n)) := by
  obtain ⟨-, ⟨i0, i1⟩, -⟩ := idx1 t
  refine Eq.trans (congrArg (V3 m ρ c main_v2_1) (?_ : _ = ix2 l n)) (congrFun (entry_weights m ρ c) _)
  funext x
  match x with
  | ⟨0, _⟩ => exact Fin.ext (by blk_simp [i0]; omega)
  | ⟨1, _⟩ => exact Fin.ext (by blk_simp [i1]; omega)

theorem blk1_2 (c : Dev nD) (t : Fin cfg1.N) (a b : Fin 1024) (r : Fin 16384) (n : Fin 4096) (hr : r.val = 1024 * (1 + t.val / 16) + a.val) (hn : n.val = 1024 * (t.val / 4 % 4) + b.val) :
    @Eq EReal (iblk1 (V3 m ρ) c 2 t (ix2 a b)) (argX m c (ix3 ⟨r.val / 2048, by omega⟩ ⟨r.val % 2048, by omega⟩ n)) := by
  obtain ⟨-, -, ⟨i0, i1⟩, -⟩ := idx1 t
  refine Eq.trans (congrArg (V3 m ρ c main_v1) (?_ : _ = ix2 r n)) ((congrFun (entry_res m ρ c) _).trans (rows_res m ρ c r n))
  funext x
  match x with
  | ⟨0, _⟩ => exact Fin.ext (by blk_simp [i0]; omega)
  | ⟨1, _⟩ => exact Fin.ext (by blk_simp [i1]; omega)

theorem reset1 (c : Dev nD) (t : Fin cfg1.N) (h : t.val % 4 = 0) (i : S1024x1024.Idx) :
    @Eq EReal ((outsAt1 (V3 m ρ) c t.val t.isLt) i) (plus (iblk1 (V3 m ρ) c 2 t) (part1 (iblk1 (V3 m ρ) c 0 t) (iblk1 (V3 m ρ) c 1 t)) i) := by
  refine (congrFun (outsAt1_A (V3 m ρ) c t h) i).trans ?_
  exact congrFun (step1_A c (grid1.coords t) (ms1_0 t) (hs1_0 t) (ms1_1 t) (hs1_1 t) (ms1_2 t) (hs1_2 t) (ms1_3 t) (hs1_3 t) ((hcond1_0 t).mpr h) (iblk1 (V3 m ρ) c 0 t) (iblk1 (V3 m ρ) c 1 t) (iblk1 (V3 m ρ) c 2 t)) i

theorem next1 (c : Dev nD) (t : Fin cfg1.N) (h : ¬t.val % 4 = 0) (i : S1024x1024.Idx) :
    @Eq EReal ((outsAt1 (V3 m ρ) c t.val t.isLt) i) (plus ((outsAt1 (V3 m ρ) c (t.val - 1) (Nat.lt_of_le_of_lt (Nat.sub_le _ _) t.isLt))) (part1 (iblk1 (V3 m ρ) c 0 t) (iblk1 (V3 m ρ) c 1 t)) i) := by
  refine (congrFun (outsAt1_B (V3 m ρ) c t h) i).trans ?_
  exact congrFun (step1_B c (grid1.coords t) (ms1_0 t) (hs1_0 t) (ms1_1 t) (hs1_1 t) (ms1_2 t) (hs1_2 t) (ms1_3 t) (hs1_3 t) (fun h' => h ((hcond1_0 t).mp h')) (iblk1 (V3 m ρ) c 0 t) (iblk1 (V3 m ρ) c 1 t) (iblk1 (V3 m ρ) c 2 t) ((outsAt1 (V3 m ρ) c (t.val - 1) (Nat.lt_of_le_of_lt (Nat.sub_le _ _) t.isLt)))) i

/-- What the second call holds of the product when a run of its points ends. -/
theorem acc1 (c : Dev nD) (t : Fin cfg1.N) (h : t.val % 4 = 4 - 1) (a b : Fin 1024) (r : Fin 16384) (n : Fin 4096) (hr : r.val = 1024 * (1 + t.val / 16) + a.val) (hn : n.val = 1024 * (t.val / 4 % 4) + b.val) :
    @Eq EReal (outsAt1 (V3 m ρ) c t.val t.isLt (ix2 a b)) (joined (argA m c) (argW m c) (argX m c) r n) := by
  refine (reset_sum (ι := S1024x1024.Idx) 4 (fun n h => outsAt1 (V3 m ρ) c n h) (fun t => iblk1 (V3 m ρ) c 2 t)
    (fun t => part1 (iblk1 (V3 m ρ) c 0 t) (iblk1 (V3 m ρ) c 1 t))
    (reset1 m ρ c) (next1 m ρ c) t h (ix2 a b)).trans ?_
  have ht := t.isLt
  have hN : cfg1.N = 240 := rfl
  refine congrArg₂ (· + ·) (blk1_2 m ρ c _ a b r n (by show r.val = 1024 * (1 + 4 * (t.val / 4) / 16) + a.val; omega) (by show n.val = 1024 * (4 * (t.val / 4) / 4 % 4) + b.val; omega))
    (Fin.sum_mul_add_congr (fun s k hl => congrArg₂ (· * ·) ?_ ?_) rfl)
  · exact blk1_0 m ρ c _ a k r ⟨s.val * 4096 + k.val, hl⟩ (by show r.val = 1024 * (1 + (4 * (t.val / 4) + s.val) / 16) + a.val; omega)
      (by show s.val * 4096 + k.val = 4096 * ((4 * (t.val / 4) + s.val) % 4) + k.val; omega)
  · exact blk1_1 m ρ c _ k b ⟨s.val * 4096 + k.val, hl⟩ n (by show s.val * 4096 + k.val = 4096 * ((4 * (t.val / 4) + s.val) % 4) + k.val; omega)
      (by show n.val = 1024 * ((4 * (t.val / 4) + s.val) / 4 % 4) + b.val; omega)

/-- The residual stream after the second call. -/
theorem stream (c : Dev nD) : W4 m ρ c (Proc.devRef .tc main_v3) = fun i => joined (argA m c) (argW m c) (argX m c) (i 0) (i 1) := by
  refine (W4_arr m ρ c 3).trans ?_
  refine (dat1 (V3 m ρ) c).arrAt_eq_of_coversWhere_of_agree 3 _ (fun β => 1 ≤ β (0 : Fin 2)) (by decide +kernel) (fun t hf y => ?_) (fun j hj => ?_)
  · obtain ⟨-, -, -, i0, i1⟩ := idx1 t
    blk_simp
    rw [after1_3]
    have key : ∀ (y : S1024x1024.Idx) (p : Fin 16384) (q : Fin 4096), p.val = 1024 * (1 + t.val / 16) + (y 0).val → q.val = 1024 * (t.val / 4 % 4) + (y 1).val →
        @Eq EReal (outsAt1 (V3 m ρ) c t.val t.isLt y) (joined (argA m c) (argW m c) (argX m c) p q) := fun y p q hp hq => by
      rw [eq_ix2 y]
      exact acc1 m ρ c t (flush1 t hf) (y 0) (y 1) p q hp hq
    exact key y _ _ (by blk_simp [i0]; omega) (by blk_simp [i1]; omega)
  · rw [A_eq1]
    refine (congrFun (entry_out m ρ c) _).trans (first m ρ c _ ?_)
    blk_simp [Pipeline.Window.cell_apply] at hj ⊢
    omega

theorem norm_pay (x : Vec Ideal S512x4096 .f32) (g : Vec Ideal S1x4096 .f32) (a : Fin 512) (b : Fin 4096) :
    @Eq EReal (k2_pay1 x g (ix2 a b)) (normed (fun n => x (ix2 a n)) (fun i => g (ix2 0 (i 0))) b) := by
  unfold k2_pay1 normed
  pointwise

/-- The norm's blocks. -/
theorem scale (c : Dev nD) (n : Fin 4096) : @Eq EReal (V5 m ρ c main_v4 (ix2 0 n)) (argG m c (ix1 n)) := by
  show StableHlo.after hostOps2 (W4 m ρ c) (Proc.devRef .tc main_v4) (ix2 0 n) = _
  entry_read
  rw [show W4 m ρ c (Proc.devRef .tc main_arg3) = argG m c from W4_args m ρ c main_arg3 (by decide)]
  pointwise

theorem blk2_0 (c : Dev nD) (t : Fin cfg2.N) (a : Fin 512) (n : Fin 4096) (r : Fin 16384) (hr : r.val = 512 * t.val + a.val) :
    @Eq EReal (iblk2 (V5 m ρ) c 0 t (ix2 a n)) (joined (argA m c) (argW m c) (argX m c) r n) := by
  obtain ⟨⟨i0, i1⟩, -⟩ := idx2 t
  refine Eq.trans (congrArg (V5 m ρ c main_v3) (?_ : _ = ix2 r n)) (congrFun ((W5_of m ρ c main_v3 (by decide)).trans (stream m ρ c)) _)
  funext x
  match x with
  | ⟨0, _⟩ => exact Fin.ext (by blk_simp [i0]; omega)
  | ⟨1, _⟩ => exact Fin.ext (by blk_simp [i1])

theorem blk2_1 (c : Dev nD) (t : Fin cfg2.N) (n : Fin 4096) :
    @Eq EReal (iblk2 (V5 m ρ) c 1 t (ix2 0 n)) (argG m c (ix1 n)) := by
  obtain ⟨-, ⟨i0, i1⟩, -⟩ := idx2 t
  refine Eq.trans (congrArg (V5 m ρ c main_v4) (?_ : _ = ix2 0 n)) (scale m ρ c n)
  funext x
  match x with
  | ⟨0, _⟩ => exact Fin.ext (by blk_simp [i0])
  | ⟨1, _⟩ => exact Fin.ext (by blk_simp [i1])

/-- The result after the norm. -/
theorem final (c : Dev nD) : W6 m ρ c (Proc.devRef .tc main_v5) = fun i => normed (joined (argA m c) (argW m c) (argX m c) (i 0)) (argG m c) (i 1) := by
  refine (W6_arr m ρ c 2).trans ?_
  refine (dat2 (V5 m ρ) c).arrAt_eq_of_covers 2 _ (by decide +kernel) (fun t hf y => ?_)
  obtain ⟨-, -, i0, i1⟩ := idx2 t
  blk_simp
  rw [after2_2]
  unfold out2_2
  frame_out
  have key : ∀ (y : S512x4096.Idx) (p : Fin 16384) (q : Fin 4096), p.val = 512 * t.val + (y 0).val → q.val = (y 1).val →
      @Eq EReal (k2_pay1 (iblk2 (V5 m ρ) c 0 t) (iblk2 (V5 m ρ) c 1 t) y) (normed (joined (argA m c) (argW m c) (argX m c) p) (argG m c) q) := fun y p q hp hq => by
    rw [eq_ix2 y, show q = y 1 from Fin.ext hq]
    refine (norm_pay _ _ (y 0) (y 1)).trans ?_
    rw [show (fun n => iblk2 (V5 m ρ) c 0 t (ix2 (y 0) n)) = joined (argA m c) (argW m c) (argX m c) p from funext fun n => blk2_0 m ρ c t (y 0) n p hp]
    refine congrArg (fun g => normed _ g (y 1)) (funext fun i => ?_)
    exact (blk2_1 m ρ c t (i 0)).trans (congrArg (argG m c) (eq_ix1 i).symm)
  exact key y _ _ (by blk_simp [i0]; omega) (by blk_simp [i1])

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The three calls run from any memory, and every buffer of the core ends at the contents followed through them. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W6 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (QY := fun c s => ∀ b ∈ Pipeline.ucRefs τ sig, s.mem (((c : Thread nD τ)).1, b) = W6 m ρ c b)
    (hu₀ := ?_) (hinit := Pipeline.initEach L lv fun c => ?_) (hfin := fun c s' => ?_) (hQ := fun s h _ => h)
  · have hown : ownU (initOf (Pipeline.cells cfgs cellOf_inj) (Pipeline.launchToks cfgs cellOf_inj))
        ⊢ (BI.own (emb₁ (initOf (Pipeline.cells cfgs cellOf_inj) (Pipeline.launchToks cfgs cellOf_inj))) : sProp (MT nD τ sig Unit (Elt Ideal) ℕ (UR sig nD τ) ℕ)) := .rfl
    have hemp : (BI.emp : sProp (MT nD τ sig Unit (Elt Ideal) ℕ (UR sig nD τ) ℕ)) ⊢ bigSep Finset.univ (fun _ : Dev nD => BI.emp) := by rw [BI.bigSep_emp_const]
    iintro Hu
    imodintro
    isplitl [Hu]
    · iapply hown
      iexact Hu
    iapply hemp
    iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W6 m ρ c) s')
    isplitl [Hh] <;> iassumption

/-- The result and the arguments after the run. -/
theorem kernel_run : θ_run defs (onTc (τ := τ) (main (F := Ideal))) ⟨m, fun _ => 0, ρ⟩ (fun r => ∀ c : Dev nD,
    r.2.mem ((c.tc : Thread nD τ).loc main_v5) = (fun i => normed (joined (argA m c) (argW m c) (argX m c) (i 0)) (argG m c) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c _ (mem_uc main_v5 (by decide))).trans (final m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c)⟩) (run m ρ)

end Cert.DownV
end
-- ==== Proof.DownRef.lean ====
/- The down product added to the residual, and the final norm, from the reference. -/
module

public import proofs.«01_k».proof.Proof.DownValue
public import proofs.«01_k».proof.Proof.Gen.DownRefIdeal.Run

@[expose] public section

set_option maxRecDepth 16384

noncomputable section

namespace Cert.DownV

open Cert.DownRefIdeal Cert.DownRefIdeal.Gen Idealize.ShloMosaic Idealize.ShloMosaic.TcCoe Idealize.SL.Sem

/-- The residual stream with the product added, from its operations. -/
theorem ref_joined (A : Vec Ideal S8x2048x16384 .bf16) (W : Vec Ideal S2x16384x4096 .f32) (X : Vec Ideal S8x2048x4096 .f32) (r : Fin 16384) (n : Fin 4096) :
    @Eq EReal (addf (F := Ideal) (φ := .f32) X (Host.dotGeneral (F := Ideal) (φ₂ := .f32) dot_S8x2048x16384_S16384x4096_S8x2048x4096_2_0_01_1_n_n none (extf .f32 A bitsLt_bf16_f32)
      (shapeCast S16384x4096 (extractStridedSlice S1x16384x4096 ![1, 0, 0] W slices_S2x16384x4096_S1x16384x4096_1_0_0) shapeCasts_S1x16384x4096_S16384x4096))
      (ix3 ⟨r.val / 2048, by omega⟩ ⟨r.val % 2048, by omega⟩ n)) (joined A W X r n) := by
  unfold joined
  pointwise

/-- The norm of an array, from its operations. -/
theorem ref_normed (Y : Vec Ideal S8x2048x4096 .f32) (g : Vec Ideal S4096 .f32) (r : Fin 16384) (n : Fin 4096) :
    @Eq EReal (shapeCast S16384x4096 (mulf (F := Ideal) (φ := .f32) (mulf Y (broadcastInDim S8x2048x4096 ![0, 1, 2] bcast_S8x2048x1_S8x2048x4096_0_1_2
      (Host.rsqrt (addf (Host.divf (broadcastInDim S8x2048x1 ![0, 1] bcast_S8x2048_S8x2048x1_0_1 (Host.reduceAdd (mulf Y Y) (constant S_ .f32 0x00000000#32) reducesTo_S8x2048x4096_S8x2048_d2 h_S_))
        (broadcastInDim S8x2048x1 ![] bcast_S_S8x2048x1 (constant S_ .f32 0x45800000#32))) (broadcastInDim S8x2048x1 ![] bcast_S_S8x2048x1 (constant S_ .f32 0x358637BD#32))))))
      (broadcastInDim S8x2048x4096 ![0, 1, 2] bcast_S1x1x4096_S8x2048x4096_0_1_2 (broadcastInDim S1x1x4096 ![2] bcast_S4096_S1x1x4096_2 g))) shapeCasts_S8x2048x4096_S16384x4096
      (ix2 r n)) (normed (fun n => Y (ix3 ⟨r.val / 2048, by omega⟩ ⟨r.val % 2048, by omega⟩ n)) g n) := by
  unfold normed
  pointwise

variable (m : (ℓ : Loc nD τ sig) → Buf (Elt Ideal) ℓ) (ρ : Dev nD → PrngReg)

/-- The reference's result and arguments after its run. -/
theorem ref_run : θ_run defs (onTc (τ := τ) (main (F := Ideal))) ⟨m, fun _ => 0, ρ⟩ (fun r => ∀ c : Dev nD,
    r.2.mem ((c.tc : Thread nD τ).loc main_v18) = (fun i => normed (joined (m ((c.tc : Thread nD τ).loc main_arg0)) (m ((c.tc : Thread nD τ).loc main_arg1)) (m ((c.tc : Thread nD τ).loc main_arg2)) (i 0)) (m ((c.tc : Thread nD τ).loc main_arg3)) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (by
    funext i
    rw [eq_ix2 i]
    exact (ref_normed _ _ (i 0) (i 1)).trans (congrArg (fun x => normed x _ (i 1)) (funext fun n => ref_joined _ _ _ (i 0) n))), (h c).2⟩) (Cert.DownRefIdeal.Value.run (F := Ideal) m ρ)

end Cert.DownV
end
-- ==== Proof.InBValue.lean ====
/- The norm before mixer B and the projection that follows it: what the three calls of `InB` leave, element by element. -/
module

public import proofs.«01_k».proof.Defs
public import proofs.«01_k».proof.Proof.Gen.InBIdeal.Frame
public import proofs.«01_k».proof.Proof.DownValue

@[expose] public section

set_option maxRecDepth 16384

noncomputable section

namespace Cert.InBV

open Cert.InBIdeal Cert.InBIdeal.Gen Idealize.ShloMosaic Idealize.ShloMosaic.TcCoe Idealize.SL.Sem
open Cert.DownV (normed)

/-- An element of the product of the normed rows of `X`, batch by batch, with the slice of `W`. -/
def spec (X : S8x2048x4096.Idx → EReal) (g : S4096.Idx → EReal) (W : S1x4096x12288.Idx → EReal) (r : Fin 16384) (n : Fin 12288) : EReal :=
  ∑ k : Fin 4096, normed (fun l => X (ix3 ⟨r.val / 2048, by omega⟩ ⟨r.val % 2048, by omega⟩ l)) g k * W (ix3 0 k n)

theorem norm_pay (x : Vec Ideal S512x4096 .f32) (g : Vec Ideal S1x4096 .f32) (a : Fin 512) (b : Fin 4096) :
    @Eq EReal (k0_pay1 x g (ix2 a b)) (normed (fun n => x (ix2 a n)) (fun i => g (ix2 0 (i 0))) b) := by
  unfold k0_pay1 normed
  pointwise

theorem pay1_w (w : Vec Ideal S1x4096x512 .f32) (k : Fin 4096) (b : Fin 512) : @Eq EReal (k1_pay1 w (ix2 k b)) (w (ix3 0 k b)) := by
  unfold k1_pay1
  pointwise

theorem pay1 (x : Vec Ideal S1024x4096 .bf16) (w : Vec Ideal S4096x512 .bf16) (a : Fin 1024) (b : Fin 512) :
    @Eq EReal (k1_pay2 x w (ix2 a b)) (∑ k : Fin 4096, (x (ix2 a k) : EReal) * w (ix2 k b)) := by
  unfold k1_pay2
  pointwise

theorem pay2 (x : Vec Ideal S1024x4096 .bf16) (w : Vec Ideal S4096x1024 .bf16) (a : Fin 1024) (b : Fin 1024) :
    @Eq EReal (k2_pay1 x w (ix2 a b)) (∑ k : Fin 4096, (x (ix2 a k) : EReal) * w (ix2 k b)) := by
  unfold k2_pay1
  pointwise

theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

theorem idx1 : ∀ t : Fin cfg1.N, (win1_0.index t (0 : Fin 2) = 0 ∧ win1_0.index t (1 : Fin 2) = 0)
    ∧ (win1_1.index t (0 : Fin 3) = 0 ∧ win1_1.index t (1 : Fin 3) = 0 ∧ win1_1.index t (2 : Fin 3) = t.val)
    ∧ (win1_2.index t (0 : Fin 2) = 0 ∧ win1_2.index t (1 : Fin 2) = t.val)
    ∧ (win1_3.index t (0 : Fin 2) = 0 ∧ win1_3.index t (1 : Fin 2) = t.val) :=
  (by decide +kernel : ∀ t : Fin grid1.N, (win1_0.index t (0 : Fin 2) = 0 ∧ win1_0.index t (1 : Fin 2) = 0)
    ∧ (win1_1.index t (0 : Fin 3) = 0 ∧ win1_1.index t (1 : Fin 3) = 0 ∧ win1_1.index t (2 : Fin 3) = t.val)
    ∧ (win1_2.index t (0 : Fin 2) = 0 ∧ win1_2.index t (1 : Fin 2) = t.val)
    ∧ (win1_3.index t (0 : Fin 2) = 0 ∧ win1_3.index t (1 : Fin 2) = t.val))

theorem idx2 : ∀ t : Fin cfg2.N, (win2_0.index t (0 : Fin 2) = 1 + t.val / 12 ∧ win2_0.index t (1 : Fin 2) = 0)
    ∧ (win2_1.index t (0 : Fin 2) = 0 ∧ win2_1.index t (1 : Fin 2) = t.val % 12)
    ∧ (win2_2.index t (0 : Fin 2) = 1 + t.val / 12 ∧ win2_2.index t (1 : Fin 2) = t.val % 12) :=
  (by decide +kernel : ∀ t : Fin grid2.N, (win2_0.index t (0 : Fin 2) = 1 + t.val / 12 ∧ win2_0.index t (1 : Fin 2) = 0)
    ∧ (win2_1.index t (0 : Fin 2) = 0 ∧ win2_1.index t (1 : Fin 2) = t.val % 12)
    ∧ (win2_2.index t (0 : Fin 2) = 1 + t.val / 12 ∧ win2_2.index t (1 : Fin 2) = t.val % 12))

variable (m : (ℓ : Loc nD τ sig) → Buf (Elt Ideal) ℓ) (ρ : Dev nD → PrngReg)

abbrev argX (c : Dev nD) : S8x2048x4096.Idx → EReal := m ((c.tc : Thread nD τ).loc main_arg0)
abbrev argG (c : Dev nD) : S4096.Idx → EReal := m ((c.tc : Thread nD τ).loc main_arg1)
abbrev argW (c : Dev nD) : S1x4096x12288.Idx → EReal := m ((c.tc : Thread nD τ).loc main_arg2)

/-- A row of the residual stream, and the row normed. -/
abbrev row (c : Dev nD) (r : Fin 16384) (l : Fin 4096) : EReal := argX m c (ix3 ⟨r.val / 2048, by omega⟩ ⟨r.val % 2048, by omega⟩ l)
abbrev nrow (c : Dev nD) (r : Fin 16384) (k : Fin 4096) : EReal := normed (row m c r) (argG m c) k

/-- The joined rows and the scale at the norm's entry. -/
theorem rows (c : Dev nD) (r : Fin 16384) (k : Fin 4096) : @Eq EReal (V1 m ρ c main_v0 (ix2 r k)) (row m c r k) := by
  show StableHlo.after hostOps0 (W0 m ρ c) (Proc.devRef .tc main_v0) (ix2 r k) = _
  entry_read
  pointwise

theorem scale (c : Dev nD) (n : Fin 4096) : @Eq EReal (V1 m ρ c main_v1 (ix2 0 n)) (argG m c (ix1 n)) := by
  show StableHlo.after hostOps0 (W0 m ρ c) (Proc.devRef .tc main_v1) (ix2 0 n) = _
  entry_read
  pointwise

/-- The norm's blocks. -/
theorem blk0_0 (c : Dev nD) (t : Fin cfg0.N) (a : Fin 512) (k : Fin 4096) (r : Fin 16384) (hr : r.val = 512 * t.val + a.val) :
    @Eq EReal (iblk0 (V1 m ρ) c 0 t (ix2 a k)) (row m c r k) := by
  obtain ⟨⟨i0, i1⟩, -⟩ := idx0 t
  refine Eq.trans (congrArg (V1 m ρ c main_v0) (?_ : _ = ix2 r k)) (rows m ρ c r k)
  funext x
  match x with
  | ⟨0, _⟩ => exact Fin.ext (by blk_simp [i0]; omega)
  | ⟨1, _⟩ => exact Fin.ext (by blk_simp [i1])

theorem blk0_1 (c : Dev nD) (t : Fin cfg0.N) (n : Fin 4096) :
    @Eq EReal (iblk0 (V1 m ρ) c 1 t (ix2 0 n)) (argG m c (ix1 n)) := by
  obtain ⟨-, ⟨i0, i1⟩, -⟩ := idx0 t
  refine Eq.trans (congrArg (V1 m ρ c main_v1) (?_ : _ = ix2 0 n)) (scale m ρ c n)
  funext x
  match x with
  | ⟨0, _⟩ => exact Fin.ext (by blk_simp [i0])
  | ⟨1, _⟩ => exact Fin.ext (by blk_simp [i1])

/-- The normed rows. -/
theorem normed_rows (c : Dev nD) : (dat0 (V1 m ρ) c).arrAt 2 cfg0.N = fun i => nrow m c (i 0) (i 1) := by
  refine (dat0 (V1 m ρ) c).arrAt_eq_of_covers 2 _ (by decide +kernel) (fun t hf y => ?_)
  obtain ⟨-, -, i0, i1⟩ := idx0 t
  blk_simp
  rw [after0_2]
  unfold out0_2
  frame_out
  have key : ∀ (y : S512x4096.Idx) (p : Fin 16384) (q : Fin 4096), p.val = 512 * t.val + (y 0).val → q.val = (y 1).val →
      @Eq EReal (k0_pay1 (iblk0 (V1 m ρ) c 0 t) (iblk0 (V1 m ρ) c 1 t) y) (nrow m c p q) := fun y p q hp hq => by
    rw [eq_ix2 y, show q = y 1 from Fin.ext hq]
    refine (norm_pay _ _ (y 0) (y 1)).trans ?_
    rw [show (fun n => iblk0 (V1 m ρ) c 0 t (ix2 (y 0) n)) = row m c p from funext fun n => blk0_0 m ρ c t (y 0) n p hp]
    refine congrArg (fun g => normed _ g (y 1)) (funext fun i => ?_)
    exact (blk0_1 m ρ c t (i 0)).trans (congrArg (argG m c) (eq_ix1 i).symm)
  exact key y _ _ (by blk_simp [i0]; omega) (by blk_simp [i1])

/-- The first product's blocks. -/
theorem blk1_0 (c : Dev nD) (t : Fin cfg1.N) (a : Fin 1024) (k : Fin 4096) (r : Fin 16384) (hr : r.val = a.val) :
    @Eq EReal (iblk1 (V2 m ρ) c 0 t (ix2 a k)) (nrow m c r k) := by
  obtain ⟨⟨i0, i1⟩, -⟩ := idx1 t
  refine Eq.trans (congrArg (V2 m ρ c main_v2) (?_ : _ = ix2 r k)) (congrFun ((W2_arr m ρ c 2).trans (normed_rows m ρ c)) _)
  funext x
  match x with
  | ⟨0, _⟩ => exact Fin.ext (by blk_simp [i0]; omega)
  | ⟨1, _⟩ => exact Fin.ext (by blk_simp [i1])

theorem blk1_1 (c : Dev nD) (t : Fin cfg1.N) (k : Fin 4096) (b : Fin 512) (n : Fin 12288) (hn : n.val = 512 * t.val + b.val) :
    @Eq EReal (iblk1 (V2 m ρ) c 1 t (ix3 0 k b)) (argW m c (ix3 0 k n)) := by
  obtain ⟨-, ⟨i0, i1, i2⟩, -⟩ := idx1 t
  refine Eq.trans (congrArg (V2 m ρ c main_arg2) (?_ : _ = ix3 0 k n)) (congrFun (W2_args m ρ c main_arg2 (by decide)) _)
  funext x
  match x with
  | ⟨0, _⟩ => exact Fin.ext (by blk_simp [i0])
  | ⟨1, _⟩ => exact Fin.ext (by blk_simp [i1])
  | ⟨2, _⟩ => exact Fin.ext (by blk_simp [i2]; omega)

/-- The bf16 copy of the weights. -/
theorem weights (c : Dev nD) : (dat1 (V2 m ρ) c).arrAt 3 cfg1.N = fun i => argW m c (ix3 0 (i 0) (i 1)) := by
  refine (dat1 (V2 m ρ) c).arrAt_eq_of_covers 3 _ (by decide +kernel) (fun t hf y => ?_)
  obtain ⟨-, -, -, i0, i1⟩ := idx1 t
  blk_simp
  rw [after1_3]
  unfold outsAt1
  dsimp only
  frame_out
  have key : ∀ (y : S4096x512.Idx) (p : Fin 4096) (q : Fin 12288), p.val = (y 0).val → q.val = 512 * t.val + (y 1).val →
      @Eq EReal (k1_pay1 (iblk1 (V2 m ρ) c 1 t) y) (argW m c (ix3 0 p q)) := fun y p q hp hq => by
    rw [eq_ix2 y, show p = y 0 from Fin.ext hp]
    exact (pay1_w _ (y 0) (y 1)).trans (blk1_1 m ρ c t (y 0) (y 1) q hq)
  exact key y _ _ (by blk_simp [i0]) (by blk_simp [i1]; omega)

/-- The rows of the first block after the first product. -/
theorem first (c : Dev nD) (i : S16384x12288.Idx) (hi : (i 0).val / 1024 = 0) :
    (dat1 (V2 m ρ) c).arrAt 2 cfg1.N i = spec (argX m c) (argG m c) (argW m c) (i 0) (i 1) := by
  refine ((dat1 (V2 m ρ) c).arrAt_apply_of_coversWhere 2 (fun i => spec (argX m c) (argG m c) (argW m c) (i 0) (i 1)) (P := fun i => (i 0).val / 1024 = 0) (fun β => β (0 : Fin 2) = 0) (by decide +kernel) (fun t hf y => ?_) (fun j => Iff.rfl) i).trans (if_pos hi)
  obtain ⟨-, -, ⟨i0, i1⟩, -⟩ := idx1 t
  blk_simp
  rw [after1_2]
  unfold outsAt1
  dsimp only
  frame_out
  have key : ∀ (y : S1024x512.Idx) (p : Fin 16384) (q : Fin 12288), p.val = (y 0).val → q.val = 512 * t.val + (y 1).val →
      @Eq EReal (k1_pay2 (iblk1 (V2 m ρ) c 0 t) (k1_pay1 (iblk1 (V2 m ρ) c 1 t)) y) (spec (argX m c) (argG m c) (argW m c) p q) := fun y p q hp hq => by
    rw [eq_ix2 y]
    exact (pay1 _ _ (y 0) (y 1)).trans (Finset.sum_congr rfl fun k _ =>
      congrArg₂ (· * ·) (blk1_0 m ρ c t (y 0) k p hp) ((pay1_w _ k (y 1)).trans (blk1_1 m ρ c t k (y 1) q hq)))
  exact key y _ _ (by blk_simp [i0]) (by blk_simp [i1]; omega)

/-- The arrays at the second product's entry. -/
theorem entry_rows (c : Dev nD) : V4 m ρ c main_v2 = fun i => nrow m c (i 0) (i 1) :=
  (W4_of m ρ c main_v2 (by decide)).trans ((W3_of m ρ c main_v2 (by decide)).trans ((W2_arr m ρ c 2).trans (normed_rows m ρ c)))

theorem entry_weights (c : Dev nD) : V4 m ρ c main_v3_1 = fun i => argW m c (ix3 0 (i 0) (i 1)) :=
  (W4_of m ρ c main_v3_1 (by decide)).trans ((W3_arr m ρ c 3).trans (weights m ρ c))

theorem entry_out (c : Dev nD) : V4 m ρ c main_v4 = (dat1 (V2 m ρ) c).arrAt 2 cfg1.N := by
  refine Eq.trans ?_ (W3_arr m ρ c 2)
  show StableHlo.after hostOps2 (W3 m ρ c) (Proc.devRef .tc main_v4) = _
  entry_read
  rfl

/-- The second product's blocks. -/
theorem blk2_0 (c : Dev nD) (t : Fin cfg2.N) (a : Fin 1024) (k : Fin 4096) (r : Fin 16384) (hr : r.val = 1024 * (1 + t.val / 12) + a.val) :
    @Eq EReal (iblk2 (V4 m ρ) c 0 t (ix2 a k)) (nrow m c r k) := by
  obtain ⟨⟨i0, i1⟩, -⟩ := idx2 t
  refine Eq.trans (congrArg (V4 m ρ c main_v2) (?_ : _ = ix2 r k)) (congrFun (entry_rows m ρ c) _)
  funext x
  match x with
  | ⟨0, _⟩ => exact Fin.ext (by blk_simp [i0]; omega)
  | ⟨1, _⟩ => exact Fin.ext (by blk_simp [i1])

theorem blk2_1 (c : Dev nD) (t : Fin cfg2.N) (k : Fin 4096) (b : Fin 1024) (n : Fin 12288) (hn : n.val = 1024 * (t.val % 12) + b.val) :
    @Eq EReal (iblk2 (V4 m ρ) c 1 t (ix2 k b)) (argW m c (ix3 0 k n)) := by
  obtain ⟨-, ⟨i0, i1⟩, -⟩ := idx2 t
  refine Eq.trans (congrArg (V4 m ρ c main_v3_1) (?_ : _ = ix2 k n)) (congrFun (entry_weights m ρ c) _)
  funext x
  match x with
  | ⟨0, _⟩ => exact Fin.ext (by blk_simp [i0])
  | ⟨1, _⟩ => exact Fin.ext (by blk_simp [i1]; omega)

/-- The result after the second product. -/
theorem final (c : Dev nD) : W5 m ρ c (Proc.devRef .tc main_v4) = fun i => spec (argX m c) (argG m c) (argW m c) (i 0) (i 1) := by
  refine (W5_arr m ρ c 2).trans ?_
  refine (dat2 (V4 m ρ) c).arrAt_eq_of_coversWhere_of_agree 2 _ (fun β => 1 ≤ β (0 : Fin 2)) (by decide +kernel) (fun t hf y => ?_) (fun j hj => ?_)
  · obtain ⟨-, -, i0, i1⟩ := idx2 t
    blk_simp
    rw [after2_2]
    unfold outsAt2
    frame_out
    have key : ∀ (y : S1024x1024.Idx) (p : Fin 16384) (q : Fin 12288), p.val = 1024 * (1 + t.val / 12) + (y 0).val → q.val = 1024 * (t.val % 12) + (y 1).val →
        @Eq EReal (k2_pay1 (iblk2 (V4 m ρ) c 0 t) (iblk2 (V4 m ρ) c 1 t) y) (spec (argX m c) (argG m c) (argW m c) p q) := fun y p q hp hq => by
      rw [eq_ix2 y]
      exact (pay2 _ _ (y 0) (y 1)).trans (Finset.sum_congr rfl fun k _ => congrArg₂ (· * ·) (blk2_0 m ρ c t (y 0) k p hp) (blk2_1 m ρ c t k (y 1) q hq))
    exact key y _ _ (by blk_simp [i0]; omega) (by blk_simp [i1]; omega)
  · rw [A_eq2]
    refine (congrFun (entry_out m ρ c) _).trans (first m ρ c _ ?_)
    blk_simp [Pipeline.Window.cell_apply] at hj ⊢
    omega

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The three calls run from any memory, and every buffer of the core ends at the contents followed through them. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (QY := fun c s => ∀ b ∈ Pipeline.ucRefs τ sig, s.mem (((c : Thread nD τ)).1, b) = W5 m ρ c b)
    (hu₀ := ?_) (hinit := Pipeline.initEach L lv fun c => ?_) (hfin := fun c s' => ?_) (hQ := fun s h _ => h)
  · have hown : ownU (initOf (Pipeline.cells cfgs cellOf_inj) (Pipeline.launchToks cfgs cellOf_inj))
        ⊢ (BI.own (emb₁ (initOf (Pipeline.cells cfgs cellOf_inj) (Pipeline.launchToks cfgs cellOf_inj))) : sProp (MT nD τ sig Unit (Elt Ideal) ℕ (UR sig nD τ) ℕ)) := .rfl
    have hemp : (BI.emp : sProp (MT nD τ sig Unit (Elt Ideal) ℕ (UR sig nD τ) ℕ)) ⊢ bigSep Finset.univ (fun _ : Dev nD => BI.emp) := by rw [BI.bigSep_emp_const]
    iintro Hu
    imodintro
    isplitl [Hu]
    · iapply hown
      iexact Hu
    iapply hemp
    iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption

/-- The result and the arguments after the run. -/
theorem kernel_run : θ_run defs (onTc (τ := τ) (main (F := Ideal))) ⟨m, fun _ => 0, ρ⟩ (fun r => ∀ c : Dev nD,
    r.2.mem ((c.tc : Thread nD τ).loc main_v4) = (fun i => spec (argX m c) (argG m c) (argW m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c _ (mem_uc main_v4 (by decide))).trans (final m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c)⟩) (run m ρ)

end Cert.InBV
end
-- ==== Proof.InBRef.lean ====
/- The norm before mixer B and the projection that follows it, from the reference. -/
module

public import proofs.«01_k».proof.Proof.InBValue
public import proofs.«01_k».proof.Proof.Gen.InBRefIdeal.Run

@[expose] public section

set_option maxRecDepth 16384

noncomputable section

namespace Cert.InBV

open Cert.InBRefIdeal Cert.InBRefIdeal.Gen Idealize.ShloMosaic Idealize.ShloMosaic.TcCoe Idealize.SL.Sem
open Cert.DownV (normed)

/-- The norm of an array, from its operations. -/
theorem ref_normed (Y : Vec Ideal S8x2048x4096 .f32) (g : Vec Ideal S4096 .f32) (p : Fin 8) (q : Fin 2048) (n : Fin 4096) :
    @Eq EReal (mulf (F := Ideal) (φ := .f32) (mulf Y (broadcastInDim S8x2048x4096 ![0, 1, 2] bcast_S8x2048x1_S8x2048x4096_0_1_2
      (Host.rsqrt (addf (Host.divf (broadcastInDim S8x2048x1 ![0, 1] bcast_S8x2048_S8x2048x1_0_1 (Host.reduceAdd (mulf Y Y) (constant S_ .f32 0x00000000#32) reducesTo_S8x2048x4096_S8x2048_d2 h_S_))
        (broadcastInDim S8x2048x1 ![] bcast_S_S8x2048x1 (constant S_ .f32 0x45800000#32))) (broadcastInDim S8x2048x1 ![] bcast_S_S8x2048x1 (constant S_ .f32 0x358637BD#32))))))
      (broadcastInDim S8x2048x4096 ![0, 1, 2] bcast_S1x1x4096_S8x2048x4096_0_1_2 (broadcastInDim S1x1x4096 ![2] bcast_S4096_S1x1x4096_2 g)) (ix3 p q n)) (normed (fun n => Y (ix3 p q n)) g n) := by
  unfold normed
  pointwise

/-- The projection of an array, joined, from its operations. -/
theorem ref_product (H : Vec Ideal S8x2048x4096 .f32) (W : Vec Ideal S1x4096x12288 .f32) (r : Fin 16384) (n : Fin 12288) :
    @Eq EReal (shapeCast S16384x12288 (truncf (F := Ideal) .bf16 (Host.dotGeneral (F := Ideal) (φ₁ := .f32) (φ₂ := .f32) dot_S8x2048x4096_S4096x12288_S8x2048x12288_2_0_01_1_n_n none H
      (shapeCast S4096x12288 W shapeCasts_S1x4096x12288_S4096x12288)) bitsLt_bf16_f32) shapeCasts_S8x2048x12288_S16384x12288 (ix2 r n))
      (∑ k : Fin 4096, (H (ix3 ⟨r.val / 2048, by omega⟩ ⟨r.val % 2048, by omega⟩ k) : EReal) * W (ix3 0 k n)) := by
  pointwise

variable (m : (ℓ : Loc nD τ sig) → Buf (Elt Ideal) ℓ) (ρ : Dev nD → PrngReg)

/-- The reference's result and arguments after its run. -/
theorem ref_run : θ_run defs (onTc (τ := τ) (main (F := Ideal))) ⟨m, fun _ => 0, ρ⟩ (fun r => ∀ c : Dev nD,
    r.2.mem ((c.tc : Thread nD τ).loc main_v16) = (fun i => spec (m ((c.tc : Thread nD τ).loc main_arg0)) (m ((c.tc : Thread nD τ).loc main_arg1)) (m ((c.tc : Thread nD τ).loc main_arg2)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (by
    funext i
    rw [eq_ix2 i]
    exact (ref_product _ _ (i 0) (i 1)).trans (Finset.sum_congr rfl fun k _ => congrArg (· * _) (ref_normed _ _ _ _ k))), (h c).2⟩) (Cert.InBRefIdeal.Value.run (F := Ideal) m ρ)

end Cert.InBV
end
-- ==== Proof.ResValue.lean ====
/- A mixer's output product added to the residual stream: what the two calls of `Out` leave, element by element. -/
module

public import proofs.«01_k».proof.Defs
public import proofs.«01_k».proof.Proof.Gen.OutIdeal.Frame
public import proofs.«01_k».proof.Proof.DownValue

@[expose] public section

set_option maxRecDepth 16384

noncomputable section

namespace Cert.OutV

open Cert.OutIdeal Cert.OutIdeal.Gen Idealize.ShloMosaic Idealize.ShloMosaic.TcCoe Idealize.SL.Sem
open Cert.DownV (halves ld_half)

/-- An element of the residual stream `X` with the product of the rows of `A`, batch by batch, with the slice of `W` added. -/
def spec (A : S8x2048x4096.Idx → EReal) (W : S1x4096x4096.Idx → EReal) (X : S8x2048x4096.Idx → EReal) (r : Fin 16384) (n : Fin 4096) : EReal :=
  X (ix3 ⟨r.val / 2048, by omega⟩ ⟨r.val % 2048, by omega⟩ n)
    + ∑ k : Fin 4096, A (ix3 ⟨r.val / 2048, by omega⟩ ⟨r.val % 2048, by omega⟩ k) * W (ix3 0 k n)

theorem pay0_w (w : Vec Ideal S1x4096x512 .f32) (k : Fin 4096) (b : Fin 512) : @Eq EReal (k0_pay1 w (ix2 k b)) (w (ix3 0 k b)) := by
  unfold k0_pay1
  pointwise

theorem pay0 (x : Vec Ideal S1024x4096 .bf16) (w : Vec Ideal S4096x512 .bf16) (o : Vec Ideal S1024x512 .f32) (a : Fin 1024) (b : Fin 512) :
    @Eq EReal (k0_pay2 x w o (ix2 a b)) ((o (ix2 a b) : EReal) + ∑ k : Fin 4096, (x (ix2 a k) : EReal) * w (ix2 k b)) := by
  unfold k0_pay2
  pointwise

theorem pay1_1 (x : Vec Ideal S1024x4096 .bf16) (w : Vec Ideal S4096x512 .bf16) (o : Vec Ideal S1024x512 .f32) (a : Fin 1024) (b : Fin 512) :
    @Eq EReal (k1_pay1 x w o (ix2 a b)) ((o (ix2 a b) : EReal) + ∑ k : Fin 4096, (x (ix2 a k) : EReal) * w (ix2 k b)) := by
  unfold k1_pay1
  pointwise

theorem pay1_2 (x : Vec Ideal S1024x4096 .bf16) (w : Vec Ideal S4096x512 .bf16) (o : Vec Ideal S1024x512 .f32) (a : Fin 1024) (b : Fin 512) :
    @Eq EReal (k1_pay2 x w o (ix2 a b)) ((o (ix2 a b) : EReal) + ∑ k : Fin 4096, (x (ix2 a k) : EReal) * w (ix2 k b)) := by
  unfold k1_pay2
  pointwise

theorem step1 (c : Dev nD) (i : grid1.Coords) (arg3 : Memref sig .tc .vmem S1024x4096 .bf16) (harg3 : arg3.IsWhole) (arg4 : Memref sig .tc .vmem S4096x1024 .bf16) (harg4 : arg4.IsWhole)
    (arg5 : Memref sig .tc .vmem S1024x1024 .f32) (harg5 : arg5.IsWhole) (arg7 : Memref sig .tc .vmem S1024x1024 .f32) (harg7 : arg7.IsWhole)
    (x0 : Vec Ideal S1024x4096 .bf16) (x1 : Vec Ideal S4096x1024 .bf16) (x2 : Vec Ideal S1024x1024 .f32) :
    @Eq (S1024x1024.Idx → EReal) (out1_A_3 c i arg3 harg3 arg4 harg4 arg5 harg5 arg7 harg7 x0 x1 x2) (fun i => (x2 i : EReal) + ∑ k : Fin 4096, (x0 (ix2 (i 0) k) : EReal) * x1 (ix2 k (i 1))) := by
  frame_out
  refine halves _ _ _ _ (fun a b => ?_) (fun a b => ?_)
  · exact (pay1_1 _ _ _ a b).trans (congrArg₂ (· + ·) (ld_half 1024 _ 0 _ a b _ (by simp)) (Finset.sum_congr rfl fun k _ => congrArg (_ * ·) (ld_half 4096 _ 0 _ k b _ (by simp))))
  · exact (pay1_2 _ _ _ a b).trans (congrArg₂ (· + ·) (ld_half 1024 _ 512 _ a b _ rfl) (Finset.sum_congr rfl fun k _ => congrArg (_ * ·) (ld_half 4096 _ 512 _ k b _ rfl)))

theorem idx0 : ∀ t : Fin cfg0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val) :=
  (by decide +kernel : ∀ t : Fin grid0.N, (win0_0.index t (0 : Fin 2) = 0 ∧ win0_0.index t (1 : Fin 2) = 0)
    ∧ (win0_1.index t (0 : Fin 3) = 0 ∧ win0_1.index t (1 : Fin 3) = 0 ∧ win0_1.index t (2 : Fin 3) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = 0 ∧ win0_4.index t (1 : Fin 2) = t.val))

theorem idx1 : ∀ t : Fin cfg1.N, (win1_0.index t (0 : Fin 2) = 1 + t.val / 4 ∧ win1_0.index t (1 : Fin 2) = 0)
    ∧ (win1_1.index t (0 : Fin 2) = 0 ∧ win1_1.index t (1 : Fin 2) = t.val % 4)
    ∧ (win1_2.index t (0 : Fin 2) = 1 + t.val / 4 ∧ win1_2.index t (1 : Fin 2) = t.val % 4)
    ∧ (win1_3.index t (0 : Fin 2) = 1 + t.val / 4 ∧ win1_3.index t (1 : Fin 2) = t.val % 4) :=
  (by decide +kernel : ∀ t : Fin grid1.N, (win1_0.index t (0 : Fin 2) = 1 + t.val / 4 ∧ win1_0.index t (1 : Fin 2) = 0)
    ∧ (win1_1.index t (0 : Fin 2) = 0 ∧ win1_1.index t (1 : Fin 2) = t.val % 4)
    ∧ (win1_2.index t (0 : Fin 2) = 1 + t.val / 4 ∧ win1_2.index t (1 : Fin 2) = t.val % 4)
    ∧ (win1_3.index t (0 : Fin 2) = 1 + t.val / 4 ∧ win1_3.index t (1 : Fin 2) = t.val % 4))

variable (m : (ℓ : Loc nD τ sig) → Buf (Elt Ideal) ℓ) (ρ : Dev nD → PrngReg)

abbrev argA (c : Dev nD) : S8x2048x4096.Idx → EReal := m ((c.tc : Thread nD τ).loc main_arg0)
abbrev argW (c : Dev nD) : S1x4096x4096.Idx → EReal := m ((c.tc : Thread nD τ).loc main_arg1)
abbrev argX (c : Dev nD) : S8x2048x4096.Idx → EReal := m ((c.tc : Thread nD τ).loc main_arg2)

/-- The joined arrays at the first call's entry. -/
theorem rows (c : Dev nD) (r : Fin 16384) (k : Fin 4096) :
    @Eq EReal (V1 m ρ c main_v0 (ix2 r k)) (argA m c (ix3 ⟨r.val / 2048, by omega⟩ ⟨r.val % 2048, by omega⟩ k)) := by
  show StableHlo.after hostOps0 (W0 m ρ c) (Proc.devRef .tc main_v0) (ix2 r k) = _
  entry_read
  pointwise

theorem rows_res (c : Dev nD) (r : Fin 16384) (n : Fin 4096) :
    @Eq EReal (V1 m ρ c main_v1 (ix2 r n)) (argX m c (ix3 ⟨r.val / 2048, by omega⟩ ⟨r.val % 2048, by omega⟩ n)) := by
  show StableHlo.after hostOps0 (W0 m ρ c) (Proc.devRef .tc main_v1) (ix2 r n) = _
  entry_read
  pointwise

/-- The first call's blocks. -/
theorem blk0_0 (c : Dev nD) (t : Fin cfg0.N) (a : Fin 1024) (k : Fin 4096) (r : Fin 16384) (hr : r.val = a.val) :
    @Eq EReal (iblk0 (V1 m ρ) c 0 t (ix2 a k)) (argA m c (ix3 ⟨r.val / 2048, by omega⟩ ⟨r.val % 2048, by omega⟩ k)) := by
  obtain ⟨⟨i0, i1⟩, -⟩ := idx0 t
  refine Eq.trans (congrArg (V1 m ρ c main_v0) (?_ : _ = ix2 r k)) (rows m ρ c r k)
  funext x
  match x with
  | ⟨0, _⟩ => exact Fin.ext (by blk_simp [i0]; omega)
  | ⟨1, _⟩ => exact Fin.ext (by blk_simp [i1])

theorem blk0_1 (c : Dev nD) (t : Fin cfg0.N) (k : Fin 4096) (b : Fin 512) (n : Fin 4096) (hn : n.val = 512 * t.val + b.val) :
    @Eq EReal (iblk0 (V1 m ρ) c 1 t (ix3 0 k b)) (argW m c (ix3 0 k n)) := by
  obtain ⟨-, ⟨i0, i1, i2⟩, -⟩ := idx0 t
  refine Eq.trans (congrArg (V1 m ρ c main_arg1) (?_ : _ = ix3 0 k n)) (congrFun (W1_args m ρ c main_arg1 (by decide)) _)
  funext x
  match x with
  | ⟨0, _⟩ => exact Fin.ext (by blk_simp [i0])
  | ⟨1, _⟩ => exact Fin.ext (by blk_simp [i1])
  | ⟨2, _⟩ => exact Fin.ext (by blk_simp [i2]; omega)

theorem blk0_2 (c : Dev nD) (t : Fin cfg0.N) (a : Fin 1024) (b : Fin 512) (r : Fin 16384) (n : Fin 4096) (hr : r.val = a.val) (hn : n.val = 512 * t.val + b.val) :
    @Eq EReal (iblk0 (V1 m ρ) c 2 t (ix2 a b)) (argX m c (ix3 ⟨r.val / 2048, by omega⟩ ⟨r.val % 2048, by omega⟩ n)) := by
  obtain ⟨-, -, ⟨i0, i1⟩, -⟩ := idx0 t
  refine Eq.trans (congrArg (V1 m ρ c main_v1) (?_ : _ = ix2 r n)) (rows_res m ρ c r n)
  funext x
  match x with
  | ⟨0, _⟩ => exact Fin.ext (by blk_simp [i0]; omega)
  | ⟨1, _⟩ => exact Fin.ext (by blk_simp [i1]; omega)

/-- The bf16 copy of the weights. -/
theorem weights (c : Dev nD) : (dat0 (V1 m ρ) c).arrAt 4 cfg0.N = fun i => argW m c (ix3 0 (i 0) (i 1)) := by
  refine (dat0 (V1 m ρ) c).arrAt_eq_of_covers 4 _ (by decide +kernel) (fun t hf y => ?_)
  obtain ⟨-, -, -, -, i0, i1⟩ := idx0 t
  blk_simp
  rw [after0_4]
  unfold outsAt0
  dsimp only
  frame_out
  have key : ∀ (y : S4096x512.Idx) (p q : Fin 4096), p.val = (y 0).val → q.val = 512 * t.val + (y 1).val →
      @Eq EReal (k0_pay1 (iblk0 (V1 m ρ) c 1 t) y) (argW m c (ix3 0 p q)) := fun y p q hp hq => by
    rw [eq_ix2 y, show p = y 0 from Fin.ext hp]
    exact (pay0_w _ (y 0) (y 1)).trans (blk0_1 m ρ c t (y 0) (y 1) q hq)
  exact key y _ _ (by blk_simp [i0]) (by blk_simp [i1]; omega)

/-- The rows of the first block after the first call. -/
theorem first (c : Dev nD) (i : S16384x4096.Idx) (hi : (i 0).val / 1024 = 0) :
    (dat0 (V1 m ρ) c).arrAt 3 cfg0.N i = spec (argA m c) (argW m c) (argX m c) (i 0) (i 1) := by
  refine ((dat0 (V1 m ρ) c).arrAt_apply_of_coversWhere 3 (fun i => spec (argA m c) (argW m c) (argX m c) (i 0) (i 1)) (P := fun i => (i 0).val / 1024 = 0) (fun β => β (0 : Fin 2) = 0) (by decide +kernel) (fun t hf y => ?_) (fun j => Iff.rfl) i).trans (if_pos hi)
  obtain ⟨-, -, -, ⟨i0, i1⟩, -⟩ := idx0 t
  blk_simp
  rw [after0_3]
  unfold outsAt0
  dsimp only
  frame_out
  have key : ∀ (y : S1024x512.Idx) (p : Fin 16384) (q : Fin 4096), p.val = (y 0).val → q.val = 512 * t.val + (y 1).val →
      @Eq EReal (k0_pay2 (iblk0 (V1 m ρ) c 0 t) (k0_pay1 (iblk0 (V1 m ρ) c 1 t)) (iblk0 (V1 m ρ) c 2 t) y) (spec (argA m c) (argW m c) (argX m c) p q) := fun y p q hp hq => by
    rw [eq_ix2 y]
    exact (pay0 _ _ _ (y 0) (y 1)).trans (congrArg₂ (· + ·) (blk0_2 m ρ c t (y 0) (y 1) p q hp hq) (Finset.sum_congr rfl fun k _ =>
      congrArg₂ (· * ·) (blk0_0 m ρ c t (y 0) k p hp) ((pay0_w _ k (y 1)).trans (blk0_1 m ρ c t k (y 1) q hq))))
  exact key y _ _ (by blk_simp [i0]) (by blk_simp [i1]; omega)

/-- The arrays at the second call's entry. -/
theorem entry_rows (c : Dev nD) : V3 m ρ c main_v0 = V1 m ρ c main_v0 :=
  (W3_of m ρ c main_v0 (by decide)).trans (W2_of m ρ c main_v0 (by decide))

theorem entry_res (c : Dev nD) : V3 m ρ c main_v1 = V1 m ρ c main_v1 :=
  (W3_of m ρ c main_v1 (by decide)).trans (W2_of m ρ c main_v1 (by decide))

theorem entry_weights (c : Dev nD) : V3 m ρ c main_v2_1 = fun i => argW m c (ix3 0 (i 0) (i 1)) :=
  (W3_of m ρ c main_v2_1 (by decide)).trans ((W2_arr m ρ c 4).trans (weights m ρ c))

theorem entry_out (c : Dev nD) : V3 m ρ c main_v3 = (dat0 (V1 m ρ) c).arrAt 3 cfg0.N := by
  refine Eq.trans ?_ (W2_arr m ρ c 3)
  show StableHlo.after hostOps1 (W2 m ρ c) (Proc.devRef .tc main_v3) = _
  entry_read
  rfl

/-- The second call's blocks. -/
theorem blk1_0 (c : Dev nD) (t : Fin cfg1.N) (a : Fin 1024) (k : Fin 4096) (r : Fin 16384) (hr : r.val = 1024 * (1 + t.val / 4) + a.val) :
    @Eq EReal (iblk1 (V3 m ρ) c 0 t (ix2 a k)) (argA m c (ix3 ⟨r.val / 2048, by omega⟩ ⟨r.val % 2048, by omega⟩ k)) := by
  obtain ⟨⟨i0, i1⟩, -⟩ := idx1 t
  refine Eq.trans (congrArg (V3 m ρ c main_v0) (?_ : _ = ix2 r k)) ((congrFun (entry_rows m ρ c) _).trans (rows m ρ c r k))
  funext x
  match x with
  | ⟨0, _⟩ => exact Fin.ext (by blk_simp [i0]; omega)
  | ⟨1, _⟩ => exact Fin.ext (by blk_simp [i1])

theorem blk1_1 (c : Dev nD) (t : Fin cfg1.N) (k : Fin 4096) (b : Fin 1024) (n : Fin 4096) (hn : n.val = 1024 * (t.val % 4) + b.val) :
    @Eq EReal (iblk1 (V3 m ρ) c 1 t (ix2 k b)) (argW m c (ix3 0 k n)) := by
  obtain ⟨-, ⟨i0, i1⟩, -⟩ := idx1 t
  refine Eq.trans (congrArg (V3 m ρ c main_v2_1) (?_ : _ = ix2 k n)) (congrFun (entry_weights m ρ c) _)
  funext x
  match x with
  | ⟨0, _⟩ => exact Fin.ext (by blk_simp [i0])
  | ⟨1, _⟩ => exact Fin.ext (by blk_simp [i1]; omega)

theorem blk1_2 (c : Dev nD) (t : Fin cfg1.N) (a b : Fin 1024) (r : Fin 16384) (n : Fin 4096) (hr : r.val = 1024 * (1 + t.val / 4) + a.val) (hn : n.val = 1024 * (t.val % 4) + b.val) :
    @Eq EReal (iblk1 (V3 m ρ) c 2 t (ix2 a b)) (argX m c (ix3 ⟨r.val / 2048, by omega⟩ ⟨r.val % 2048, by omega⟩ n)) := by
  obtain ⟨-, -, ⟨i0, i1⟩, -⟩ := idx1 t
  refine Eq.trans (congrArg (V3 m ρ c main_v1) (?_ : _ = ix2 r n)) ((congrFun (entry_res m ρ c) _).trans (rows_res m ρ c r n))
  funext x
  match x with
  | ⟨0, _⟩ => exact Fin.ext (by blk_simp [i0]; omega)
  | ⟨1, _⟩ => exact Fin.ext (by blk_simp [i1]; omega)

/-- The result after the second call. -/
theorem final (c : Dev nD) : W4 m ρ c (Proc.devRef .tc main_v3) = fun i => spec (argA m c) (argW m c) (argX m c) (i 0) (i 1) := by
  refine (W4_arr m ρ c 3).trans ?_
  refine (dat1 (V3 m ρ) c).arrAt_eq_of_coversWhere_of_agree 3 _ (fun β => 1 ≤ β (0 : Fin 2)) (by decide +kernel) (fun t hf y => ?_) (fun j hj => ?_)
  · obtain ⟨-, -, -, i0, i1⟩ := idx1 t
    blk_simp
    rw [after1_3]
    unfold outsAt1
    have key : ∀ (y : S1024x1024.Idx) (p : Fin 16384) (q : Fin 4096), p.val = 1024 * (1 + t.val / 4) + (y 0).val → q.val = 1024 * (t.val % 4) + (y 1).val →
        @Eq EReal (out1_A_3 c (grid1.coords t) (ms1_0 t) (hs1_0 t) (ms1_1 t) (hs1_1 t) (ms1_2 t) (hs1_2 t) (ms1_3 t) (hs1_3 t) (iblk1 (V3 m ρ) c 0 t) (iblk1 (V3 m ρ) c 1 t) (iblk1 (V3 m ρ) c 2 t) y)
          (spec (argA m c) (argW m c) (argX m c) p q) := fun y p q hp hq => by
      refine (congrFun (step1 c (grid1.coords t) (ms1_0 t) (hs1_0 t) (ms1_1 t) (hs1_1 t) (ms1_2 t) (hs1_2 t) (ms1_3 t) (hs1_3 t) (iblk1 (V3 m ρ) c 0 t) (iblk1 (V3 m ρ) c 1 t) (iblk1 (V3 m ρ) c 2 t)) y).trans ?_
      rw [eq_ix2 y]
      exact congrArg₂ (· + ·) (blk1_2 m ρ c t (y 0) (y 1) p q hp hq) (Finset.sum_congr rfl fun k _ => congrArg₂ (· * ·) (blk1_0 m ρ c t (y 0) k p hp) (blk1_1 m ρ c t k (y 1) q hq))
    exact key y _ _ (by blk_simp [i0]; omega) (by blk_simp [i1]; omega)
  · rw [A_eq1]
    refine (congrFun (entry_out m ρ c) _).trans (first m ρ c _ ?_)
    blk_simp [Pipeline.Window.cell_apply] at hj ⊢
    omega

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- Both calls run from any memory, and every buffer of the core ends at the contents followed through them. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (QY := fun c s => ∀ b ∈ Pipeline.ucRefs τ sig, s.mem (((c : Thread nD τ)).1, b) = W4 m ρ c b)
    (hu₀ := ?_) (hinit := Pipeline.initEach L lv fun c => ?_) (hfin := fun c s' => ?_) (hQ := fun s h _ => h)
  · have hown : ownU (initOf (Pipeline.cells cfgs cellOf_inj) (Pipeline.launchToks cfgs cellOf_inj))
        ⊢ (BI.own (emb₁ (initOf (Pipeline.cells cfgs cellOf_inj) (Pipeline.launchToks cfgs cellOf_inj))) : sProp (MT nD τ sig Unit (Elt Ideal) ℕ (UR sig nD τ) ℕ)) := .rfl
    have hemp : (BI.emp : sProp (MT nD τ sig Unit (Elt Ideal) ℕ (UR sig nD τ) ℕ)) ⊢ bigSep Finset.univ (fun _ : Dev nD => BI.emp) := by rw [BI.bigSep_emp_const]
    iintro Hu
    imodintro
    isplitl [Hu]
    · iapply hown
      iexact Hu
    iapply hemp
    iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W4 m ρ c) s')
    isplitl [Hh] <;> iassumption

/-- The result and the arguments after the run. -/
theorem kernel_run : θ_run defs (onTc (τ := τ) (main (F := Ideal))) ⟨m, fun _ => 0, ρ⟩ (fun r => ∀ c : Dev nD,
    r.2.mem ((c.tc : Thread nD τ).loc main_v3) = (fun i => spec (argA m c) (argW m c) (argX m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c _ (mem_uc main_v3 (by decide))).trans (final m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c)⟩) (run m ρ)

end Cert.OutV
end
-- ==== Proof.ResRef.lean ====
/- A mixer's output product added to the residual stream, from the reference. -/
module

public import proofs.«01_k».proof.Proof.ResValue
public import proofs.«01_k».proof.Proof.Gen.OutRefIdeal.Run

@[expose] public section

set_option maxRecDepth 16384

noncomputable section

namespace Cert.OutV

open Cert.OutRefIdeal Cert.OutRefIdeal.Gen Idealize.ShloMosaic Idealize.ShloMosaic.TcCoe Idealize.SL.Sem

/-- The residual stream with the product added, joined, from its operations. -/
theorem ref_joined (A : Vec Ideal S8x2048x4096 .bf16) (W : Vec Ideal S1x4096x4096 .f32) (X : Vec Ideal S8x2048x4096 .f32) (r : Fin 16384) (n : Fin 4096) :
    @Eq EReal (shapeCast S16384x4096 (addf (F := Ideal) (φ := .f32) X (Host.dotGeneral (F := Ideal) (φ₂ := .f32) dot_S8x2048x4096_S4096x4096_S8x2048x4096_2_0_01_1_n_n none
      (extf .f32 A bitsLt_bf16_f32) (shapeCast S4096x4096 W shapeCasts_S1x4096x4096_S4096x4096))) shapeCasts_S8x2048x4096_S16384x4096 (ix2 r n)) (spec A W X r n) := by
  unfold spec
  pointwise

variable (m : (ℓ : Loc nD τ sig) → Buf (Elt Ideal) ℓ) (ρ : Dev nD → PrngReg)

/-- The reference's result and arguments after its run. -/
theorem ref_run : θ_run defs (onTc (τ := τ) (main (F := Ideal))) ⟨m, fun _ => 0, ρ⟩ (fun r => ∀ c : Dev nD,
    r.2.mem ((c.tc : Thread nD τ).loc main_v4) = (fun i => spec (m ((c.tc : Thread nD τ).loc main_arg0)) (m ((c.tc : Thread nD τ).loc main_arg1)) (m ((c.tc : Thread nD τ).loc main_arg2)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (by
    funext i
    rw [eq_ix2 i]
    exact ref_joined _ _ _ (i 0) (i 1)), (h c).2⟩) (Cert.OutRefIdeal.Value.run (F := Ideal) m ρ)

end Cert.OutV
end
-- ==== Proof.InAValue.lean ====
/- The norm before mixer A and the rotated projection that follows it: what the three calls of `InA` leave, element by element. -/
module

public import proofs.«01_k».proof.Defs
public import proofs.«01_k».proof.Proof.Gen.InAIdeal.Frame
public import proofs.«01_k».proof.Proof.DownValue

@[expose] public section

set_option maxRecDepth 16384

noncomputable section

namespace Cert.InAV

open Cert.InAIdeal Cert.InAIdeal.Gen Idealize.ShloMosaic Idealize.ShloMosaic.TcCoe Idealize.SL.Sem
open Cert.DownV (normed)

/-- The angle by which position `q` turns the pair of columns `f`. -/
def angle (q : Fin 2048) (f : Fin 64) : EReal :=
  FloatOps.sitofp (F := Ideal) .f32 (BitVec.ofNat 32 q.val)
    * Ideal.pow (Ideal.ofBits .f32 0x461C4000#32) (Ideal.div (-FloatOps.sitofp (F := Ideal) .f32 (BitVec.ofNat 32 f.val)) (Ideal.ofBits .f32 0x42800000#32))

theorem angle_val (q : Fin 2048) (f : Fin 64) :
    @Eq EReal (mulf (F := Ideal) (φ := .f32) (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))) (ix2 q f))
      (angle q f) := by
  unfold angle
  pointwise

/-- A chunk of columns, kept or turned. -/
def chunk {s : Shape} (off : Fin s.rank → ℕ) (P : FVec Ideal s .f32) (h : s.Slices off S1024x128) (cs sn : FVec Ideal S1024x128 .f32) (v : BitVec 1) : FVec Ideal S1024x128 .bf16 :=
  truncf .bf16 (Scalar.select v (extractStridedSlice S1024x128 off P h)
    (addf (mulf (extractStridedSlice S1024x128 off P h) cs) (mulf (dynamicRotate 1 64#32 none (extractStridedSlice S1024x128 off P h) rotates_S1024x128_d1) sn))) bitsLt_bf16_f32

/-- The other column of the pair that a column is turned with. -/
def pair (b : Fin 128) : Fin 128 := ⟨(b.val + 64) % 128, Nat.mod_lt _ (by decide)⟩

/-- An element of a row of `n` columns, kept in the kept columns and turned elsewhere. -/
def turned (x y c s : EReal) (keep : Prop) [Decidable keep] : EReal := if keep then x else x * c + y * s

theorem chunk_rot (x : FVec Ideal S1024x128 .f32) (a : Fin 1024) (b : Fin 128) :
    @Eq EReal (dynamicRotate 1 64#32 none x rotates_S1024x128_d1 (ix2 a b)) (x (ix2 a (pair b))) :=
  congrArg x (funext fun d => by
    match d with
    | ⟨0, _⟩ => rfl
    | ⟨1, _⟩ => exact Fin.ext (by show (b.val + 128 - 64 % 128) % 128 = (b.val + 64) % 128; omega))

theorem chunk_apply {n : ℕ} (o : ℕ) (P : FVec Ideal ⟨2, ![1024, n]⟩ .f32) (h : (⟨2, ![1024, n]⟩ : Shape).Slices ![0, o] S1024x128) (cs sn : FVec Ideal S1024x128 .f32) (v : BitVec 1)
    (a : Fin 1024) (b : Fin 128) (ho : o + 128 ≤ n) (keep : Prop) [Decidable keep] (hv : v = if keep then 1#1 else 0#1) :
    @Eq EReal (chunk ![0, o] P h cs sn v (ix2 a b)) (turned (P (ix2 a ⟨o + b.val, by omega⟩)) (P (ix2 a ⟨o + (pair b).val, by have := (pair b).isLt; omega⟩)) (cs (ix2 a b)) (sn (ix2 a b)) keep) := by
  have cut : ∀ b : Fin 128, extractStridedSlice S1024x128 ![0, o] P h (ix2 a b) = P (ix2 a ⟨o + b.val, by omega⟩) := fun b =>
    extractStridedSlice_apply _ _ _ _ _ (fun d => by
      match d with
      | ⟨0, _⟩ => exact (Nat.zero_add _).symm
      | ⟨1, _⟩ => rfl)
  subst hv
  unfold chunk turned
  by_cases hk : keep
  · rw [if_pos hk, if_pos hk]
    exact cut b
  · rw [if_neg hk, if_neg hk]
    exact congrArg₂ (· + ·) (congrArg (· * (cs (ix2 a b) : EReal)) (cut b)) (congrArg (· * (sn (ix2 a b) : EReal)) ((chunk_rot _ a b).trans (cut (pair b))))

/-- The kernel's test of a chunk: the chunks 40 to 47 are kept. -/
theorem test1 : ∀ (j : Fin 20) (g : Fin 4), Scalar.andi (Scalar.cmpi .sge (Scalar.addi (Scalar.muli (BitVec.ofNat 32 j.val) 512#32) (BitVec.ofNat 32 (128 * g.val))) 5120#32)
    (Scalar.cmpi .slt (Scalar.addi (Scalar.muli (BitVec.ofNat 32 j.val) 512#32) (BitVec.ofNat 32 (128 * g.val))) 6144#32) = if 40 ≤ 4 * j.val + g.val ∧ 4 * j.val + g.val < 48 then 1#1 else 0#1 := by
  decide +kernel

theorem test2 : ∀ (j : Fin 10) (g : Fin 8), Scalar.andi (Scalar.cmpi .sge (Scalar.addi (Scalar.muli (BitVec.ofNat 32 j.val) 1024#32) (BitVec.ofNat 32 (128 * g.val))) 5120#32)
    (Scalar.cmpi .slt (Scalar.addi (Scalar.muli (BitVec.ofNat 32 j.val) 1024#32) (BitVec.ofNat 32 (128 * g.val))) 6144#32) = if 40 ≤ 8 * j.val + g.val ∧ 8 * j.val + g.val < 48 then 1#1 else 0#1 := by
  decide +kernel

theorem pay1_w (w : Vec Ideal S1x512x4096 .f32) (k : Fin 4096) (b : Fin 512) : @Eq EReal (k1_pay4 w (ix2 k b)) (w (ix3 0 b k)) := by
  unfold k1_pay4
  pointwise

theorem pay1_p (x : Vec Ideal S1024x4096 .bf16) (w : Vec Ideal S4096x512 .bf16) (a : Fin 1024) (b : Fin 512) :
    @Eq EReal (k1_pay5 x w (ix2 a b)) (∑ k : Fin 4096, (x (ix2 a k) : EReal) * w (ix2 k b)) := by
  unfold k1_pay5
  pointwise

theorem pay2_p (x : Vec Ideal S1024x4096 .bf16) (w : Vec Ideal S4096x1024 .bf16) (a : Fin 1024) (b : Fin 1024) :
    @Eq EReal (k2_pay2 x w (ix2 a b)) (∑ k : Fin 4096, (x (ix2 a k) : EReal) * w (ix2 k b)) := by
  unfold k2_pay2
  pointwise

theorem pay_cos1 (x : Vec Ideal S1024x128 .f32) : k1_pay6 x = x := by unfold k1_pay6; exact shapeCast_self x _
theorem norm_pay (x : Vec Ideal S512x4096 .f32) (g : Vec Ideal S1x4096 .f32) (a : Fin 512) (b : Fin 4096) :
    @Eq EReal (k0_pay1 x g (ix2 a b)) (normed (fun n => x (ix2 a n)) (fun i => g (ix2 0 (i 0))) b) := by
  unfold k0_pay1 normed
  pointwise

theorem pay_sin1 (x : Vec Ideal S1024x128 .f32) : k1_pay7 x = x := by unfold k1_pay7; exact shapeCast_self x _
theorem pay_cos2 (x : Vec Ideal S1024x128 .f32) : k2_pay3 x = x := by unfold k2_pay3; exact shapeCast_self x _
theorem pay_sin2 (x : Vec Ideal S1024x128 .f32) : k2_pay4 x = x := by unfold k2_pay4; exact shapeCast_self x _

/-- The other column of a pair, within its chunk of 128 columns. -/
def mate {n : ℕ} (hn : n % 128 = 0) (b : Fin n) : Fin n := ⟨128 * (b.val / 128) + (b.val % 128 + 64) % 128, by omega⟩

/-- A block of the product with its chunks kept or turned. -/
def laid {n : ℕ} (hn : n % 128 = 0) (P : FVec Ideal ⟨2, ![1024, n]⟩ .f32) (cs sn : FVec Ideal S1024x128 .f32) (K : ℕ → Prop) [DecidablePred K] (a : Fin 1024) (b : Fin n) : EReal :=
  turned (P (ix2 a b)) (P (ix2 a (mate hn b))) (cs (ix2 a ⟨b.val % 128, Nat.mod_lt _ (by decide)⟩)) (sn (ix2 a ⟨b.val % 128, Nat.mod_lt _ (by decide)⟩)) (K (b.val / 128))

theorem piece {n : ℕ} (hn : n % 128 = 0) (P : FVec Ideal ⟨2, ![1024, n]⟩ .f32) (cs sn : FVec Ideal S1024x128 .f32) (K : ℕ → Prop) [DecidablePred K]
    (o g : ℕ) (h : (⟨2, ![1024, n]⟩ : Shape).Slices ![0, o] S1024x128) (v : BitVec 1) (hg : o = 128 * g) (ho : o + 128 ≤ n) (hv : v = if K g then 1#1 else 0#1)
    (x : S1024x128.Idx) (y : (⟨2, ![1024, n]⟩ : Shape).Idx) (h0 : (y 0).val = (x 0).val) (h1 : (y 1).val = o + (x 1).val) :
    @Eq EReal (chunk ![0, o] P h cs sn v x) (laid hn P cs sn K (y 0) (y 1)) := by
  obtain ⟨a, b, rfl⟩ : ∃ (a : Fin 1024) (b : Fin 128), x = ix2 a b := ⟨x 0, x 1, eq_ix2 x⟩
  obtain ⟨p, q, rfl⟩ : ∃ (p : Fin 1024) (q : Fin n), y = ix2 p q := ⟨y 0, y 1, eq_ix2 y⟩
  obtain rfl : p = a := Fin.ext h0
  have hq : q.val = o + b.val := h1
  refine (chunk_apply o P h cs sn v p b ho (K g) hv).trans ?_
  show _ = laid hn P cs sn K p q
  unfold laid
  have e0 : q = ⟨o + b.val, by omega⟩ := Fin.ext hq
  have e1 : mate hn q = ⟨o + (pair b).val, by have := (pair b).isLt; omega⟩ := Fin.ext (by
    show 128 * (q.val / 128) + (q.val % 128 + 64) % 128 = o + (b.val + 64) % 128
    omega)
  have e2 : (⟨q.val % 128, Nat.mod_lt _ (by decide)⟩ : Fin 128) = b := Fin.ext (by show q.val % 128 = b.val; omega)
  have e3 : q.val / 128 = g := by omega
  subst e3
  rw [e1, e2, ← e0]

/-- Four stored chunks are a block, when each is its part of it. -/
theorem quarters (G : S1024x512.Idx → EReal) (P0 P1 P2 P3 : S1024x128.Idx → EReal)
    (h0 : ∀ (x : S1024x128.Idx) (y : S1024x512.Idx), (y 0).val = (x 0).val → (y 1).val = 0 + (x 1).val → P0 x = G y)
    (h1 : ∀ (x : S1024x128.Idx) (y : S1024x512.Idx), (y 0).val = (x 0).val → (y 1).val = 128 + (x 1).val → P1 x = G y)
    (h2 : ∀ (x : S1024x128.Idx) (y : S1024x512.Idx), (y 0).val = (x 0).val → (y 1).val = 256 + (x 1).val → P2 x = G y)
    (h3 : ∀ (x : S1024x128.Idx) (y : S1024x512.Idx), (y 0).val = (x 0).val → (y 1).val = 384 + (x 1).val → P3 x = G y) :
    @Eq (S1024x512.Idx → EReal) (View.canon (Val := Elt Ideal) (e := .bf16) [⟨Rect.unit ![0, 384] ![1024, 128] inb_S1024x512_S1024x128_0_384, P3⟩,
      ⟨Rect.unit ![0, 256] ![1024, 128] inb_S1024x512_S1024x128_0_256, P2⟩,
      ⟨Rect.unit ![0, 128] ![1024, 128] inb_S1024x512_S1024x128_0_128, P1⟩,
      ⟨Rect.unit ![0, 0] ![1024, 128] inb_S1024x512_S1024x128_0_0, P0⟩]) G := by
  funext y
  refine View.canon_append_of_piecesOf (Val := Elt Ideal) (e := .bf16) G [] [⟨Rect.unit ![0, 384] ![1024, 128] inb_S1024x512_S1024x128_0_384, P3⟩,
      ⟨Rect.unit ![0, 256] ![1024, 128] inb_S1024x512_S1024x128_0_256, P2⟩,
      ⟨Rect.unit ![0, 128] ![1024, 128] inb_S1024x512_S1024x128_0_128, P1⟩,
      ⟨Rect.unit ![0, 0] ![1024, 128] inb_S1024x512_S1024x128_0_0, P0⟩]
    ⟨fun x => ?_, fun x => ?_, fun x => ?_, fun x => ?_, trivial⟩ y (View.cover_of_tiled_head _ _ _ (by rfl) y)
  · exact h3 x _ (by simp [Rect.emb, Rect.unit]) (by simp [Rect.emb, Rect.unit])
  · exact h2 x _ (by simp [Rect.emb, Rect.unit]) (by simp [Rect.emb, Rect.unit])
  · exact h1 x _ (by simp [Rect.emb, Rect.unit]) (by simp [Rect.emb, Rect.unit])
  · exact h0 x _ (by simp [Rect.emb, Rect.unit]) (by simp [Rect.emb, Rect.unit])

/-- Eight stored chunks are a block, when each is its part of it. -/
theorem eighths (G : S1024x1024.Idx → EReal) (P0 P1 P2 P3 P4 P5 P6 P7 : S1024x128.Idx → EReal)
    (h0 : ∀ (x : S1024x128.Idx) (y : S1024x1024.Idx), (y 0).val = (x 0).val → (y 1).val = 0 + (x 1).val → P0 x = G y)
    (h1 : ∀ (x : S1024x128.Idx) (y : S1024x1024.Idx), (y 0).val = (x 0).val → (y 1).val = 128 + (x 1).val → P1 x = G y)
    (h2 : ∀ (x : S1024x128.Idx) (y : S1024x1024.Idx), (y 0).val = (x 0).val → (y 1).val = 256 + (x 1).val → P2 x = G y)
    (h3 : ∀ (x : S1024x128.Idx) (y : S1024x1024.Idx), (y 0).val = (x 0).val → (y 1).val = 384 + (x 1).val → P3 x = G y)
    (h4 : ∀ (x : S1024x128.Idx) (y : S1024x1024.Idx), (y 0).val = (x 0).val → (y 1).val = 512 + (x 1).val → P4 x = G y)
    (h5 : ∀ (x : S1024x128.Idx) (y : S1024x1024.Idx), (y 0).val = (x 0).val → (y 1).val = 640 + (x 1).val → P5 x = G y)
    (h6 : ∀ (x : S1024x128.Idx) (y : S1024x1024.Idx), (y 0).val = (x 0).val → (y 1).val = 768 + (x 1).val → P6 x = G y)
    (h7 : ∀ (x : S1024x128.Idx) (y : S1024x1024.Idx), (y 0).val = (x 0).val → (y 1).val = 896 + (x 1).val → P7 x = G y) :
    @Eq (S1024x1024.Idx → EReal) (View.canon (Val := Elt Ideal) (e := .bf16) [⟨Rect.unit ![0, 896] ![1024, 128] inb_S1024x1024_S1024x128_0_896, P7⟩,
      ⟨Rect.unit ![0, 768] ![1024, 128] inb_S1024x1024_S1024x128_0_768, P6⟩,
      ⟨Rect.unit ![0, 640] ![1024, 128] inb_S1024x1024_S1024x128_0_640, P5⟩,
      ⟨Rect.unit ![0, 512] ![1024, 128] inb_S1024x1024_S1024x128_0_512, P4⟩,
      ⟨Rect.unit ![0, 384] ![1024, 128] inb_S1024x1024_S1024x128_0_384, P3⟩,
      ⟨Rect.unit ![0, 256] ![1024, 128] inb_S1024x1024_S1024x128_0_256, P2⟩,
      ⟨Rect.unit ![0, 128] ![1024, 128] inb_S1024x1024_S1024x128_0_128, P1⟩,
      ⟨Rect.unit ![0, 0] ![1024, 128] inb_S1024x1024_S1024x128_0_0, P0⟩]) G := by
  funext y
  refine View.canon_append_of_piecesOf (Val := Elt Ideal) (e := .bf16) G [] [⟨Rect.unit ![0, 896] ![1024, 128] inb_S1024x1024_S1024x128_0_896, P7⟩,
      ⟨Rect.unit ![0, 768] ![1024, 128] inb_S1024x1024_S1024x128_0_768, P6⟩,
      ⟨Rect.unit ![0, 640] ![1024, 128] inb_S1024x1024_S1024x128_0_640, P5⟩,
      ⟨Rect.unit ![0, 512] ![1024, 128] inb_S1024x1024_S1024x128_0_512, P4⟩,
      ⟨Rect.unit ![0, 384] ![1024, 128] inb_S1024x1024_S1024x128_0_384, P3⟩,
      ⟨Rect.unit ![0, 256] ![1024, 128] inb_S1024x1024_S1024x128_0_256, P2⟩,
      ⟨Rect.unit ![0, 128] ![1024, 128] inb_S1024x1024_S1024x128_0_128, P1⟩,
      ⟨Rect.unit ![0, 0] ![1024, 128] inb_S1024x1024_S1024x128_0_0, P0⟩]
    ⟨fun x => ?_, fun x => ?_, fun x => ?_, fun x => ?_, fun x => ?_, fun x => ?_, fun x => ?_, fun x => ?_, trivial⟩ y (View.cover_of_tiled_head _ _ _ (by rfl) y)
  · exact h7 x _ (by simp [Rect.emb, Rect.unit]) (by simp [Rect.emb, Rect.unit])
  · exact h6 x _ (by simp [Rect.emb, Rect.unit]) (by simp [Rect.emb, Rect.unit])
  · exact h5 x _ (by simp [Rect.emb, Rect.unit]) (by simp [Rect.emb, Rect.unit])
  · exact h4 x _ (by simp [Rect.emb, Rect.unit]) (by simp [Rect.emb, Rect.unit])
  · exact h3 x _ (by simp [Rect.emb, Rect.unit]) (by simp [Rect.emb, Rect.unit])
  · exact h2 x _ (by simp [Rect.emb, Rect.unit]) (by simp [Rect.emb, Rect.unit])
  · exact h1 x _ (by simp [Rect.emb, Rect.unit]) (by simp [Rect.emb, Rect.unit])
  · exact h0 x _ (by simp [Rect.emb, Rect.unit]) (by simp [Rect.emb, Rect.unit])

/-- What the first product's step leaves: its block of the product, with the chunks kept or turned. -/
theorem step1 (c : Dev nD) (i : grid1.Coords) (arg3 : Memref sig .tc .vmem S1024x4096 .bf16) (harg3 : arg3.IsWhole) (arg4 : Memref sig .tc .vmem S1x512x4096 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .bf16) (harg7 : arg7.IsWhole) (arg8 : Memref sig .tc .vmem S4096x512 .bf16) (harg8 : arg8.IsWhole)
    (x0 : Vec Ideal S1024x4096 .bf16) (x1 : Vec Ideal S1x512x4096 .f32) (x2 : Vec Ideal S1024x128 .f32) (x3 : Vec Ideal S1024x128 .f32) :
    @Eq (S1024x512.Idx → EReal) (out1_A_4 c i arg3 harg3 arg4 harg4 arg5 harg5 arg6 harg6 arg7 harg7 arg8 harg8 x0 x1 x2 x3)
      (fun y => laid (n := 512) rfl (k1_pay5 x0 (k1_pay4 x1)) x2 x3 (fun g => 40 ≤ 4 * (i 1).val + g ∧ 4 * (i 1).val + g < 48) (y 0) (y 1)) := by
  frame_out
  have t (g : Fin 4) := test1 (i 1) g
  refine quarters _ _ _ _ _ (fun x y h0 h1 => ?_) (fun x y h0 h1 => ?_) (fun x y h0 h1 => ?_) (fun x y h0 h1 => ?_)
  · refine Eq.trans ?_ (piece (n := 512) rfl _ _ _ _ 0 0 slices_S1024x512_o0_0_S1024x128 _ rfl (by decide) (t 0) x y h0 h1)
    unfold k1_pay8 chunk; rw [pay_cos1, pay_sin1]; rfl
  · refine Eq.trans ?_ (piece (n := 512) rfl _ _ _ _ 128 1 slices_S1024x512_o0_128_S1024x128 _ rfl (by decide) (t 1) x y h0 h1)
    unfold k1_pay1 k1_pay10 k1_pay9 chunk; rw [pay_cos1, pay_sin1]; rfl
  · refine Eq.trans ?_ (piece (n := 512) rfl _ _ _ _ 256 2 slices_S1024x512_o0_256_S1024x128 _ rfl (by decide) (t 2) x y h0 h1)
    unfold k1_pay2 chunk; rw [pay_cos1, pay_sin1]; rfl
  · refine Eq.trans ?_ (piece (n := 512) rfl _ _ _ _ 384 3 slices_S1024x512_o0_384_S1024x128 _ rfl (by decide) (t 3) x y h0 h1)
    unfold k1_pay3 chunk; rw [pay_cos1, pay_sin1]; rfl

theorem step1_w (c : Dev nD) (i : grid1.Coords) (arg3 : Memref sig .tc .vmem S1024x4096 .bf16) (harg3 : arg3.IsWhole) (arg4 : Memref sig .tc .vmem S1x512x4096 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .bf16) (harg7 : arg7.IsWhole) (arg8 : Memref sig .tc .vmem S4096x512 .bf16) (harg8 : arg8.IsWhole)
    (x0 : Vec Ideal S1024x4096 .bf16) (x1 : Vec Ideal S1x512x4096 .f32) (x2 : Vec Ideal S1024x128 .f32) (x3 : Vec Ideal S1024x128 .f32) :
    @Eq (S4096x512.Idx → EReal) (out1_A_5 c i arg3 harg3 arg4 harg4 arg5 harg5 arg6 harg6 arg7 harg7 arg8 harg8 x0 x1 x2 x3) (k1_pay4 x1) := by
  frame_out

/-- What the second product's step leaves: its block of the product, with the chunks kept or turned. -/
theorem step2 (c : Dev nD) (i : grid2.Coords) (arg3 : Memref sig .tc .vmem S1024x4096 .bf16) (harg3 : arg3.IsWhole) (arg4 : Memref sig .tc .vmem S4096x1024 .bf16) (harg4 : arg4.IsWhole) (arg5 : Memref sig .tc .vmem S1024x128 .f32) (harg5 : arg5.IsWhole) (arg6 : Memref sig .tc .vmem S1024x128 .f32) (harg6 : arg6.IsWhole) (arg8 : Memref sig .tc .vmem S1024x1024 .bf16) (harg8 : arg8.IsWhole)
    (x0 : Vec Ideal S1024x4096 .bf16) (x1 : Vec Ideal S4096x1024 .bf16) (x2 : Vec Ideal S1024x128 .f32) (x3 : Vec Ideal S1024x128 .f32) :
    @Eq (S1024x1024.Idx → EReal) (out2_A_4 c i arg3 harg3 arg4 harg4 arg5 harg5 arg6 harg6 arg8 harg8 x0 x1 x2 x3)
      (fun y => laid (n := 1024) rfl (k2_pay2 x0 x1) x2 x3 (fun g => 40 ≤ 8 * (i 1).val + g ∧ 8 * (i 1).val + g < 48) (y 0) (y 1)) := by
  frame_out
  have t (g : Fin 8) := test2 (i 1) g
  rw [pay_cos2, pay_sin2]
  refine eighths _ _ _ _ _ _ _ _ _ (fun x y h0 h1 => ?_) (fun x y h0 h1 => ?_) (fun x y h0 h1 => ?_) (fun x y h0 h1 => ?_) (fun x y h0 h1 => ?_) (fun x y h0 h1 => ?_) (fun x y h0 h1 => ?_) (fun x y h0 h1 => ?_)
  · refine Eq.trans ?_ (piece (n := 1024) rfl _ _ _ _ 0 0 slices_S1024x1024_o0_0_S1024x128 _ rfl (by decide) (t 0) x y h0 h1)
    unfold k2_pay5 chunk; rw [pay_cos2, pay_sin2]; rfl
  · refine Eq.trans ?_ (piece (n := 1024) rfl _ _ _ _ 128 1 slices_S1024x1024_o0_128_S1024x128 _ rfl (by decide) (t 1) x y h0 h1)
    unfold k2_pay6 chunk; rw [pay_cos2, pay_sin2]; rfl
  · refine Eq.trans ?_ (piece (n := 1024) rfl _ _ _ _ 256 2 slices_S1024x1024_o0_256_S1024x128 _ rfl (by decide) (t 2) x y h0 h1)
    unfold k2_pay7 chunk; rfl
  · refine Eq.trans ?_ (piece (n := 1024) rfl _ _ _ _ 384 3 slices_S1024x1024_o0_384_S1024x128 _ rfl (by decide) (t 3) x y h0 h1)
    unfold k2_pay8 chunk; rfl
  · refine Eq.trans ?_ (piece (n := 1024) rfl _ _ _ _ 512 4 slices_S1024x1024_o0_512_S1024x128 _ rfl (by decide) (t 4) x y h0 h1)
    unfold k2_pay11 k2_pay9 k2_pay10 chunk; rfl
  · refine Eq.trans ?_ (piece (n := 1024) rfl _ _ _ _ 640 5 slices_S1024x1024_o0_640_S1024x128 _ rfl (by decide) (t 5) x y h0 h1)
    unfold k2_pay12 chunk; rfl
  · refine Eq.trans ?_ (piece (n := 1024) rfl _ _ _ _ 768 6 slices_S1024x1024_o0_768_S1024x128 _ rfl (by decide) (t 6) x y h0 h1)
    unfold k2_pay13 chunk; rfl
  · refine Eq.trans ?_ (piece (n := 1024) rfl _ _ _ _ 896 7 slices_S1024x1024_o0_896_S1024x128 _ rfl (by decide) (t 7) x y h0 h1)
    unfold k2_pay1 k2_pay14 k2_pay15 chunk; rfl

/-- The angles' cosines and sines as the calls are given them: the first half's sines negated. -/
def cosT (q : Fin 2048) (j : Fin 128) : EReal := FloatOps.hostUnary (F := Ideal) (φ := .f32) .cos (angle q ⟨j.val % 64, Nat.mod_lt _ (by decide)⟩)
def sin1 (q : Fin 2048) (j : Fin 128) : EReal := FloatOps.hostUnary (F := Ideal) (φ := .f32) .sin (angle q ⟨j.val % 64, Nat.mod_lt _ (by decide)⟩)
def sinT (q : Fin 2048) (j : Fin 128) : EReal := if j.val < 64 then -sin1 q j else sin1 q j

/-- A column among the whole weights'. -/
def wide (n : Fin 10240) : Fin 10400 := ⟨n.val, Nat.lt_trans n.isLt (by decide)⟩

/-- An element of the product of the normed rows of `X`, batch by batch, with the slice of `W`. -/
def prod (X : S8x2048x4096.Idx → EReal) (g : S4096.Idx → EReal) (W : S1x4096x10400.Idx → EReal) (r : Fin 16384) (n : Fin 10240) : EReal :=
  ∑ k : Fin 4096, normed (fun l => X (ix3 ⟨r.val / 2048, by omega⟩ ⟨r.val % 2048, by omega⟩ l)) g k * W (ix3 0 k (wide n))

/-- An element of the projection: the product's, turned by the angle of its position, or kept in the chunks of the values. -/
def spec (X : S8x2048x4096.Idx → EReal) (g : S4096.Idx → EReal) (W : S1x4096x10400.Idx → EReal) (r : Fin 16384) (n : Fin 10240) : EReal :=
  turned (prod X g W r n) (prod X g W r (mate rfl n)) (cosT ⟨r.val % 2048, by omega⟩ ⟨n.val % 128, by omega⟩) (sinT ⟨r.val % 2048, by omega⟩ ⟨n.val % 128, by omega⟩)
    (40 ≤ n.val / 128 ∧ n.val / 128 < 48)

/-- A block's elements, from the product's and the tables' at its place. -/
theorem laid_spec {n : ℕ} (hn : n % 128 = 0) (P : FVec Ideal ⟨2, ![1024, n]⟩ .f32) (cs sn : FVec Ideal S1024x128 .f32) (K : ℕ → Prop) [DecidablePred K] (a : Fin 1024) (b : Fin n)
    (X : S8x2048x4096.Idx → EReal) (g : S4096.Idx → EReal) (W : S1x4096x10400.Idx → EReal) (p : Fin 16384) (q : Fin 10240) (B : ℕ) (hB : B % 128 = 0) (hq : q.val = B + b.val)
    (hP : ∀ (b' : Fin n) (q' : Fin 10240), q'.val = B + b'.val → @Eq EReal (P (ix2 a b')) (prod X g W p q'))
    (hc : ∀ j, @Eq EReal (cs (ix2 a j)) (cosT ⟨p.val % 2048, by omega⟩ j)) (hs : ∀ j, @Eq EReal (sn (ix2 a j)) (sinT ⟨p.val % 2048, by omega⟩ j))
    (hK : K (b.val / 128) ↔ 40 ≤ q.val / 128 ∧ q.val / 128 < 48) : laid hn P cs sn K a b = spec X g W p q := by
  unfold laid spec
  rw [hP b q hq, hP (mate hn b) (mate rfl q) (by
    show 128 * (q.val / 128) + (q.val % 128 + 64) % 128 = B + (128 * (b.val / 128) + (b.val % 128 + 64) % 128)
    omega), hc, hs]
  have e : (⟨b.val % 128, Nat.mod_lt _ (by decide)⟩ : Fin 128) = ⟨q.val % 128, by omega⟩ := Fin.ext (by show b.val % 128 = q.val % 128; omega)
  rw [e]
  unfold turned
  simp only [hK]

theorem tab (A B : FVec Ideal S2048x64 .f32) (q : Fin 2048) (j : Fin 128) :
    @Eq EReal (concatenate S2048x128 1 [⟨S2048x64, A⟩, ⟨S2048x64, B⟩] concatenates_S2048x64_S2048x64_S2048x128_d1 (ix2 q j))
      (if j.val < 64 then A (ix2 q ⟨j.val % 64, Nat.mod_lt _ (by decide)⟩) else B (ix2 q ⟨j.val % 64, Nat.mod_lt _ (by decide)⟩)) := by
  by_cases h : j.val < 64
  · rw [if_pos h]
    pointwise
    rw [dif_pos h]
    exact congrArg (fun d => A (ix2 q d)) (Fin.ext (by show j.val = j.val % 64; omega))
  · rw [if_neg h]
    pointwise
    rw [dif_neg h]
    exact congrArg (fun d => B (ix2 q d)) (Fin.ext (by show j.val - 64 = j.val % 64; omega))

theorem idx0 : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0))

theorem idx1 : ∀ t : Fin cfg1.N, (win1_0.index t (0 : Fin 2) = 0 ∧ win1_0.index t (1 : Fin 2) = 0)
    ∧ (win1_1.index t (0 : Fin 3) = 0 ∧ win1_1.index t (1 : Fin 3) = t.val ∧ win1_1.index t (2 : Fin 3) = 0)
    ∧ (win1_2.index t (0 : Fin 2) = 0 ∧ win1_2.index t (1 : Fin 2) = 0) ∧ (win1_3.index t (0 : Fin 2) = 0 ∧ win1_3.index t (1 : Fin 2) = 0)
    ∧ (win1_4.index t (0 : Fin 2) = 0 ∧ win1_4.index t (1 : Fin 2) = t.val) ∧ (win1_5.index t (0 : Fin 2) = 0 ∧ win1_5.index t (1 : Fin 2) = t.val)
    ∧ (grid1.coords t 1).val = t.val :=
  (by decide +kernel : ∀ t : Fin grid1.N, (win1_0.index t (0 : Fin 2) = 0 ∧ win1_0.index t (1 : Fin 2) = 0)
    ∧ (win1_1.index t (0 : Fin 3) = 0 ∧ win1_1.index t (1 : Fin 3) = t.val ∧ win1_1.index t (2 : Fin 3) = 0)
    ∧ (win1_2.index t (0 : Fin 2) = 0 ∧ win1_2.index t (1 : Fin 2) = 0) ∧ (win1_3.index t (0 : Fin 2) = 0 ∧ win1_3.index t (1 : Fin 2) = 0)
    ∧ (win1_4.index t (0 : Fin 2) = 0 ∧ win1_4.index t (1 : Fin 2) = t.val) ∧ (win1_5.index t (0 : Fin 2) = 0 ∧ win1_5.index t (1 : Fin 2) = t.val)
    ∧ (grid1.coords t 1).val = t.val)

theorem idx2 : ∀ t : Fin cfg2.N, (win2_0.index t (0 : Fin 2) = 1 + t.val / 10 ∧ win2_0.index t (1 : Fin 2) = 0)
    ∧ (win2_1.index t (0 : Fin 2) = 0 ∧ win2_1.index t (1 : Fin 2) = t.val % 10)
    ∧ (win2_2.index t (0 : Fin 2) = (1 + t.val / 10) % 2 ∧ win2_2.index t (1 : Fin 2) = 0) ∧ (win2_3.index t (0 : Fin 2) = (1 + t.val / 10) % 2 ∧ win2_3.index t (1 : Fin 2) = 0)
    ∧ (win2_4.index t (0 : Fin 2) = 1 + t.val / 10 ∧ win2_4.index t (1 : Fin 2) = t.val % 10) ∧ (grid2.coords t 1).val = t.val % 10 :=
  (by decide +kernel : ∀ t : Fin grid2.N, (win2_0.index t (0 : Fin 2) = 1 + t.val / 10 ∧ win2_0.index t (1 : Fin 2) = 0)
    ∧ (win2_1.index t (0 : Fin 2) = 0 ∧ win2_1.index t (1 : Fin 2) = t.val % 10)
    ∧ (win2_2.index t (0 : Fin 2) = (1 + t.val / 10) % 2 ∧ win2_2.index t (1 : Fin 2) = 0) ∧ (win2_3.index t (0 : Fin 2) = (1 + t.val / 10) % 2 ∧ win2_3.index t (1 : Fin 2) = 0)
    ∧ (win2_4.index t (0 : Fin 2) = 1 + t.val / 10 ∧ win2_4.index t (1 : Fin 2) = t.val % 10) ∧ (grid2.coords t 1).val = t.val % 10)

variable (m : (ℓ : Loc nD τ sig) → Buf (Elt Ideal) ℓ) (ρ : Dev nD → PrngReg)

abbrev argX (c : Dev nD) : S8x2048x4096.Idx → EReal := m ((c.tc : Thread nD τ).loc main_arg0)
abbrev argG (c : Dev nD) : S4096.Idx → EReal := m ((c.tc : Thread nD τ).loc main_arg1)
abbrev argW (c : Dev nD) : S1x4096x10400.Idx → EReal := m ((c.tc : Thread nD τ).loc main_arg2)

/-- A row of the residual stream, and the row normed. -/
abbrev row (c : Dev nD) (r : Fin 16384) (l : Fin 4096) : EReal := argX m c (ix3 ⟨r.val / 2048, by omega⟩ ⟨r.val % 2048, by omega⟩ l)
abbrev nrow (c : Dev nD) (r : Fin 16384) (k : Fin 4096) : EReal := normed (row m c r) (argG m c) k

/-- The joined rows and the scale at the norm's entry. -/
theorem rows (c : Dev nD) (r : Fin 16384) (k : Fin 4096) : @Eq EReal (V1 m ρ c main_v17 (ix2 r k)) (row m c r k) := by
  show StableHlo.after hostOps0 (W0 m ρ c) (Proc.devRef .tc main_v17) (ix2 r k) = _
  entry_read
  pointwise

theorem scale (c : Dev nD) (n : Fin 4096) : @Eq EReal (V1 m ρ c main_v18 (ix2 0 n)) (argG m c (ix1 n)) := by
  show StableHlo.after hostOps0 (W0 m ρ c) (Proc.devRef .tc main_v18) (ix2 0 n) = _
  entry_read
  pointwise

/-- The tables. -/
theorem cosines (c : Dev nD) (q : Fin 2048) (j : Fin 128) : @Eq EReal (V1 m ρ c main_v14 (ix2 q j)) (cosT q j) := by
  show StableHlo.after hostOps0 (W0 m ρ c) (Proc.devRef .tc main_v14) (ix2 q j) = _
  entry_read
  refine (tab _ _ q j).trans ((ite_self _).trans ?_)
  exact congrArg (FloatOps.hostUnary (F := Ideal) (φ := .f32) .cos) (angle_val q _)

theorem sines (c : Dev nD) (q : Fin 2048) (j : Fin 128) : @Eq EReal (V1 m ρ c main_v16 (ix2 q j)) (sinT q j) := by
  show StableHlo.after hostOps0 (W0 m ρ c) (Proc.devRef .tc main_v16) (ix2 q j) = _
  entry_read
  refine (tab _ _ q j).trans ?_
  unfold sinT sin1
  rw [← angle_val]
  rfl

/-- The weights' columns as rows, at the first product's entry. -/
theorem columns (c : Dev nD) (n : Fin 10240) (k : Fin 4096) : @Eq EReal (V3 m ρ c main_v21 (ix3 0 n k)) (argW m c (ix3 0 k (wide n))) := by
  refine Eq.trans ?_ (congrFun (W2_args m ρ c main_arg2 (by decide)) _)
  show StableHlo.after hostOps1 (W2 m ρ c) (Proc.devRef .tc main_v21) (ix3 0 n k) = _
  entry_read
  pointwise
  rfl

/-- The norm's blocks. -/
theorem blk0_0 (c : Dev nD) (t : Fin cfg0.N) (a : Fin 512) (k : Fin 4096) (r : Fin 16384) (hr : r.val = 512 * t.val + a.val) :
    @Eq EReal (iblk0 (V1 m ρ) c 0 t (ix2 a k)) (row m c r k) := by
  obtain ⟨⟨i0, i1⟩, -⟩ := idx0 t
  refine Eq.trans (congrArg (V1 m ρ c main_v17) (?_ : _ = ix2 r k)) (rows m ρ c r k)
  funext x
  match x with
  | ⟨0, _⟩ => exact Fin.ext (by blk_simp [i0]; omega)
  | ⟨1, _⟩ => exact Fin.ext (by blk_simp [i1])

theorem blk0_1 (c : Dev nD) (t : Fin cfg0.N) (n : Fin 4096) :
    @Eq EReal (iblk0 (V1 m ρ) c 1 t (ix2 0 n)) (argG m c (ix1 n)) := by
  obtain ⟨-, ⟨i0, i1⟩, -⟩ := idx0 t
  refine Eq.trans (congrArg (V1 m ρ c main_v18) (?_ : _ = ix2 0 n)) (scale m ρ c n)
  funext x
  match x with
  | ⟨0, _⟩ => exact Fin.ext (by blk_simp [i0])
  | ⟨1, _⟩ => exact Fin.ext (by blk_simp [i1])

/-- The normed rows. -/
theorem normed_rows (c : Dev nD) : (dat0 (V1 m ρ) c).arrAt 2 cfg0.N = fun i => nrow m c (i 0) (i 1) := by
  refine (dat0 (V1 m ρ) c).arrAt_eq_of_covers 2 _ (by decide +kernel) (fun t hf y => ?_)
  obtain ⟨-, -, i0, i1⟩ := idx0 t
  blk_simp
  rw [after0_2]
  unfold out0_2
  frame_out
  have key : ∀ (y : S512x4096.Idx) (p : Fin 16384) (q : Fin 4096), p.val = 512 * t.val + (y 0).val → q.val = (y 1).val →
      @Eq EReal (k0_pay1 (iblk0 (V1 m ρ) c 0 t) (iblk0 (V1 m ρ) c 1 t) y) (nrow m c p q) := fun y p q hp hq => by
    rw [eq_ix2 y, show q = y 1 from Fin.ext hq]
    refine (norm_pay _ _ (y 0) (y 1)).trans ?_
    rw [show (fun n => iblk0 (V1 m ρ) c 0 t (ix2 (y 0) n)) = row m c p from funext fun n => blk0_0 m ρ c t (y 0) n p hp]
    refine congrArg (fun g => normed _ g (y 1)) (funext fun i => ?_)
    exact (blk0_1 m ρ c t (i 0)).trans (congrArg (argG m c) (eq_ix1 i).symm)
  exact key y _ _ (by blk_simp [i0]; omega) (by blk_simp [i1])

/-- The first product's blocks. -/
theorem blk1_0 (c : Dev nD) (t : Fin cfg1.N) (a : Fin 1024) (k : Fin 4096) (r : Fin 16384) (hr : r.val = a.val) :
    @Eq EReal (iblk1 (V3 m ρ) c 0 t (ix2 a k)) (nrow m c r k) := by
  obtain ⟨⟨i0, i1⟩, -⟩ := idx1 t
  refine Eq.trans (congrArg (V3 m ρ c main_v19) (?_ : _ = ix2 r k)) (congrFun ((W3_of m ρ c main_v19 (by decide)).trans ((W2_arr m ρ c 2).trans (normed_rows m ρ c))) _)
  funext x
  match x with
  | ⟨0, _⟩ => exact Fin.ext (by blk_simp [i0]; omega)
  | ⟨1, _⟩ => exact Fin.ext (by blk_simp [i1])

theorem blk1_1 (c : Dev nD) (t : Fin cfg1.N) (k : Fin 4096) (b : Fin 512) (n : Fin 10240) (hn : n.val = 512 * t.val + b.val) :
    @Eq EReal (iblk1 (V3 m ρ) c 1 t (ix3 0 b k)) (argW m c (ix3 0 k (wide n))) := by
  obtain ⟨-, ⟨i0, i1, i2⟩, -⟩ := idx1 t
  refine Eq.trans (congrArg (V3 m ρ c main_v21) (?_ : _ = ix3 0 n k)) (columns m ρ c n k)
  funext x
  match x with
  | ⟨0, _⟩ => exact Fin.ext (by blk_simp [i0])
  | ⟨1, _⟩ => exact Fin.ext (by blk_simp [i1]; omega)
  | ⟨2, _⟩ => exact Fin.ext (by blk_simp [i2])

theorem blk1_2 (c : Dev nD) (t : Fin cfg1.N) (a : Fin 1024) (j : Fin 128) (q : Fin 2048) (hq : q.val = a.val) :
    @Eq EReal (iblk1 (V3 m ρ) c 2 t (ix2 a j)) (cosT q j) := by
  obtain ⟨-, -, ⟨i0, i1⟩, -⟩ := idx1 t
  refine Eq.trans (congrArg (V3 m ρ c main_v14) (?_ : _ = ix2 q j)) ((congrFun ((W3_of m ρ c main_v14 (by decide)).trans (W2_of m ρ c main_v14 (by decide))) _).trans (cosines m ρ c q j))
  funext x
  match x with
  | ⟨0, _⟩ => exact Fin.ext (by blk_simp [i0]; omega)
  | ⟨1, _⟩ => exact Fin.ext (by blk_simp [i1])

theorem blk1_3 (c : Dev nD) (t : Fin cfg1.N) (a : Fin 1024) (j : Fin 128) (q : Fin 2048) (hq : q.val = a.val) :
    @Eq EReal (iblk1 (V3 m ρ) c 3 t (ix2 a j)) (sinT q j) := by
  obtain ⟨-, -, -, ⟨i0, i1⟩, -⟩ := idx1 t
  refine Eq.trans (congrArg (V3 m ρ c main_v16) (?_ : _ = ix2 q j)) ((congrFun ((W3_of m ρ c main_v16 (by decide)).trans (W2_of m ρ c main_v16 (by decide))) _).trans (sines m ρ c q j))
  funext x
  match x with
  | ⟨0, _⟩ => exact Fin.ext (by blk_simp [i0]; omega)
  | ⟨1, _⟩ => exact Fin.ext (by blk_simp [i1])

/-- The bf16 copy of the weights. -/
theorem weights (c : Dev nD) : (dat1 (V3 m ρ) c).arrAt 5 cfg1.N = fun i => argW m c (ix3 0 (i 0) (wide (i 1))) := by
  refine (dat1 (V3 m ρ) c).arrAt_eq_of_covers 5 _ (by decide +kernel) (fun t hf y => ?_)
  obtain ⟨-, -, -, -, -, ⟨i0, i1⟩, -⟩ := idx1 t
  blk_simp
  rw [after1_5]
  unfold outsAt1
  dsimp only
  rw [step1_w]
  have key : ∀ (y : S4096x512.Idx) (p : Fin 4096) (q : Fin 10240), p.val = (y 0).val → q.val = 512 * t.val + (y 1).val →
      @Eq EReal (k1_pay4 (iblk1 (V3 m ρ) c 1 t) y) (argW m c (ix3 0 p (wide q))) := fun y p q hp hq => by
    rw [eq_ix2 y, show p = y 0 from Fin.ext hp]
    exact (pay1_w _ (y 0) (y 1)).trans (blk1_1 m ρ c t (y 0) (y 1) q hq)
  exact key y _ _ (by blk_simp [i0]) (by blk_simp [i1]; omega)

/-- The rows of the first block after the first product. -/
theorem first (c : Dev nD) (i : S16384x10240.Idx) (hi : (i 0).val / 1024 = 0) :
    (dat1 (V3 m ρ) c).arrAt 4 cfg1.N i = spec (argX m c) (argG m c) (argW m c) (i 0) (i 1) := by
  refine ((dat1 (V3 m ρ) c).arrAt_apply_of_coversWhere 4 (fun i => spec (argX m c) (argG m c) (argW m c) (i 0) (i 1)) (P := fun i => (i 0).val / 1024 = 0) (fun β => β (0 : Fin 2) = 0) (by decide +kernel) (fun t hf y => ?_) (fun j => Iff.rfl) i).trans (if_pos hi)
  obtain ⟨-, -, -, -, ⟨i0, i1⟩, -, it⟩ := idx1 t
  blk_simp
  rw [after1_4]
  unfold outsAt1
  dsimp only
  rw [step1]
  have key : ∀ (y : S1024x512.Idx) (p : Fin 16384) (q : Fin 10240), p.val = (y 0).val → q.val = 512 * t.val + (y 1).val →
      laid (n := 512) rfl (k1_pay5 (iblk1 (V3 m ρ) c 0 t) (k1_pay4 (iblk1 (V3 m ρ) c 1 t))) (iblk1 (V3 m ρ) c 2 t) (iblk1 (V3 m ρ) c 3 t)
        (fun g => 40 ≤ 4 * (grid1.coords t 1).val + g ∧ 4 * (grid1.coords t 1).val + g < 48) (y 0) (y 1) = spec (argX m c) (argG m c) (argW m c) p q := fun y p q hp hq => by
    have h0 : (y 0).val < 1024 := (y 0).isLt
    refine laid_spec rfl _ _ _ _ (y 0) (y 1) _ _ _ p q (512 * t.val) (by omega) hq (fun b' q' hq' => ?_) (fun j => blk1_2 m ρ c t (y 0) j _ (by show p.val % 2048 = _; omega)) (fun j => blk1_3 m ρ c t (y 0) j _ (by show p.val % 2048 = _; omega)) ?_
    · exact (pay1_p _ _ (y 0) b').trans (Finset.sum_congr rfl fun k _ =>
        congrArg₂ (· * ·) (blk1_0 m ρ c t (y 0) k p hp) ((pay1_w _ k b').trans (blk1_1 m ρ c t k b' q' hq')))
    · rw [it]; omega
  exact key y _ _ (by blk_simp [i0]) (by blk_simp [i1]; omega)

/-- The arrays at the second product's entry. -/
theorem entry_of (c : Dev nD) (b : Ref sig .tc) (h2 : b ∉ hostOps2_W) (h1 : ∀ w : Fin cfg1.W, Pipeline.arrRef spec1 w = b → (cfg1.win w).isOut = false) (h0 : b ∉ hostOps1_W) :
    V5 m ρ c b = V2 m ρ c b :=
  (W5_of m ρ c b h2).trans ((W4_of m ρ c b h1).trans (W3_of m ρ c b h0))

theorem entry_rows (c : Dev nD) : V5 m ρ c main_v19 = fun i => nrow m c (i 0) (i 1) :=
  (entry_of m ρ c main_v19 (by decide) (by decide) (by decide)).trans ((W2_arr m ρ c 2).trans (normed_rows m ρ c))

theorem entry_weights (c : Dev nD) : V5 m ρ c main_v22_1 = fun i => argW m c (ix3 0 (i 0) (wide (i 1))) :=
  (W5_of m ρ c main_v22_1 (by decide)).trans ((W4_arr m ρ c 5).trans (weights m ρ c))

theorem entry_out (c : Dev nD) : V5 m ρ c main_v23 = (dat1 (V3 m ρ) c).arrAt 4 cfg1.N := by
  refine Eq.trans ?_ (W4_arr m ρ c 4)
  show StableHlo.after hostOps2 (W4 m ρ c) (Proc.devRef .tc main_v23) = _
  entry_read
  rfl

/-- The second product's blocks. -/
theorem blk2_0 (c : Dev nD) (t : Fin cfg2.N) (a : Fin 1024) (k : Fin 4096) (r : Fin 16384) (hr : r.val = 1024 * (1 + t.val / 10) + a.val) :
    @Eq EReal (iblk2 (V5 m ρ) c 0 t (ix2 a k)) (nrow m c r k) := by
  obtain ⟨⟨i0, i1⟩, -⟩ := idx2 t
  refine Eq.trans (congrArg (V5 m ρ c main_v19) (?_ : _ = ix2 r k)) (congrFun (entry_rows m ρ c) _)
  funext x
  match x with
  | ⟨0, _⟩ => exact Fin.ext (by blk_simp [i0]; omega)
  | ⟨1, _⟩ => exact Fin.ext (by blk_simp [i1])

theorem blk2_1 (c : Dev nD) (t : Fin cfg2.N) (k : Fin 4096) (b : Fin 1024) (n : Fin 10240) (hn : n.val = 1024 * (t.val % 10) + b.val) :
    @Eq EReal (iblk2 (V5 m ρ) c 1 t (ix2 k b)) (argW m c (ix3 0 k (wide n))) := by
  obtain ⟨-, ⟨i0, i1⟩, -⟩ := idx2 t
  refine Eq.trans (congrArg (V5 m ρ c main_v22_1) (?_ : _ = ix2 k n)) (congrFun (entry_weights m ρ c) _)
  funext x
  match x with
  | ⟨0, _⟩ => exact Fin.ext (by blk_simp [i0])
  | ⟨1, _⟩ => exact Fin.ext (by blk_simp [i1]; omega)

theorem blk2_2 (c : Dev nD) (t : Fin cfg2.N) (a : Fin 1024) (j : Fin 128) (q : Fin 2048) (hq : q.val = 1024 * ((1 + t.val / 10) % 2) + a.val) :
    @Eq EReal (iblk2 (V5 m ρ) c 2 t (ix2 a j)) (cosT q j) := by
  obtain ⟨-, -, ⟨i0, i1⟩, -⟩ := idx2 t
  refine Eq.trans (congrArg (V5 m ρ c main_v14) (?_ : _ = ix2 q j)) ((congrFun ((entry_of m ρ c main_v14 (by decide) (by decide) (by decide)).trans (W2_of m ρ c main_v14 (by decide))) _).trans (cosines m ρ c q j))
  funext x
  match x with
  | ⟨0, _⟩ => exact Fin.ext (by blk_simp [i0]; omega)
  | ⟨1, _⟩ => exact Fin.ext (by blk_simp [i1])

theorem blk2_3 (c : Dev nD) (t : Fin cfg2.N) (a : Fin 1024) (j : Fin 128) (q : Fin 2048) (hq : q.val = 1024 * ((1 + t.val / 10) % 2) + a.val) :
    @Eq EReal (iblk2 (V5 m ρ) c 3 t (ix2 a j)) (sinT q j) := by
  obtain ⟨-, -, -, ⟨i0, i1⟩, -⟩ := idx2 t
  refine Eq.trans (congrArg (V5 m ρ c main_v16) (?_ : _ = ix2 q j)) ((congrFun ((entry_of m ρ c main_v16 (by decide) (by decide) (by decide)).trans (W2_of m ρ c main_v16 (by decide))) _).trans (sines m ρ c q j))
  funext x
  match x with
  | ⟨0, _⟩ => exact Fin.ext (by blk_simp [i0]; omega)
  | ⟨1, _⟩ => exact Fin.ext (by blk_simp [i1])

/-- The result after the second product. -/
theorem final (c : Dev nD) : W6 m ρ c (Proc.devRef .tc main_v23) = fun i => spec (argX m c) (argG m c) (argW m c) (i 0) (i 1) := by
  refine (W6_arr m ρ c 4).trans ?_
  refine (dat2 (V5 m ρ) c).arrAt_eq_of_coversWhere_of_agree 4 _ (fun β => 1 ≤ β (0 : Fin 2)) (by decide +kernel) (fun t hf y => ?_) (fun j hj => ?_)
  · obtain ⟨-, -, -, -, ⟨i0, i1⟩, it⟩ := idx2 t
    blk_simp
    rw [after2_4]
    unfold outsAt2
    rw [step2]
    have key : ∀ (y : S1024x1024.Idx) (p : Fin 16384) (q : Fin 10240), p.val = 1024 * (1 + t.val / 10) + (y 0).val → q.val = 1024 * (t.val % 10) + (y 1).val →
        laid (n := 1024) rfl (k2_pay2 (iblk2 (V5 m ρ) c 0 t) (iblk2 (V5 m ρ) c 1 t)) (iblk2 (V5 m ρ) c 2 t) (iblk2 (V5 m ρ) c 3 t)
          (fun g => 40 ≤ 8 * (grid2.coords t 1).val + g ∧ 8 * (grid2.coords t 1).val + g < 48) (y 0) (y 1) = spec (argX m c) (argG m c) (argW m c) p q := fun y p q hp hq => by
      have h0 : (y 0).val < 1024 := (y 0).isLt
      refine laid_spec rfl _ _ _ _ (y 0) (y 1) _ _ _ p q (1024 * (t.val % 10)) (by omega) hq (fun b' q' hq' => ?_) (fun j => blk2_2 m ρ c t (y 0) j _ (by show p.val % 2048 = _; omega)) (fun j => blk2_3 m ρ c t (y 0) j _ (by show p.val % 2048 = _; omega)) ?_
      · exact (pay2_p _ _ (y 0) b').trans (Finset.sum_congr rfl fun k _ => congrArg₂ (· * ·) (blk2_0 m ρ c t (y 0) k p hp) (blk2_1 m ρ c t k b' q' hq'))
      · rw [it]; omega
    exact key y _ _ (by blk_simp [i0]; omega) (by blk_simp [i1]; omega)
  · rw [A_eq2]
    refine (congrFun (entry_out m ρ c) _).trans (first m ρ c _ ?_)
    blk_simp [Pipeline.Window.cell_apply] at hj ⊢
    omega

open Idealize.SL Idealize.SL.RA Idealize.SL.BI Idealize.SL.BI.BIBase Idealize.SL.BI.Laws Idealize.SL.ProofMode Idealize.ShloMosaic.Rounds in
open scoped Idealize.SL.BI in
set_option backward.isDefEq.respectTransparency.types false in
/-- The three calls run from any memory, and every buffer of the core ends at the contents followed through them. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W6 m ρ c b) := by
  refine Pipeline.θ_run_regions_kit_sems (pcfgs (F := Ideal)) adm (pdats m ρ) () cellOf_inj emb₁ defs₀ 𝒱₀ L lv m ρ main (segs m ρ)
    (fun c Q => by rw [main_run m ρ c]) (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (QY := fun c s => ∀ b ∈ Pipeline.ucRefs τ sig, s.mem (((c : Thread nD τ)).1, b) = W6 m ρ c b)
    (hu₀ := ?_) (hinit := Pipeline.initEach L lv fun c => ?_) (hfin := fun c s' => ?_) (hQ := fun s h _ => h)
  · have hown : ownU (initOf (Pipeline.cells cfgs cellOf_inj) (Pipeline.launchToks cfgs cellOf_inj))
        ⊢ (BI.own (emb₁ (initOf (Pipeline.cells cfgs cellOf_inj) (Pipeline.launchToks cfgs cellOf_inj))) : sProp (MT nD τ sig Unit (Elt Ideal) ℕ (UR sig nD τ) ℕ)) := .rfl
    have hemp : (BI.emp : sProp (MT nD τ sig Unit (Elt Ideal) ℕ (UR sig nD τ) ℕ)) ⊢ bigSep Finset.univ (fun _ : Dev nD => BI.emp) := by rw [BI.bigSep_emp_const]
    iintro Hu
    imodintro
    isplitl [Hu]
    · iapply hown
      iexact Hu
    iapply hemp
    iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (W6 m ρ c) s')
    isplitl [Hh] <;> iassumption

/-- The result and the arguments after the run. -/
theorem kernel_run : θ_run defs (onTc (τ := τ) (main (F := Ideal))) ⟨m, fun _ => 0, ρ⟩ (fun r => ∀ c : Dev nD,
    r.2.mem ((c.tc : Thread nD τ).loc main_v23) = (fun i => spec (argX m c) (argG m c) (argW m c) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c _ (mem_uc main_v23 (by decide))).trans (final m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c)⟩) (run m ρ)

end Cert.InAV
end
-- ==== Proof.InARef.lean ====
/- The norm before mixer A and its rotated projection, from the reference. -/
module

public import proofs.«01_k».proof.Proof.InAValue
public import proofs.«01_k».proof.Proof.Gen.InARefIdeal.Run

@[expose] public section

set_option maxRecDepth 16384

noncomputable section

namespace Cert.InAV

open Cert.InARefIdeal Cert.InARefIdeal.Gen Idealize.ShloMosaic Idealize.ShloMosaic.TcCoe Idealize.SL.Sem
open Cert.DownV (normed)

/-- The norm of an array, from its operations. -/
theorem ref_normed (Y : Vec Ideal S8x2048x4096 .f32) (g : Vec Ideal S4096 .f32) (p : Fin 8) (q : Fin 2048) (n : Fin 4096) :
    @Eq EReal (mulf (F := Ideal) (φ := .f32) (mulf Y (broadcastInDim S8x2048x4096 ![0, 1, 2] bcast_S8x2048x1_S8x2048x4096_0_1_2
      (Host.rsqrt (addf (Host.divf (broadcastInDim S8x2048x1 ![0, 1] bcast_S8x2048_S8x2048x1_0_1 (Host.reduceAdd (mulf Y Y) (constant S_ .f32 0x00000000#32) reducesTo_S8x2048x4096_S8x2048_d2 h_S_))
        (broadcastInDim S8x2048x1 ![] bcast_S_S8x2048x1 (constant S_ .f32 0x45800000#32))) (broadcastInDim S8x2048x1 ![] bcast_S_S8x2048x1 (constant S_ .f32 0x358637BD#32))))))
      (broadcastInDim S8x2048x4096 ![0, 1, 2] bcast_S1x1x4096_S8x2048x4096_0_1_2 (broadcastInDim S1x1x4096 ![2] bcast_S4096_S1x1x4096_2 g)) (ix3 p q n)) (normed (fun n => Y (ix3 p q n)) g n) := by
  unfold normed
  pointwise

/-- The projection of an array, from its operations. -/
theorem ref_product (H : Vec Ideal S8x2048x4096 .f32) (W : Vec Ideal S1x4096x10400 .f32) (p : Fin 8) (q : Fin 2048) (n : Fin 10400) :
    @Eq EReal (Host.dotGeneral (F := Ideal) (φ₁ := .f32) (φ₂ := .f32) dot_S8x2048x4096_S4096x10400_S8x2048x10400_2_0_01_1_n_n none H
      (shapeCast S4096x10400 W shapeCasts_S1x4096x10400_S4096x10400) (ix3 p q n))
      (∑ k : Fin 4096, (H (ix3 p q k) : EReal) * W (ix3 0 k n)) := by
  pointwise

/-- The halves of turned heads. -/
def low {H : ℕ} (a : Shape.Slices ⟨4, ![8, 2048, H, 128]⟩ ![0, 0, 0, 0] ⟨4, ![8, 2048, H, 64]⟩) (b : Shape.Slices ⟨4, ![8, 2048, H, 128]⟩ ![0, 0, 0, 64] ⟨4, ![8, 2048, H, 64]⟩)
    (e : S1x2048x1x64.BroadcastsInDim ⟨4, ![8, 2048, H, 64]⟩ ![0, 1, 2, 3]) (P : FVec Ideal ⟨4, ![8, 2048, H, 128]⟩ .f32) (C S : FVec Ideal S2048x64 .f32) : FVec Ideal ⟨4, ![8, 2048, H, 64]⟩ .f32 :=
  subf (mulf (extractStridedSlice ⟨4, ![8, 2048, H, 64]⟩ ![0, 0, 0, 0] P a) (broadcastInDim ⟨4, ![8, 2048, H, 64]⟩ ![0, 1, 2, 3] e (broadcastInDim S1x2048x1x64 ![1, 2, 3] bcast_S2048x1x64_S1x2048x1x64_1_2_3 (broadcastInDim S2048x1x64 ![0, 2] bcast_S2048x64_S2048x1x64_0_2 C))))
    (mulf (extractStridedSlice ⟨4, ![8, 2048, H, 64]⟩ ![0, 0, 0, 64] P b) (broadcastInDim ⟨4, ![8, 2048, H, 64]⟩ ![0, 1, 2, 3] e (broadcastInDim S1x2048x1x64 ![1, 2, 3] bcast_S2048x1x64_S1x2048x1x64_1_2_3 (broadcastInDim S2048x1x64 ![0, 2] bcast_S2048x64_S2048x1x64_0_2 S))))

def high {H : ℕ} (a : Shape.Slices ⟨4, ![8, 2048, H, 128]⟩ ![0, 0, 0, 0] ⟨4, ![8, 2048, H, 64]⟩) (b : Shape.Slices ⟨4, ![8, 2048, H, 128]⟩ ![0, 0, 0, 64] ⟨4, ![8, 2048, H, 64]⟩)
    (e : S1x2048x1x64.BroadcastsInDim ⟨4, ![8, 2048, H, 64]⟩ ![0, 1, 2, 3]) (P : FVec Ideal ⟨4, ![8, 2048, H, 128]⟩ .f32) (C S : FVec Ideal S2048x64 .f32) : FVec Ideal ⟨4, ![8, 2048, H, 64]⟩ .f32 :=
  addf (mulf (extractStridedSlice ⟨4, ![8, 2048, H, 64]⟩ ![0, 0, 0, 64] P b) (broadcastInDim ⟨4, ![8, 2048, H, 64]⟩ ![0, 1, 2, 3] e (broadcastInDim S1x2048x1x64 ![1, 2, 3] bcast_S2048x1x64_S1x2048x1x64_1_2_3 (broadcastInDim S2048x1x64 ![0, 2] bcast_S2048x64_S2048x1x64_0_2 C))))
    (mulf (extractStridedSlice ⟨4, ![8, 2048, H, 64]⟩ ![0, 0, 0, 0] P a) (broadcastInDim ⟨4, ![8, 2048, H, 64]⟩ ![0, 1, 2, 3] e (broadcastInDim S1x2048x1x64 ![1, 2, 3] bcast_S2048x1x64_S1x2048x1x64_1_2_3 (broadcastInDim S2048x1x64 ![0, 2] bcast_S2048x64_S2048x1x64_0_2 S))))

theorem low_at {H : ℕ} (p : Fin 8) (q : Fin 2048) (h : Fin H) (f : Fin 64) (a : ∀ x, (![0, 0, 0, 0] : Fin 4 → ℕ) x + (ix4 p q h f x).val < Shape.size ⟨4, ![8, 2048, H, 128]⟩ x) :
    (Shape.Idx.norm fun x => ⟨(![0, 0, 0, 0] : Fin 4 → ℕ) x + (ix4 p q h f x).val, a x⟩ : Shape.Idx ⟨4, ![8, 2048, H, 128]⟩) = ix4 p q h ⟨f.val, by omega⟩ := by
  funext x
  match x with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext (Nat.zero_add _)

theorem high_at {H : ℕ} (p : Fin 8) (q : Fin 2048) (h : Fin H) (f : Fin 64) (a : ∀ x, (![0, 0, 0, 64] : Fin 4 → ℕ) x + (ix4 p q h f x).val < Shape.size ⟨4, ![8, 2048, H, 128]⟩ x) :
    (Shape.Idx.norm fun x => ⟨(![0, 0, 0, 64] : Fin 4 → ℕ) x + (ix4 p q h f x).val, a x⟩ : Shape.Idx ⟨4, ![8, 2048, H, 128]⟩) = ix4 p q h ⟨64 + f.val, by omega⟩ := by
  funext x
  match x with
  | ⟨0, _⟩ => exact Fin.ext (Nat.zero_add _)
  | ⟨1, _⟩ => exact Fin.ext (Nat.zero_add _)
  | ⟨2, _⟩ => exact Fin.ext (Nat.zero_add _)
  | ⟨3, _⟩ => exact Fin.ext rfl

theorem low_apply {H : ℕ} (a b e) (P C S) (p : Fin 8) (q : Fin 2048) (h : Fin H) (f : Fin 64) :
    @Eq EReal (low a b e P C S (ix4 p q h f)) (P (ix4 p q h ⟨f.val, by omega⟩) * C (ix2 q f) - P (ix4 p q h ⟨64 + f.val, by omega⟩) * S (ix2 q f)) := by
  unfold low
  pointwise
  exact congrArg₂ (fun u v => P u * _ - P v * _) (low_at p q h f _) (high_at p q h f _)

theorem high_apply {H : ℕ} (a b e) (P C S) (p : Fin 8) (q : Fin 2048) (h : Fin H) (f : Fin 64) :
    @Eq EReal (high a b e P C S (ix4 p q h f)) (P (ix4 p q h ⟨64 + f.val, by omega⟩) * C (ix2 q f) + P (ix4 p q h ⟨f.val, by omega⟩) * S (ix2 q f)) := by
  unfold high
  pointwise
  exact congrArg₂ (fun u v => P u * _ + P v * _) (high_at p q h f _) (low_at p q h f _)

/-- An element of turned heads, from a pair of elements of the product and the angle. -/
def whirl {n : ℕ} (hn : n % 128 = 0) (P : Fin n → EReal) (C S : Fin 64 → EReal) (b : Fin n) : EReal :=
  if b.val % 128 < 64 then P b * C ⟨b.val % 64, Nat.mod_lt _ (by decide)⟩ - P (mate hn b) * S ⟨b.val % 64, Nat.mod_lt _ (by decide)⟩
  else P b * C ⟨b.val % 64, Nat.mod_lt _ (by decide)⟩ + P (mate hn b) * S ⟨b.val % 64, Nat.mod_lt _ (by decide)⟩

/-- The halves of a row of heads, side by side. -/
theorem whirled {H n : ℕ} (hn : n % 128 = 0) (hH : n = H * 128) (a b e) (P : FVec Ideal ⟨4, ![8, 2048, H, 128]⟩ .f32) (C S) (p : Fin 8) (q : Fin 2048) (R : Fin n → EReal)
    (hR : ∀ (b : Fin n) (h : Fin H) (d : Fin 128), b.val = h.val * 128 + d.val → @Eq EReal (P (ix4 p q h d)) (R b)) (j : Fin n) :
    @Eq EReal (if h : j.val % 128 < 64 then low a b e P C S (ix4 p q ⟨j.val / 128, by omega⟩ ⟨j.val % 128, h⟩) else high a b e P C S (ix4 p q ⟨j.val / 128, by omega⟩ ⟨j.val % 128 - 64, by omega⟩))
      (whirl hn R (fun f => C (ix2 q f)) (fun f => S (ix2 q f)) j) := by
  unfold whirl
  by_cases h : j.val % 128 < 64
  · rw [dif_pos h, if_pos h, low_apply, hR j _ _ (by show j.val = j.val / 128 * 128 + j.val % 128; omega),
      hR (mate hn j) _ _ (by show 128 * (j.val / 128) + (j.val % 128 + 64) % 128 = j.val / 128 * 128 + (64 + j.val % 128); omega)]
    have e : (⟨j.val % 128, h⟩ : Fin 64) = ⟨j.val % 64, Nat.mod_lt _ (by decide)⟩ := Fin.ext (by show j.val % 128 = j.val % 64; omega)
    rw [e]
  · rw [dif_neg h, if_neg h, high_apply, hR j _ _ (by show j.val = j.val / 128 * 128 + (64 + (j.val % 128 - 64)); omega),
      hR (mate hn j) _ _ (by show 128 * (j.val / 128) + (j.val % 128 + 64) % 128 = j.val / 128 * 128 + (j.val % 128 - 64); omega)]
    have e : (⟨j.val % 128 - 64, by omega⟩ : Fin 64) = ⟨j.val % 64, Nat.mod_lt _ (by decide)⟩ := Fin.ext (by show j.val % 128 - 64 = j.val % 64; omega)
    rw [e]

abbrev low32 := low slices_S8x2048x32x128_S8x2048x32x64_0_0_0_0 slices_S8x2048x32x128_S8x2048x32x64_0_0_0_64 bcast_S1x2048x1x64_S8x2048x32x64_0_1_2_3
abbrev high32 := high slices_S8x2048x32x128_S8x2048x32x64_0_0_0_0 slices_S8x2048x32x128_S8x2048x32x64_0_0_0_64 bcast_S1x2048x1x64_S8x2048x32x64_0_1_2_3
abbrev low8 := low slices_S8x2048x8x128_S8x2048x8x64_0_0_0_0 slices_S8x2048x8x128_S8x2048x8x64_0_0_0_64 bcast_S1x2048x1x64_S8x2048x8x64_0_1_2_3
abbrev high8 := high slices_S8x2048x8x128_S8x2048x8x64_0_0_0_0 slices_S8x2048x8x128_S8x2048x8x64_0_0_0_64 bcast_S1x2048x1x64_S8x2048x8x64_0_1_2_3

/-- A group of columns whose heads are turned. -/
abbrev heads32 (P : FVec Ideal S8x2048x4096 .f32) (C S : FVec Ideal S2048x64 .f32) : FVec Ideal S16384x4096 .f32 :=
  shapeCast S16384x4096 (concatenate S8x2048x32x128 3 [⟨S8x2048x32x64, low32 (shapeCast _ P shapeCasts_S8x2048x4096_S8x2048x32x128) C S⟩, ⟨S8x2048x32x64, high32 (shapeCast _ P shapeCasts_S8x2048x4096_S8x2048x32x128) C S⟩]
    concatenates_S8x2048x32x64_S8x2048x32x64_S8x2048x32x128_d3) shapeCasts_S8x2048x32x128_S16384x4096

abbrev heads8 (P : FVec Ideal S8x2048x1024 .f32) (C S : FVec Ideal S2048x64 .f32) : FVec Ideal S16384x1024 .f32 :=
  shapeCast S16384x1024 (concatenate S8x2048x8x128 3 [⟨S8x2048x8x64, low8 (shapeCast _ P shapeCasts_S8x2048x1024_S8x2048x8x128) C S⟩, ⟨S8x2048x8x64, high8 (shapeCast _ P shapeCasts_S8x2048x1024_S8x2048x8x128) C S⟩]
    concatenates_S8x2048x8x64_S8x2048x8x64_S8x2048x8x128_d3) shapeCasts_S8x2048x8x128_S16384x1024

theorem heads32_apply (P : FVec Ideal S8x2048x4096 .f32) (C S : FVec Ideal S2048x64 .f32) (r : Fin 16384) (b : Fin 4096) :
    @Eq EReal (heads32 P C S (ix2 r b))
      (whirl (n := 4096) rfl (fun b => P (ix3 ⟨r.val / 2048, by omega⟩ ⟨r.val % 2048, by omega⟩ b)) (fun f => C (ix2 ⟨r.val % 2048, by omega⟩ f)) (fun f => S (ix2 ⟨r.val % 2048, by omega⟩ f)) b) := by
  refine Eq.trans ?_ (whirled (n := 4096) (H := 32) rfl rfl slices_S8x2048x32x128_S8x2048x32x64_0_0_0_0 slices_S8x2048x32x128_S8x2048x32x64_0_0_0_64 bcast_S1x2048x1x64_S8x2048x32x64_0_1_2_3
    (shapeCast _ P shapeCasts_S8x2048x4096_S8x2048x32x128) C S ⟨r.val / 2048, by omega⟩ ⟨r.val % 2048, by omega⟩ _ (fun b h d hb => ?_) b)
  · pointwise
  · rw [show b = ⟨h.val * 128 + d.val, by omega⟩ from Fin.ext hb]
    pointwise

theorem heads8_apply (P : FVec Ideal S8x2048x1024 .f32) (C S : FVec Ideal S2048x64 .f32) (r : Fin 16384) (b : Fin 1024) :
    @Eq EReal (heads8 P C S (ix2 r b))
      (whirl (n := 1024) rfl (fun b => P (ix3 ⟨r.val / 2048, by omega⟩ ⟨r.val % 2048, by omega⟩ b)) (fun f => C (ix2 ⟨r.val % 2048, by omega⟩ f)) (fun f => S (ix2 ⟨r.val % 2048, by omega⟩ f)) b) := by
  refine Eq.trans ?_ (whirled (n := 1024) (H := 8) rfl rfl slices_S8x2048x8x128_S8x2048x8x64_0_0_0_0 slices_S8x2048x8x128_S8x2048x8x64_0_0_0_64 bcast_S1x2048x1x64_S8x2048x8x64_0_1_2_3
    (shapeCast _ P shapeCasts_S8x2048x1024_S8x2048x8x128) C S ⟨r.val / 2048, by omega⟩ ⟨r.val % 2048, by omega⟩ _ (fun b h d hb => ?_) b)
  · pointwise
  · rw [show b = ⟨h.val * 128 + d.val, by omega⟩ from Fin.ext hb]
    pointwise

theorem joined (A : FVec Ideal S16384x4096 .f32) (B C : FVec Ideal S16384x1024 .f32) (D : FVec Ideal S16384x4096 .f32) (r : Fin 16384) (n : Fin 10240) :
    @Eq EReal (truncf (F := Ideal) .bf16 (concatenate S16384x10240 1 [⟨S16384x4096, A⟩, ⟨S16384x1024, B⟩, ⟨S16384x1024, C⟩, ⟨S16384x4096, D⟩] concatenates_S16384x4096_S16384x1024_S16384x1024_S16384x4096_S16384x10240_d1) bitsLt_bf16_f32 (ix2 r n))
      (if h : n.val < 4096 then A (ix2 r ⟨n.val, h⟩) else if h1 : n.val - 4096 < 1024 then B (ix2 r ⟨n.val - 4096, h1⟩)
        else if h2 : n.val - 4096 - 1024 < 1024 then C (ix2 r ⟨n.val - 4096 - 1024, h2⟩) else D (ix2 r ⟨n.val - 4096 - 1024 - 1024, by omega⟩)) := by
  pointwise

abbrev cosA : FVec Ideal S2048x64 .f32 := Host.cos (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))
abbrev sinA : FVec Ideal S2048x64 .f32 := Host.sin (mulf (broadcastInDim S2048x64 ![0, 1] bcast_S2048x1_S2048x64_0_1 (broadcastInDim S2048x1 ![0] bcast_S2048_S2048x1_0 (sitofp .f32 (iotaInDim S2048 32 0)))) (broadcastInDim S2048x64 ![0, 1] bcast_S1x64_S2048x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))

/-- The four groups of columns of a product, joined. -/
def groups (D : FVec Ideal S8x2048x10400 .f32) (C S : FVec Ideal S2048x64 .f32) : FVec Ideal S16384x10240 .bf16 :=
  truncf .bf16 (concatenate S16384x10240 1 [⟨S16384x4096, heads32 (extractStridedSlice S8x2048x4096 ![0, 0, 0] D slices_S8x2048x10400_S8x2048x4096_0_0_0) C S⟩,
    ⟨S16384x1024, heads8 (extractStridedSlice S8x2048x1024 ![0, 0, 4096] D slices_S8x2048x10400_S8x2048x1024_0_0_4096) C S⟩,
    ⟨S16384x1024, shapeCast _ (extractStridedSlice S8x2048x1024 ![0, 0, 5120] D slices_S8x2048x10400_S8x2048x1024_0_0_5120) shapeCasts_S8x2048x1024_S16384x1024⟩,
    ⟨S16384x4096, heads32 (extractStridedSlice S8x2048x4096 ![0, 0, 6144] D slices_S8x2048x10400_S8x2048x4096_0_0_6144) C S⟩]
    concatenates_S16384x4096_S16384x1024_S16384x1024_S16384x4096_S16384x10240_d1) bitsLt_bf16_f32

/-- Turned heads in a group are the turned pair in the whole row. -/
theorem whirl_turned {n : ℕ} (hn : n % 128 = 0) (P : Fin n → EReal) (Q : Fin 10240 → EReal) (q : Fin 2048) (b : Fin n) (j : Fin 10240) (o : ℕ) (ho : o % 128 = 0) (hj : j.val = o + b.val)
    (hP : ∀ (b' : Fin n) (j' : Fin 10240), j'.val = o + b'.val → P b' = Q j') (hv : ¬(40 ≤ j.val / 128 ∧ j.val / 128 < 48)) :
    whirl hn P (fun f => FloatOps.hostUnary (F := Ideal) (φ := .f32) .cos (angle q f)) (fun f => FloatOps.hostUnary (F := Ideal) (φ := .f32) .sin (angle q f)) b
      = turned (Q j) (Q (mate rfl j)) (cosT q ⟨j.val % 128, by omega⟩) (sinT q ⟨j.val % 128, by omega⟩) (40 ≤ j.val / 128 ∧ j.val / 128 < 48) := by
  unfold whirl turned cosT sinT sin1
  rw [if_neg hv, hP b j hj, hP (mate hn b) (mate rfl j) (by
    show 128 * (j.val / 128) + (j.val % 128 + 64) % 128 = o + (128 * (b.val / 128) + (b.val % 128 + 64) % 128)
    omega)]
  have e : (⟨b.val % 64, Nat.mod_lt _ (by decide)⟩ : Fin 64) = ⟨j.val % 128 % 64, Nat.mod_lt _ (by decide)⟩ := Fin.ext (by show b.val % 64 = j.val % 128 % 64; omega)
  dsimp only
  rw [e]
  by_cases h : b.val % 128 < 64
  · rw [if_pos h, if_pos (by omega : j.val % 128 < 64), sub_eq_add_neg, mul_neg]
  · rw [if_neg h, if_neg (by omega : ¬j.val % 128 < 64)]

theorem groups_apply (D : FVec Ideal S8x2048x10400 .f32) (C S : FVec Ideal S2048x64 .f32) (r : Fin 16384) (j : Fin 10240) (Q : Fin 10240 → EReal)
    (hD : ∀ j : Fin 10240, @Eq EReal (D (ix3 ⟨r.val / 2048, by omega⟩ ⟨r.val % 2048, by omega⟩ (wide j))) (Q j))
    (hC : ∀ q f, @Eq EReal (C (ix2 q f)) (FloatOps.hostUnary (F := Ideal) (φ := .f32) .cos (angle q f))) (hS : ∀ q f, @Eq EReal (S (ix2 q f)) (FloatOps.hostUnary (F := Ideal) (φ := .f32) .sin (angle q f))) :
    @Eq EReal (groups D C S (ix2 r j)) (turned (Q j) (Q (mate rfl j)) (cosT ⟨r.val % 2048, by omega⟩ ⟨j.val % 128, by omega⟩) (sinT ⟨r.val % 2048, by omega⟩ ⟨j.val % 128, by omega⟩) (40 ≤ j.val / 128 ∧ j.val / 128 < 48)) := by
  refine (joined _ _ _ _ r j).trans ?_
  by_cases h1 : j.val < 4096
  · rw [dif_pos h1, heads32_apply]
    simp only [hC, hS]
    refine whirl_turned rfl _ Q _ _ j 0 rfl (by show j.val = 0 + j.val; omega) (fun b' j' hj' => ?_) (by omega)
    refine Eq.trans ?_ (hD j')
    pointwise
    exact congrArg (fun x => D (ix3 _ _ x)) (Fin.ext (hj'.trans (Nat.zero_add _)).symm)
  rw [dif_neg h1]
  by_cases h2 : j.val - 4096 < 1024
  · rw [dif_pos h2, heads8_apply]
    simp only [hC, hS]
    refine whirl_turned rfl _ Q _ _ j 4096 rfl (by show j.val = 4096 + (j.val - 4096); omega) (fun b' j' hj' => ?_) (by omega)
    refine Eq.trans ?_ (hD j')
    pointwise
    exact congrArg (fun x => D (ix3 _ _ x)) (Fin.ext hj'.symm)
  rw [dif_neg h2]
  by_cases h3 : j.val - 4096 - 1024 < 1024
  · rw [dif_pos h3]
    unfold turned
    rw [if_pos (by omega)]
    refine Eq.trans ?_ (hD j)
    pointwise
    exact congrArg (fun x => D (ix3 _ _ x)) (Fin.ext (by show 5120 + (j.val - 4096 - 1024) = j.val; omega))
  rw [dif_neg h3, heads32_apply]
  simp only [hC, hS]
  refine whirl_turned rfl _ Q _ _ j 6144 rfl (by show j.val = 6144 + (j.val - 4096 - 1024 - 1024); omega) (fun b' j' hj' => ?_) (by omega)
  refine Eq.trans ?_ (hD j')
  pointwise
  exact congrArg (fun x => D (ix3 _ _ x)) (Fin.ext hj'.symm)

variable (m : (ℓ : Loc nD τ sig) → Buf (Elt Ideal) ℓ) (ρ : Dev nD → PrngReg)

theorem ref_value (c : Dev nD) : Value.res_main_v129 (F := Ideal) m c = (fun i => spec (m ((c.tc : Thread nD τ).loc main_arg0)) (m ((c.tc : Thread nD τ).loc main_arg1)) (m ((c.tc : Thread nD τ).loc main_arg2)) (i 0) (i 1)) := by
  funext i
  rw [eq_ix2 i]
  refine Eq.trans (show Value.res_main_v129 (F := Ideal) m c (ix2 (i 0) (i 1)) = groups _ cosA sinA (ix2 (i 0) (i 1)) from rfl) ?_
  refine groups_apply _ _ _ (i 0) (i 1) _ (fun j => ?_) (fun q f => congrArg (FloatOps.hostUnary (F := Ideal) (φ := .f32) .cos) (angle_val q f)) (fun q f => congrArg (FloatOps.hostUnary (F := Ideal) (φ := .f32) .sin) (angle_val q f))
  exact (ref_product _ _ _ _ _).trans (Finset.sum_congr rfl fun k _ => congrArg (· * _) (ref_normed _ _ _ _ k))

/-- The reference's result and arguments after its run. -/
theorem ref_run : θ_run defs (onTc (τ := τ) (main (F := Ideal))) ⟨m, fun _ => 0, ρ⟩ (fun r => ∀ c : Dev nD,
    r.2.mem ((c.tc : Thread nD τ).loc main_v129) = (fun i => spec (m ((c.tc : Thread nD τ).loc main_arg0)) (m ((c.tc : Thread nD τ).loc main_arg1)) (m ((c.tc : Thread nD τ).loc main_arg2)) (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨(h c).1.trans (ref_value m c), (h c).2⟩) (Cert.InARefIdeal.Value.run (F := Ideal) m ρ)

end Cert.InAV
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Up.Frame
public import proofs.«01_k».proof.Proof.Gen.UpIdeal.Frame
public import proofs.«01_k».proof.Proof.Gen.UpRefIdeal.Run
public import proofs.«01_k».proof.Proof.Final
public import proofs.«01_k».proof.Proof.RefSpec
public import proofs.«01_k».proof.Proof.UpRef
public import proofs.«01_k».proof.Proof.DownRef
public import proofs.«01_k».proof.Proof.InBRef
public import proofs.«01_k».proof.Proof.ResRef
public import proofs.«01_k».proof.Proof.InARef
public import proofs.«01_k».proof.Proof.Gen.Down.Frame
public import proofs.«01_k».proof.Proof.Gen.DownIdeal.Frame
public import proofs.«01_k».proof.Proof.Gen.DownRefIdeal.Run
public import proofs.«01_k».proof.Proof.Gen.InB.Frame
public import proofs.«01_k».proof.Proof.Gen.InBIdeal.Frame
public import proofs.«01_k».proof.Proof.Gen.InBRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.InA.Frame
public import proofs.«01_k».proof.Proof.Gen.InAIdeal.Frame
public import proofs.«01_k».proof.Proof.Gen.InARefIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem fin_facts : Cert.Pre_finite.Facts := ⟨by decide, by decide⟩

/-- An extended real of smaller magnitude than `⊤` is a real. -/
theorem real_of_lt (x : EReal) (h : Ideal.cmp .olt (max x (-x)) ⊤ = 1#1) : ∃ r : ℝ, x = r := by
  have h' : max x (-x) < ⊤ := by
    have e : BitVec.ofBool (decide (max x (-x) < ⊤)) = 1#1 := h
    by_contra hn
    rw [decide_eq_false hn] at e
    exact absurd e (by decide)
  have h1 : x ≠ ⊤ := fun e => absurd h' (by rw [e]; simp)
  have h2 : x ≠ ⊥ := fun e => absurd h' (by rw [e]; simp)
  exact ⟨x.toReal, (EReal.coe_toReal h1 h2).symm⟩

theorem real0 [Cert.Pre_finite.Facts] (A0 : FVec Ideal Cert.Pre_finite.S8x2048x12288 .bf16) (A1 : FVec Ideal Cert.Pre_finite.S32x513 .f32)
    (h : (Cert.Pre_finite.fn (F := Ideal) A0 A1).1 = fun _ => 1#1) (i : Cert.Pre_finite.S8x2048x12288.Idx) : ∃ x : ℝ, A0 i = (x : EReal) := by
  refine real_of_lt _ ((?_ : _ = _).trans (congrFun h i))
  have e : (Ideal.ofBits .bf16 0x7F80#16 : EReal) = ⊤ := by simp [Ideal.ofBits, Ideal.ieee]
  rw [← e]
  rfl

theorem real1 [Cert.Pre_finite.Facts] (A0 : FVec Ideal Cert.Pre_finite.S8x2048x12288 .bf16) (A1 : FVec Ideal Cert.Pre_finite.S32x513 .f32)
    (h : (Cert.Pre_finite.fn (F := Ideal) A0 A1).2 = fun _ => 1#1) (i : Cert.Pre_finite.S32x513.Idx) : ∃ x : ℝ, A1 i = (x : EReal) := by
  refine real_of_lt _ ((?_ : _ = _).trans (congrFun h i))
  have e : (Ideal.ofBits .f32 0x7F800000#32 : EReal) = ⊤ := by simp [Ideal.ofBits, Ideal.ieee]
  rw [← e]
  rfl

theorem ref_run : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic [hP : Cert.Pre_finite.Facts] : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.Band.ref_eq m' c, (hagree c).1, (hagree c).2]
  funext i
  rw [eq_ix3 i]
  exact (Cert.Band.ref_spec _ _ (fun i => real0 _ _ (hpre c).1 i) (fun i => real1 _ _ (hpre c).2 i) (i 0) (i 1) (i 2)).trans
    (Cert.Band.kernel_spec m c (i 0) (i 1) (i 2)).symm

/-- The up product: both runs end at the same array. -/
theorem algebraic_up : algebraic_UpIdeal_UpRefIdeal := by
  intro m ρ m' ρ' _ hagree
  refine ⟨_, Cert.UpV.kernel_run m ρ, ?_⟩
  refine (θ_run Cert.UpRefIdeal.defs _ _).mono (fun _ h c => ⟨(h c).1.trans ?_, (h c).2⟩) (Cert.UpV.ref_run m' ρ')
  rw [(hagree c).1, (hagree c).2]
  rfl

theorem up_ref_run : quiescent_UpRefIdeal := fun m ρ _ =>
  (θ_run Cert.UpRefIdeal.defs _ _).mono (fun r h => ⟨fun c => (h c).2, sem_eq_zero_of_no_sems (by decide) r.2⟩) (Cert.UpV.ref_run m ρ)

/-- The down product with the residual and the norm: both runs end at the same array. -/
theorem algebraic_down : algebraic_DownIdeal_DownRefIdeal := by
  intro m ρ m' ρ' _ hagree
  refine ⟨_, Cert.DownV.kernel_run m ρ, ?_⟩
  refine (θ_run Cert.DownRefIdeal.defs _ _).mono (fun _ h c => ⟨(h c).1.trans ?_, (h c).2⟩) (Cert.DownV.ref_run m' ρ')
  rw [(hagree c).1, (hagree c).2.1, (hagree c).2.2.1, (hagree c).2.2.2]
  rfl

theorem down_ref_run : quiescent_DownRefIdeal := fun m ρ _ =>
  (θ_run Cert.DownRefIdeal.defs _ _).mono (fun r h => ⟨fun c => (h c).2, sem_eq_zero_of_no_sems (by decide) r.2⟩) (Cert.DownV.ref_run m ρ)

/-- The norm before mixer B with its projection: both runs end at the same array. -/
theorem algebraic_inb : algebraic_InBIdeal_InBRefIdeal := by
  intro m ρ m' ρ' _ hagree
  refine ⟨_, Cert.InBV.kernel_run m ρ, ?_⟩
  refine (θ_run Cert.InBRefIdeal.defs _ _).mono (fun _ h c => ⟨(h c).1.trans ?_, (h c).2⟩) (Cert.InBV.ref_run m' ρ')
  rw [(hagree c).1, (hagree c).2.1, (hagree c).2.2]
  rfl

theorem inb_ref_run : quiescent_InBRefIdeal := fun m ρ _ =>
  (θ_run Cert.InBRefIdeal.defs _ _).mono (fun r h => ⟨fun c => (h c).2, sem_eq_zero_of_no_sems (by decide) r.2⟩) (Cert.InBV.ref_run m ρ)

/-- A mixer's output product with the residual: both runs end at the same array. -/
theorem algebraic_out : algebraic_OutIdeal_OutRefIdeal := by
  intro m ρ m' ρ' _ hagree
  refine ⟨_, Cert.OutV.kernel_run m ρ, ?_⟩
  refine (θ_run Cert.OutRefIdeal.defs _ _).mono (fun _ h c => ⟨(h c).1.trans ?_, (h c).2⟩) (Cert.OutV.ref_run m' ρ')
  rw [(hagree c).1, (hagree c).2.1, (hagree c).2.2]
  rfl

theorem out_ref_run : quiescent_OutRefIdeal := fun m ρ _ =>
  (θ_run Cert.OutRefIdeal.defs _ _).mono (fun r h => ⟨fun c => (h c).2, sem_eq_zero_of_no_sems (by decide) r.2⟩) (Cert.OutV.ref_run m ρ)

/-- The norm before mixer A with its rotated projection: both runs end at the same array. -/
theorem algebraic_ina : algebraic_InAIdeal_InARefIdeal := by
  intro m ρ m' ρ' _ hagree
  refine ⟨_, Cert.InAV.kernel_run m ρ, ?_⟩
  refine (θ_run Cert.InARefIdeal.defs _ _).mono (fun _ h c => ⟨(h c).1.trans ?_, (h c).2⟩) (Cert.InAV.ref_run m' ρ')
  rw [(hagree c).1, (hagree c).2.1, (hagree c).2.2]
  rfl

theorem ina_ref_run : quiescent_InARefIdeal := fun m ρ _ =>
  (θ_run Cert.InARefIdeal.defs _ _).mono (fun r h => ⟨fun c => (h c).2, sem_eq_zero_of_no_sems (by decide) r.2⟩) (Cert.InAV.ref_run m ρ)

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.InB.Gen.facts, Cert.InBIdeal.Gen.facts, Cert.InBRefIdeal.Gen.facts,
  Cert.Out.Gen.facts, Cert.OutIdeal.Gen.facts, Cert.OutRefIdeal.Gen.facts,
  Cert.InA.Gen.facts, Cert.InAIdeal.Gen.facts, Cert.InARefIdeal.Gen.facts, fin_facts,
  fun m ρ _ => Cert.Kernel.Gen.frame m ρ, fun m ρ _ => Cert.KernelIdeal.Gen.frame m ρ, fun m ρ _ => Cert.KernelIdeal.Gen.frame m ρ, ref_run, fun m ρ _ => ref_run m ρ trivial,
  fun m ρ _ => Cert.Up.Gen.frame m ρ, fun m ρ _ => Cert.UpIdeal.Gen.frame m ρ, up_ref_run,
  fun m ρ _ => Cert.Down.Gen.frame m ρ, fun m ρ _ => Cert.DownIdeal.Gen.frame m ρ, down_ref_run,
  fun m ρ _ => Cert.InB.Gen.frame m ρ, fun m ρ _ => Cert.InBIdeal.Gen.frame m ρ, inb_ref_run,
  fun m ρ _ => Cert.Out.Gen.frame m ρ, fun m ρ _ => Cert.OutIdeal.Gen.frame m ρ, out_ref_run,
  fun m ρ _ => Cert.InA.Gen.frame m ρ, fun m ρ _ => Cert.InAIdeal.Gen.frame m ρ, ina_ref_run,
  ⟨IdealRules.named_const.statement _ _ _ _ _ rfl, IdealRules.named_const.statement _ _ _ _ _ rfl, IdealRules.named_const.statement _ _ _ _ _ rfl⟩, algebraic (hP := fin_facts), trivial, algebraic_up, trivial, algebraic_down, trivial, algebraic_inb, trivial, algebraic_out, trivial, algebraic_ina⟩

end Cert.Proof

end
